-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_integers_in_range [hPre_integers_in_range : Cert.Pre_integers_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_integers_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_integers_in_range [hPre_integers_in_range : Cert.Pre_integers_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_integers_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_integers_in_range [hKernelIdeal : Cert.KernelIdeal.Facts] [hPre_integers_in_range : Cert.Pre_integers_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_integers_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_integers_in_range [hReferenceIdeal : Cert.ReferenceIdeal.Facts] [hPre_integers_in_range : Cert.Pre_integers_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_integers_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_integers_in_range [hKernelIdeal : Cert.KernelIdeal.Facts] [hReferenceIdeal : Cert.ReferenceIdeal.Facts] [hPre_integers_in_range : Cert.Pre_integers_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_integers_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v18_0)) (v3 : (c : Dev Cert.KernelIdeal.nD) → Buf (Elt Ideal) ((c.tc : Thread Cert.KernelIdeal.nD Cert.KernelIdeal.τ).loc Cert.KernelIdeal.main_v18_1)) (v4 : (c : Dev Cert.KernelIdeal.nD) → Buf (Elt Ideal) ((c.tc : Thread Cert.KernelIdeal.nD Cert.KernelIdeal.τ).loc Cert.KernelIdeal.main_v30)) (v5 : (c : Dev Cert.KernelIdeal.nD) → Buf (Elt Ideal) ((c.tc : Thread Cert.KernelIdeal.nD Cert.KernelIdeal.τ).loc Cert.KernelIdeal.main_v31)) (v6 : (c : Dev Cert.KernelIdeal.nD) → Buf (Elt Ideal) ((c.tc : Thread Cert.KernelIdeal.nD Cert.KernelIdeal.τ).loc Cert.KernelIdeal.main_v32)) (v7 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v18_0) = v2 c
          ∧ r.2.mem ((c.tc : Thread Cert.KernelIdeal.nD Cert.KernelIdeal.τ).loc Cert.KernelIdeal.main_v18_1) = v3 c
          ∧ r.2.mem ((c.tc : Thread Cert.KernelIdeal.nD Cert.KernelIdeal.τ).loc Cert.KernelIdeal.main_v30) = v4 c
          ∧ r.2.mem ((c.tc : Thread Cert.KernelIdeal.nD Cert.KernelIdeal.τ).loc Cert.KernelIdeal.main_v31) = v5 c
          ∧ r.2.mem ((c.tc : Thread Cert.KernelIdeal.nD Cert.KernelIdeal.τ).loc Cert.KernelIdeal.main_v32) = v6 c
          ∧ r.2.mem ((c.tc : Thread Cert.KernelIdeal.nD Cert.KernelIdeal.τ).loc Cert.KernelIdeal.main_v33) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_v117_3) = v4 c
          ∧ r.2.mem ((c.tc : Thread Cert.ReferenceIdeal.nD Cert.ReferenceIdeal.τ).loc Cert.ReferenceIdeal.main_v117_5) = v5 c
          ∧ r.2.mem ((c.tc : Thread Cert.ReferenceIdeal.nD Cert.ReferenceIdeal.τ).loc Cert.ReferenceIdeal.main_v117_4) = v6 c
          ∧ r.2.mem ((c.tc : Thread Cert.ReferenceIdeal.nD Cert.ReferenceIdeal.τ).loc Cert.ReferenceIdeal.main_v117_6) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_integers_in_range : Cert.Pre_integers_in_range.Facts),
    quiescent_Kernel (hKernel := hKernel)
    ∧ quiescent_KernelIdeal (hKernelIdeal := hKernelIdeal)
    ∧ quiescent_KernelIdeal_pre_integers_in_range (hKernelIdeal := hKernelIdeal) (hPre_integers_in_range := hPre_integers_in_range)
    ∧ quiescent_ReferenceIdeal (hReferenceIdeal := hReferenceIdeal)
    ∧ quiescent_ReferenceIdeal_pre_integers_in_range (hReferenceIdeal := hReferenceIdeal) (hPre_integers_in_range := hPre_integers_in_range)
    ∧ preserves_Kernel_KernelIdeal
    ∧ algebraic_KernelIdeal_ReferenceIdeal_pre_integers_in_range (hKernelIdeal := hKernelIdeal) (hReferenceIdeal := hReferenceIdeal) (hPre_integers_in_range := hPre_integers_in_range)
-- ==== Pre_integers_in_range.lean ====
abbrev S1024x2048 : Shape := ⟨2, ![1024, 2048]⟩
abbrev S1024 : Shape := ⟨1, ![1024]⟩
abbrev S2048x2048 : Shape := ⟨2, ![2048, 2048]⟩
abbrev S2048 : Shape := ⟨1, ![2048]⟩
abbrev S2048x128 : Shape := ⟨2, ![2048, 128]⟩
abbrev S128 : Shape := ⟨1, ![128]⟩
abbrev S2048x8192 : Shape := ⟨2, ![2048, 8192]⟩
abbrev S8192 : Shape := ⟨1, ![8192]⟩
abbrev S128x32768 : Shape := ⟨2, ![128, 32768]⟩
abbrev S128x65536 : Shape := ⟨2, ![128, 65536]⟩
abbrev S_ : Shape := ⟨0, ![]⟩
abbrev S18432 : Shape := ⟨1, ![18432]⟩

class Facts : Prop where
  bcast_S_S1024 : S_.BroadcastsInDim S1024 (![] : Fin 0 → Fin S1024.rank)
  bcast_S_S8192 : S_.BroadcastsInDim S8192 (![] : Fin 0 → Fin S8192.rank)
  concatenates_S1024_S1024_S8192_S8192_S18432_d0 : Shape.Concatenates [S1024, S1024, S8192, S8192] S18432 0

variable [Facts]

def fn_part1 {F : FTy → Type} [FloatOps F] (main_arg15 : IVec S8192 32) (main_v4 : IVec S1024 1) (main_v9 : IVec S1024 1) (main_v14 : IVec S8192 1) (main_v16 : IVec S8192 1) : IVec S18432 1 :=
  let main_c_6 : IVec S_ 32 := constantI S_ 32 8#32
  let main_v17 : IVec S8192 32 := broadcastInDim S8192 ![] bcast_S_S8192 main_c_6
  let main_v18 : IVec S8192 1 := cmpi .slt main_arg15 main_v17
  let main_v19 : IVec S8192 1 := andi main_v16 main_v18
  let main_v20 : IVec S18432 1 := concatenate S18432 0 [⟨S1024, main_v4⟩, ⟨S1024, main_v9⟩, ⟨S8192, main_v14⟩, ⟨S8192, main_v19⟩] concatenates_S1024_S1024_S8192_S8192_S18432_d0
  main_v20

def fn {F : FTy → Type} [FloatOps F] (main_arg0 : FVec F S1024x2048 .f32) (main_arg1 : FVec F S1024x2048 .f32) (main_arg2 : IVec S1024 32) (main_arg3 : IVec S1024 32) (main_arg4 : FVec F S2048x2048 .f32) (main_arg5 : FVec F S2048 .f32) (main_arg6 : FVec F S2048 .f32) (main_arg7 : FVec F S2048 .f32) (main_arg8 : FVec F S2048x128 .f32) (main_arg9 : FVec F S128 .f32) (main_arg10 : FVec F S2048x8192 .f32) (main_arg11 : FVec F S8192 .f32) (main_arg12 : FVec F S128x32768 .f32) (main_arg13 : FVec F S128x65536 .f32) (main_arg14 : IVec S8192 32) (main_arg15 : IVec S8192 32) : IVec S18432 1 :=
  let main_c : IVec S_ 32 := constantI S_ 32 0#32
  let main_v0 : IVec S1024 32 := broadcastInDim S1024 ![] bcast_S_S1024 main_c
  let main_v1 : IVec S1024 1 := cmpi .sge main_arg2 main_v0
  let main_c_0 : IVec S_ 32 := constantI S_ 32 8192#32
  let main_v2 : IVec S1024 32 := broadcastInDim S1024 ![] bcast_S_S1024 main_c_0
  let main_v3 : IVec S1024 1 := cmpi .slt main_arg2 main_v2
  let main_v4 : IVec S1024 1 := andi main_v1 main_v3
  let main_c_1 : IVec S_ 32 := constantI S_ 32 0#32
  let main_v5 : IVec S1024 32 := broadcastInDim S1024 ![] bcast_S_S1024 main_c_1
  let main_v6 : IVec S1024 1 := cmpi .sge main_arg3 main_v5
  let main_c_2 : IVec S_ 32 := constantI S_ 32 8192#32
  let main_v7 : IVec S1024 32 := broadcastInDim S1024 ![] bcast_S_S1024 main_c_2
  let main_v8 : IVec S1024 1 := cmpi .slt main_arg3 main_v7
  let main_v9 : IVec S1024 1 := andi main_v6 main_v8
  let main_c_3 : IVec S_ 32 := constantI S_ 32 0#32
  let main_v10 : IVec S8192 32 := broadcastInDim S8192 ![] bcast_S_S8192 main_c_3
  let main_v11 : IVec S8192 1 := cmpi .sge main_arg14 main_v10
  let main_c_4 : IVec S_ 32 := constantI S_ 32 4#32
  let main_v12 : IVec S8192 32 := broadcastInDim S8192 ![] bcast_S_S8192 main_c_4
  let main_v13 : IVec S8192 1 := cmpi .slt main_arg14 main_v12
  let main_v14 : IVec S8192 1 := andi main_v11 main_v13
  let main_c_5 : IVec S_ 32 := constantI S_ 32 0#32
  let main_v15 : IVec S8192 32 := broadcastInDim S8192 ![] bcast_S_S8192 main_c_5
  let main_v16 : IVec S8192 1 := cmpi .sge main_arg15 main_v15
  fn_part1 (F := F) main_arg15 main_v4 main_v9 main_v14 main_v16
-- ==== Kernel.lean ====
abbrev S1024x2048 : Shape := ⟨2, ![1024, 2048]⟩
abbrev S1024 : Shape := ⟨1, ![1024]⟩
abbrev S2048x2048 : Shape := ⟨2, ![2048, 2048]⟩
abbrev S2048 : Shape := ⟨1, ![2048]⟩
abbrev S2048x128 : Shape := ⟨2, ![2048, 128]⟩
abbrev S128 : Shape := ⟨1, ![128]⟩
abbrev S2048x8192 : Shape := ⟨2, ![2048, 8192]⟩
abbrev S8192 : Shape := ⟨1, ![8192]⟩
abbrev S128x32768 : Shape := ⟨2, ![128, 32768]⟩
abbrev S128x65536 : Shape := ⟨2, ![128, 65536]⟩
abbrev S1x1024x2048 : Shape := ⟨3, ![1, 1024, 2048]⟩
abbrev S2x1024x2048 : Shape := ⟨3, ![2, 1024, 2048]⟩
abbrev S1x2048 : Shape := ⟨2, ![1, 2048]⟩
abbrev S1x128 : Shape := ⟨2, ![1, 128]⟩
abbrev S1x8192 : Shape := ⟨2, ![1, 8192]⟩
abbrev S1x1024 : Shape := ⟨2, ![1, 1024]⟩
abbrev S1024x1 : Shape := ⟨2, ![1024, 1]⟩
abbrev S8192x1 : Shape := ⟨2, ![8192, 1]⟩
abbrev S2x1024x128 : Shape := ⟨3, ![2, 1024, 128]⟩
abbrev S2048x256 : Shape := ⟨2, ![2048, 256]⟩
abbrev S1x256 : Shape := ⟨2, ![1, 256]⟩
abbrev S256x128 : Shape := ⟨2, ![256, 128]⟩
abbrev S1x1024x128 : Shape := ⟨3, ![1, 1024, 128]⟩
abbrev S1024x256 : Shape := ⟨2, ![1024, 256]⟩
abbrev S256 : Shape := ⟨1, ![256]⟩
abbrev S1024x128 : Shape := ⟨2, ![1024, 128]⟩
abbrev S1024x8192 : Shape := ⟨2, ![1024, 8192]⟩
abbrev S2048x512 : Shape := ⟨2, ![2048, 512]⟩
abbrev S1x512 : Shape := ⟨2, ![1, 512]⟩
abbrev S1024x512 : Shape := ⟨2, ![1024, 512]⟩
abbrev S2x8x1024 : Shape := ⟨3, ![2, 8, 1024]⟩
abbrev S128x1024 : Shape := ⟨2, ![128, 1024]⟩
abbrev S1x8x1024 : Shape := ⟨3, ![1, 8, 1024]⟩
abbrev S1024x1024 : Shape := ⟨2, ![1024, 1024]⟩
abbrev S128x8x1024 : Shape := ⟨3, ![128, 8, 1024]⟩
abbrev S128x1x1024 : Shape := ⟨3, ![128, 1, 1024]⟩
abbrev S1x1x1024 : Shape := ⟨3, ![1, 1, 1024]⟩
abbrev S8x1024 : Shape := ⟨2, ![8, 1024]⟩
abbrev S1024x8 : Shape := ⟨2, ![1024, 8]⟩
abbrev S_ : Shape := ⟨0, ![]⟩
abbrev S128x34944 : Shape := ⟨2, ![128, 34944]⟩
abbrev S1024x33796 : Shape := ⟨2, ![1024, 33796]⟩
abbrev S128x1152 : Shape := ⟨2, ![128, 1152]⟩
abbrev S1024x1152 : Shape := ⟨2, ![1024, 1152]⟩

abbrev nBuf : Space → Nat
  | .hbm => 59
  | .vmem => 65
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024, .i32⟩
  | .hbm, ⟨3, _⟩ => ⟨S1024, .i32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048x128, .f32⟩
  | .hbm, ⟨9, _⟩ => ⟨S128, .f32⟩
  | .hbm, ⟨10, _⟩ => ⟨S2048x8192, .f32⟩
  | .hbm, ⟨11, _⟩ => ⟨S8192, .f32⟩
  | .hbm, ⟨12, _⟩ => ⟨S128x32768, .f32⟩
  | .hbm, ⟨13, _⟩ => ⟨S128x65536, .f32⟩
  | .hbm, ⟨14, _⟩ => ⟨S8192, .i32⟩
  | .hbm, ⟨15, _⟩ => ⟨S8192, .i32⟩
  | .hbm, ⟨16, _⟩ => ⟨S1x1024x2048, .f32⟩
  | .hbm, ⟨17, _⟩ => ⟨S1x1024x2048, .f32⟩
  | .hbm, ⟨18, _⟩ => ⟨S2x1024x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x128, .f32⟩
  | .hbm, ⟨23, _⟩ => ⟨S1x8192, .f32⟩
  | .hbm, ⟨24, _⟩ => ⟨S1x1024, .i32⟩
  | .hbm, ⟨25, _⟩ => ⟨S1024x1, .i32⟩
  | .hbm, ⟨26, _⟩ => ⟨S1x1024, .i32⟩
  | .hbm, ⟨27, _⟩ => ⟨S8192x1, .i32⟩
  | .hbm, ⟨28, _⟩ => ⟨S8192x1, .i32⟩
  | .hbm, ⟨29, _⟩ => ⟨S2x1024x128, .f32⟩
  | .hbm, ⟨30, _⟩ => ⟨S1x1024x128, .f32⟩
  | .hbm, ⟨31, _⟩ => ⟨S1024x128, .f32⟩
  | .hbm, ⟨32, _⟩ => ⟨S1x1024x128, .f32⟩
  | .hbm, ⟨33, _⟩ => ⟨S1024x128, .f32⟩
  | .hbm, ⟨34, _⟩ => ⟨S1024x8192, .f32⟩
  | .hbm, ⟨35, _⟩ => ⟨S1024x8192, .f32⟩
  | .hbm, ⟨36, _⟩ => ⟨S2x8x1024, .f32⟩
  | .hbm, ⟨37, _⟩ => ⟨S1x8x1024, .f32⟩
  | .hbm, ⟨38, _⟩ => ⟨S8x1024, .f32⟩
  | .hbm, ⟨39, _⟩ => ⟨S1x8x1024, .f32⟩
  | .hbm, ⟨40, _⟩ => ⟨S8x1024, .f32⟩
  | .hbm, ⟨41, _⟩ => ⟨S8x1024, .f32⟩
  | .hbm, ⟨42, _⟩ => ⟨S1024x8, .f32⟩
  | .hbm, ⟨43, _⟩ => ⟨S1024x1, .i32⟩
  | .hbm, ⟨44, _⟩ => ⟨S1x1024, .i32⟩
  | .hbm, ⟨45, _⟩ => ⟨S1x1024, .i32⟩
  | .hbm, ⟨46, _⟩ => ⟨S1x1024, .i32⟩
  | .hbm, ⟨47, _⟩ => ⟨S1x1024, .i32⟩
  | .hbm, ⟨48, _⟩ => ⟨S8192x1, .i32⟩
  | .hbm, ⟨49, _⟩ => ⟨S8192x1, .i32⟩
  | .hbm, ⟨50, _⟩ => ⟨S_, .i32⟩
  | .hbm, ⟨51, _⟩ => ⟨S_, .f32⟩
  | .hbm, ⟨52, _⟩ => ⟨S128x34944, .f32⟩
  | .hbm, ⟨53, _⟩ => ⟨S1024x33796, .f32⟩
  | .hbm, ⟨54, _⟩ => ⟨S1024x33796, .f32⟩
  | .hbm, ⟨55, _⟩ => ⟨S128x32768, .f32⟩
  | .hbm, ⟨56, _⟩ => ⟨S128x65536, .f32⟩
  | .hbm, ⟨57, _⟩ => ⟨S8192, .i32⟩
  | .hbm, ⟨58, _⟩ => ⟨S8192, .i32⟩
  | .local _ .vmem, ⟨0, _⟩ => ⟨S1x1024x2048, .f32⟩
  | .local _ .vmem, ⟨1, _⟩ => ⟨S1x1024x2048, .f32⟩
  | .local _ .vmem, ⟨2, _⟩ => ⟨S2048x256, .f32⟩
  | .local _ .vmem, ⟨3, _⟩ => ⟨S2048x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S1x1024x128, .f32⟩
  | .local _ .vmem, ⟨14, _⟩ => ⟨S1x1024x128, .f32⟩
  | .local _ .vmem, ⟨15, _⟩ => ⟨S1024x2048, .f32⟩
  | .local _ .vmem, ⟨16, _⟩ => ⟨S1024x2048, .f32⟩
  | .local _ .vmem, ⟨17, _⟩ => ⟨S2048x512, .f32⟩
  | .local _ .vmem, ⟨18, _⟩ => ⟨S2048x512, .f32⟩
  | .local _ .vmem, ⟨19, _⟩ => ⟨S1x512, .f32⟩
  | .local _ .vmem, ⟨20, _⟩ => ⟨S1x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S128x1024, .f32⟩
  | .local _ .vmem, ⟨26, _⟩ => ⟨S128x1024, .f32⟩
  | .local _ .vmem, ⟨27, _⟩ => ⟨S1024x128, .f32⟩
  | .local _ .vmem, ⟨28, _⟩ => ⟨S1x1024, .i32⟩
  | .local _ .vmem, ⟨29, _⟩ => ⟨S1x8x1024, .f32⟩
  | .local _ .vmem, ⟨30, _⟩ => ⟨S1x8x1024, .f32⟩
  | .local _ .vmem, ⟨31, _⟩ => ⟨S1x1024, .i32⟩
  | .local _ .vmem, ⟨32, _⟩ => ⟨S1024x1, .i32⟩
  | .local _ .vmem, ⟨33, _⟩ => ⟨S8192x1, .i32⟩
  | .local _ .vmem, ⟨34, _⟩ => ⟨S8192x1, .i32⟩
  | .local _ .vmem, ⟨35, _⟩ => ⟨S1x1024, .i32⟩
  | .local _ .vmem, ⟨36, _⟩ => ⟨S1x1024, .i32⟩
  | .local _ .vmem, ⟨37, _⟩ => ⟨S1x1024, .i32⟩
  | .local _ .vmem, ⟨38, _⟩ => ⟨S1x1024, .i32⟩
  | .local _ .vmem, ⟨39, _⟩ => ⟨S8192x1, .i32⟩
  | .local _ .vmem, ⟨40, _⟩ => ⟨S8192x1, .i32⟩
  | .local _ .vmem, ⟨41, _⟩ => ⟨S128x34944, .f32⟩
  | .local _ .vmem, ⟨42, _⟩ => ⟨S1024x128, .f32⟩
  | .local _ .vmem, ⟨43, _⟩ => ⟨S1024x128, .f32⟩
  | .local _ .vmem, ⟨44, _⟩ => ⟨S1024x1, .i32⟩
  | .local _ .vmem, ⟨45, _⟩ => ⟨S1x1024, .i32⟩
  | .local _ .vmem, ⟨46, _⟩ => ⟨S1024x8, .f32⟩
  | .local _ .vmem, ⟨47, _⟩ => ⟨S1024x1024, .f32⟩
  | .local _ .vmem, ⟨48, _⟩ => ⟨S1024x1024, .f32⟩
  | .local _ .vmem, ⟨49, _⟩ => ⟨S1024x1024, .f32⟩
  | .local _ .vmem, ⟨50, _⟩ => ⟨S1024x1024, .f32⟩
  | .local _ .vmem, ⟨51, _⟩ => ⟨S128x1024, .f32⟩
  | .local _ .vmem, ⟨52, _⟩ => ⟨S128x1024, .f32⟩
  | .local _ .vmem, ⟨53, _⟩ => ⟨S1024x128, .f32⟩
  | .local _ .vmem, ⟨54, _⟩ => ⟨S1x1024, .i32⟩
  | .local _ .vmem, ⟨55, _⟩ => ⟨S1x1024, .i32⟩
  | .local _ .vmem, ⟨56, _⟩ => ⟨S128x1024, .f32⟩
  | .local _ .vmem, ⟨57, _⟩ => ⟨S128x1024, .f32⟩
  | .local _ .vmem, ⟨58, _⟩ => ⟨S128x1024, .f32⟩
  | .local _ .vmem, ⟨59, _⟩ => ⟨S128x1024, .f32⟩
  | .local _ .vmem, ⟨60, _⟩ => ⟨S1024x128, .f32⟩
  | .local _ .vmem, ⟨61, _⟩ => ⟨S1x1024, .i32⟩
  | .local _ .vmem, ⟨62, _⟩ => ⟨S1x1024, .i32⟩
  | .local _ .vmem, ⟨63, _⟩ => ⟨S128x1024, .f32⟩
  | .local _ .vmem, ⟨64, _⟩ => ⟨S128x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_v27_2 : Ref sig .tc := ⟨.hbm, 46, rfl⟩
abbrev main_v27_3 : Ref sig .tc := ⟨.hbm, 47, rfl⟩
abbrev main_v27_4 : Ref sig .tc := ⟨.hbm, 48, rfl⟩
abbrev main_v27_5 : Ref sig .tc := ⟨.hbm, 49, rfl⟩
abbrev main_c : Ref sig .tc := ⟨.hbm, 50, rfl⟩
abbrev main_call0_v0 : Ref sig .tc := ⟨.hbm, 51, rfl⟩
abbrev main_v28 : Ref sig .tc := ⟨.hbm, 52, rfl⟩
abbrev main_v29_0 : Ref sig .tc := ⟨.hbm, 53, rfl⟩
abbrev main_v29_1 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg3_1 : Ref sig .tc := ⟨.vmem, 30, rfl⟩
abbrev cc3_stg0_0 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc4_stg0_0 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg6_1 : Ref sig .tc := ⟨.vmem, 48, rfl⟩
abbrev cc4_stg7_0 : Ref sig .tc := ⟨.vmem, 49, rfl⟩
abbrev cc4_stg7_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg4_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg4_1 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc1_sem0_0 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem3_0 : DmaSem sig := 29
abbrev cc2_sem3_1 : DmaSem sig := 30
abbrev cc3_sem0_0 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc4_sem0_0 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem6_1 : DmaSem sig := 48
abbrev cc4_sem7_0 : DmaSem sig := 49
abbrev cc4_sem7_1 : DmaSem sig := 50
abbrev cc5_sem0_0 : DmaSem sig := 51
abbrev cc5_sem0_1 : DmaSem sig := 52
abbrev cc5_sem1_0 : DmaSem sig := 53
abbrev cc5_sem2_0 : DmaSem sig := 54
abbrev cc5_sem3_0 : DmaSem sig := 55
abbrev cc5_sem4_0 : DmaSem sig := 56
abbrev cc5_sem4_1 : DmaSem sig := 57
abbrev cc6_sem0_0 : DmaSem sig := 58
abbrev cc6_sem0_1 : DmaSem sig := 59
abbrev cc6_sem1_0 : DmaSem sig := 60
abbrev cc6_sem2_0 : DmaSem sig := 61
abbrev cc6_sem3_0 : DmaSem sig := 62
abbrev cc6_sem4_0 : DmaSem sig := 63
abbrev cc6_sem4_1 : DmaSem sig := 64

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v36 : BitVec 1 := Scalar.cmpi .eq arg1 c0_i32
  let v37 : BitVec 32 := Scalar.extui v36
  let c0_i32_19 : BitVec 32 := 0#32
  let v38 : BitVec 1 := Scalar.cmpi .ne v37 c0_i32_19
  v38

def k0_cond2 (i : grid0.Coords) : BitVec 1 :=
  let arg1 : BitVec 32 := BitVec.ofNat 32 (i 1).val
  let c0_i32_20 : BitVec 32 := 0#32
  let v39 : BitVec 1 := Scalar.cmpi .sgt arg1 c0_i32_20
  let v40 : BitVec 32 := Scalar.extui v39
  let c0_i32_21 : BitVec 32 := 0#32
  let v41 : BitVec 1 := Scalar.cmpi .ne v40 c0_i32_21
  v41

def k0_cond3 (i : grid0.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_22 : BitVec 32 := 0#32
  let v44 : BitVec 1 := Scalar.cmpi .ne v43 c0_i32_22
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 32], ![false, false]⟩

def k2_cond1 (i : grid2.Coords) : BitVec 1 :=
  let arg1 : BitVec 32 := BitVec.ofNat 32 (i 1).val
  let c0_i32 : BitVec 32 := 0#32
  let v21 : BitVec 1 := Scalar.cmpi .eq arg1 c0_i32
  let v22 : BitVec 32 := Scalar.extui v21
  let c0_i32_7 : BitVec 32 := 0#32
  let v23 : BitVec 1 := Scalar.cmpi .ne v22 c0_i32_7
  v23

def k2_cond2 (i : grid2.Coords) : BitVec 1 :=
  let arg1 : BitVec 32 := BitVec.ofNat 32 (i 1).val
  let c0_i32_8 : BitVec 32 := 0#32
  let v24 : BitVec 1 := Scalar.cmpi .sgt arg1 c0_i32_8
  let v25 : BitVec 32 := Scalar.extui v24
  let c0_i32_9 : BitVec 32 := 0#32
  let v26 : BitVec 1 := Scalar.cmpi .ne v25 c0_i32_9
  v26

def cc2_transform_0 (i : grid2.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S128x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x8x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1x1024 .i32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1024x1 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S8192x1 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8192x1 .i32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .i32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .i32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1024 .i32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1024 .i32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S8192x1 .i32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S8192x1 .i32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev grid4 : Pipeline.Grid := ⟨1, ![34], ![false]⟩

def k4_cond2 (i : grid4.Coords) : BitVec 1 :=
  let arg0 : BitVec 32 := BitVec.ofNat 32 (i 0).val
  let c1_i32 : BitVec 32 := 1#32
  let v9 : BitVec 1 := Scalar.cmpi .sge arg0 c1_i32
  let v10 : BitVec 32 := Scalar.extui v9
  let c0_i32_2 : BitVec 32 := 0#32
  let v11 : BitVec 1 := Scalar.cmpi .ne v10 c0_i32_2
  v11

def k4_off1 (i : grid4.Coords) : Fin 2 → Nat :=
  let c0_4 : Index := 0#32
  let arg0 : BitVec 32 := BitVec.ofNat 32 (i 0).val
  let c1024_i32_3 : BitVec 32 := 1024#32
  let v12 : BitVec 32 := Scalar.muli arg0 c1024_i32_3
  let v13 : Index := Scalar.indexCast v12
  ![0, v13.toNat]
def k4_cond1 (i : grid4.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_1 : BitVec 32 := 0#32
  let v8 : BitVec 1 := Scalar.cmpi .ne v7 c0_i32_1
  v8

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S128x34944 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1024x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1024x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1024x1 .i32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1024 .i32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1024x8 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1024x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1024x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S128x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1024 .i32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1024 .i32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S128x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![64], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 2 → Memref sig .tc .vmem S128x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1024 .i32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1024 .i32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S128x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]
-- ==== ReferenceIdeal.lean ====
abbrev S1024x2048 : Shape := ⟨2, ![1024, 2048]⟩
abbrev S1024 : Shape := ⟨1, ![1024]⟩
abbrev S2048x2048 : Shape := ⟨2, ![2048, 2048]⟩
abbrev S2048 : Shape := ⟨1, ![2048]⟩
abbrev S2048x128 : Shape := ⟨2, ![2048, 128]⟩
abbrev S128 : Shape := ⟨1, ![128]⟩
abbrev S2048x8192 : Shape := ⟨2, ![2048, 8192]⟩
abbrev S8192 : Shape := ⟨1, ![8192]⟩
abbrev S128x32768 : Shape := ⟨2, ![128, 32768]⟩
abbrev S128x65536 : Shape := ⟨2, ![128, 65536]⟩
abbrev S1x2048 : Shape := ⟨2, ![1, 2048]⟩
abbrev S_ : Shape := ⟨0, ![]⟩
abbrev S1024x128 : Shape := ⟨2, ![1024, 128]⟩
abbrev S1x128 : Shape := ⟨2, ![1, 128]⟩
abbrev S1024x1 : Shape := ⟨2, ![1024, 1]⟩
abbrev S128x8192x8 : Shape := ⟨3, ![128, 8192, 8]⟩
abbrev S128x1024x8 : Shape := ⟨3, ![128, 1024, 8]⟩
abbrev S1024x8 : Shape := ⟨2, ![1024, 8]⟩
abbrev S1024x32768 : Shape := ⟨2, ![1024, 32768]⟩
abbrev S32764 : Shape := ⟨1, ![32764]⟩
abbrev S1x32764 : Shape := ⟨2, ![1, 32764]⟩
abbrev S1024x32764 : Shape := ⟨2, ![1024, 32764]⟩
abbrev S1024x32764x1 : Shape := ⟨3, ![1024, 32764, 1]⟩
abbrev S1 : Shape := ⟨1, ![1]⟩
abbrev S1x1x1 : Shape := ⟨3, ![1, 1, 1]⟩
abbrev S128x1024 : Shape := ⟨2, ![128, 1024]⟩
abbrev S1024x1024 : Shape := ⟨2, ![1024, 1024]⟩
abbrev S1x1024 : Shape := ⟨2, ![1, 1024]⟩
abbrev S1024x33796 : Shape := ⟨2, ![1024, 33796]⟩
abbrev S1024x8192 : Shape := ⟨2, ![1024, 8192]⟩
abbrev S1x8192 : Shape := ⟨2, ![1, 8192]⟩

abbrev nBuf : Space → Nat
  | .hbm => 321
  | .vmem => 0
  | .smem => 0
  | _ => 0

abbrev hbmTy0_0 (i : Nat) : BufTy := match i % 128 with
  | 0 => ⟨S1024x2048, .f32⟩
  | 1 => ⟨S1024x2048, .f32⟩
  | 2 => ⟨S1024, .i32⟩
  | 3 => ⟨S1024, .i32⟩
  | 4 => ⟨S2048x2048, .f32⟩
  | 5 => ⟨S2048, .f32⟩
  | 6 => ⟨S2048, .f32⟩
  | 7 => ⟨S2048, .f32⟩
  | 8 => ⟨S2048x128, .f32⟩
  | 9 => ⟨S128, .f32⟩
  | 10 => ⟨S2048x8192, .f32⟩
  | 11 => ⟨S8192, .f32⟩
  | 12 => ⟨S128x32768, .f32⟩
  | 13 => ⟨S128x65536, .f32⟩
  | 14 => ⟨S8192, .i32⟩
  | 15 => ⟨S8192, .i32⟩
  | 16 => ⟨S1024x2048, .f32⟩
  | 17 => ⟨S1x2048, .f32⟩
  | 18 => ⟨S1024x2048, .f32⟩
  | 19 => ⟨S1024x2048, .f32⟩
  | 20 => ⟨S_, .f32⟩
  | 21 => ⟨S2048, .f32⟩
  | 22 => ⟨S_, .f32⟩
  | 23 => ⟨S2048, .f32⟩
  | 24 => ⟨S2048, .f32⟩
  | 25 => ⟨S_, .i32⟩
  | 26 => ⟨S_, .f32⟩
  | 27 => ⟨S2048, .f32⟩
  | 28 => ⟨S1x2048, .f32⟩
  | 29 => ⟨S_, .f32⟩
  | 30 => ⟨S1x2048, .f32⟩
  | 31 => ⟨S1x2048, .f32⟩
  | 32 => ⟨S1024x2048, .f32⟩
  | 33 => ⟨S1024x2048, .f32⟩
  | 34 => ⟨S1024x2048, .f32⟩
  | 35 => ⟨S_, .f32⟩
  | 36 => ⟨S_, .f32⟩
  | 37 => ⟨S_, .f32⟩
  | 38 => ⟨S_, .f32⟩
  | 39 => ⟨S2048, .f32⟩
  | 40 => ⟨S2048, .f32⟩
  | 41 => ⟨S2048, .f32⟩
  | 42 => ⟨S_, .f32⟩
  | 43 => ⟨S_, .i1⟩
  | 44 => ⟨S_, .f32⟩
  | 45 => ⟨S_, .f32⟩
  | 46 => ⟨S2048, .f32⟩
  | 47 => ⟨S2048, .f32⟩
  | 48 => ⟨S1x2048, .f32⟩
  | 49 => ⟨S1024x2048, .f32⟩
  | 50 => ⟨S1024x2048, .f32⟩
  | 51 => ⟨S_, .f32⟩
  | 52 => ⟨S2048, .f32⟩
  | 53 => ⟨S2048, .f32⟩
  | 54 => ⟨S2048, .f32⟩
  | 55 => ⟨S1x2048, .f32⟩
  | 56 => ⟨S1024x2048, .f32⟩
  | 57 => ⟨S1024x2048, .f32⟩
  | 58 => ⟨S1x2048, .f32⟩
  | 59 => ⟨S1024x2048, .f32⟩
  | 60 => ⟨S1024x2048, .f32⟩
  | 61 => ⟨S1x2048, .f32⟩
  | 62 => ⟨S1024x2048, .f32⟩
  | 63 => ⟨S1024x2048, .f32⟩
  | 64 => ⟨S_, .f32⟩
  | 65 => ⟨S1024x2048, .f32⟩
  | 66 => ⟨S1024x2048, .f32⟩
  | 67 => ⟨S1024x128, .f32⟩
  | 68 => ⟨S1x128, .f32⟩
  | 69 => ⟨S1024x128, .f32⟩
  | 70 => ⟨S1024x128, .f32⟩
  | 71 => ⟨S1024x128, .f32⟩
  | 72 => ⟨S_, .f32⟩
  | 73 => ⟨S1024, .f32⟩
  | 74 => ⟨S1024x1, .f32⟩
  | 75 => ⟨S1024x1, .f32⟩
  | 76 => ⟨S_, .f32⟩
  | 77 => ⟨S1024x1, .f32⟩
  | 78 => ⟨S1024x1, .f32⟩
  | 79 => ⟨S1024x128, .f32⟩
  | 80 => ⟨S1024x128, .f32⟩
  | 81 => ⟨S1024x2048, .f32⟩
  | 82 => ⟨S1x2048, .f32⟩
  | 83 => ⟨S1024x2048, .f32⟩
  | 84 => ⟨S1024x2048, .f32⟩
  | 85 => ⟨S_, .f32⟩
  | 86 => ⟨S2048, .f32⟩
  | 87 => ⟨S_, .f32⟩
  | 88 => ⟨S2048, .f32⟩
  | 89 => ⟨S2048, .f32⟩
  | 90 => ⟨S_, .i32⟩
  | 91 => ⟨S_, .f32⟩
  | 92 => ⟨S2048, .f32⟩
  | 93 => ⟨S1x2048, .f32⟩
  | 94 => ⟨S_, .f32⟩
  | 95 => ⟨S1x2048, .f32⟩
  | 96 => ⟨S1x2048, .f32⟩
  | 97 => ⟨S1024x2048, .f32⟩
  | 98 => ⟨S1024x2048, .f32⟩
  | 99 => ⟨S1024x2048, .f32⟩
  | 100 => ⟨S_, .f32⟩
  | 101 => ⟨S_, .f32⟩
  | 102 => ⟨S_, .f32⟩
  | 103 => ⟨S_, .f32⟩
  | 104 => ⟨S2048, .f32⟩
  | 105 => ⟨S2048, .f32⟩
  | 106 => ⟨S2048, .f32⟩
  | 107 => ⟨S_, .f32⟩
  | 108 => ⟨S_, .i1⟩
  | 109 => ⟨S_, .f32⟩
  | 110 => ⟨S_, .f32⟩
  | 111 => ⟨S2048, .f32⟩
  | 112 => ⟨S2048, .f32⟩
  | 113 => ⟨S1x2048, .f32⟩
  | 114 => ⟨S1024x2048, .f32⟩
  | 115 => ⟨S1024x2048, .f32⟩
  | 116 => ⟨S_, .f32⟩
  | 117 => ⟨S2048, .f32⟩
  | 118 => ⟨S2048, .f32⟩
  | 119 => ⟨S2048, .f32⟩
  | 120 => ⟨S1x2048, .f32⟩
  | 121 => ⟨S1024x2048, .f32⟩
  | 122 => ⟨S1024x2048, .f32⟩
  | 123 => ⟨S1x2048, .f32⟩
  | 124 => ⟨S1024x2048, .f32⟩
  | 125 => ⟨S1024x2048, .f32⟩
  | 126 => ⟨S1x2048, .f32⟩
  | 127 => ⟨S1024x2048, .f32⟩
  | _ => ⟨S1024x2048, .f32⟩

abbrev hbmTy0_1 (i : Nat) : BufTy := match i % 128 with
  | 0 => ⟨S1024x2048, .f32⟩
  | 1 => ⟨S_, .f32⟩
  | 2 => ⟨S1024x2048, .f32⟩
  | 3 => ⟨S1024x2048, .f32⟩
  | 4 => ⟨S1024x128, .f32⟩
  | 5 => ⟨S1x128, .f32⟩
  | 6 => ⟨S1024x128, .f32⟩
  | 7 => ⟨S1024x128, .f32⟩
  | 8 => ⟨S1024x128, .f32⟩
  | 9 => ⟨S_, .f32⟩
  | 10 => ⟨S1024, .f32⟩
  | 11 => ⟨S1024x1, .f32⟩
  | 12 => ⟨S1024x1, .f32⟩
  | 13 => ⟨S_, .f32⟩
  | 14 => ⟨S1024x1, .f32⟩
  | 15 => ⟨S1024x1, .f32⟩
  | 16 => ⟨S1024x128, .f32⟩
  | 17 => ⟨S1024x128, .f32⟩
  | 18 => ⟨S128x8192x8, .f32⟩
  | 19 => ⟨S_, .i32⟩
  | 20 => ⟨S1024, .i32⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S128x1024x8, .f32⟩
  | 28 => ⟨S1024x8, .f32⟩
  | 29 => ⟨S1024x32768, .f32⟩
  | 30 => ⟨S32764, .i32⟩
  | 31 => ⟨S1x32764, .i32⟩
  | 32 => ⟨S1x32764, .i32⟩
  | 33 => ⟨S1024x1, .i32⟩
  | 34 => ⟨S_, .i32⟩
  | 35 => ⟨S1024x1, .i32⟩
  | 36 => ⟨S1024x1, .i32⟩
  | 37 => ⟨S1024x32764, .i32⟩
  | 38 => ⟨S1024x32764, .i32⟩
  | 39 => ⟨S1024x32764, .i1⟩
  | 40 => ⟨S1024x32764, .i32⟩
  | 41 => ⟨S_, .i32⟩
  | 42 => ⟨S1024x32764, .i32⟩
  | 43 => ⟨S1024x32764, .i32⟩
  | 44 => ⟨S1024x32764, .i32⟩
  | 45 => ⟨S1024x32764, .i32⟩
  | 46 => ⟨S_, .i32⟩
  | 47 => ⟨S1024x32764, .i32⟩
  | 48 => ⟨S1024x32764, .i1⟩
  | 49 => ⟨S_, .i32⟩
  | 50 => ⟨S1024x32764, .i32⟩
  | 51 => ⟨S1024x32764, .i32⟩
  | 52 => ⟨S1024x32764, .i32⟩
  | 53 => ⟨S1024x32764x1, .i32⟩
  | 54 => ⟨S1, .i32⟩
  | 55 => ⟨S_, .i32⟩
  | 56 => ⟨S1024x32764x1, .i32⟩
  | 57 => ⟨S1024x32764x1, .i1⟩
  | 58 => ⟨S1x1x1, .i32⟩
  | 59 => ⟨S1024x32764x1, .i32⟩
  | 60 => ⟨S1024x32764x1, .i1⟩
  | 61 => ⟨S1024x32764x1, .i1⟩
  | 62 => ⟨S_, .i1⟩
  | 63 => ⟨S1024x32764, .i1⟩
  | 64 => ⟨S1024x32764, .f32⟩
  | 65 => ⟨S_, .f32⟩
  | 66 => ⟨S1024x32764, .f32⟩
  | 67 => ⟨S1024x32764, .f32⟩
  | 68 => ⟨S128x1024, .f32⟩
  | 69 => ⟨S1024x1024, .f32⟩
  | 70 => ⟨S1024x1, .i32⟩
  | 71 => ⟨S1x1024, .i32⟩
  | 72 => ⟨S1024x1024, .i32⟩
  | 73 => ⟨S1024x1024, .i32⟩
  | 74 => ⟨S1024x1024, .i1⟩
  | 75 => ⟨S1024x1024, .f32⟩
  | 76 => ⟨S1024x33796, .f32⟩
  | 77 => ⟨S_, .f32⟩
  | 78 => ⟨S1024x8, .f32⟩
  | 79 => ⟨S_, .f32⟩
  | 80 => ⟨S1024x32764, .f32⟩
  | 81 => ⟨S1024x33796, .f32⟩
  | 82 => ⟨S1024x8192, .f32⟩
  | 83 => ⟨S1x8192, .f32⟩
  | 84 => ⟨S1024x8192, .f32⟩
  | 85 => ⟨S1024x8192, .f32⟩
  | 86 => ⟨S1024x8192, .f32⟩
  | 87 => ⟨S1x8192, .f32⟩
  | 88 => ⟨S1024x8192, .f32⟩
  | 89 => ⟨S1024x8192, .f32⟩
  | 90 => ⟨S_, .i32⟩
  | 91 => ⟨S1024x128, .f32⟩
  | 92 => ⟨S1024, .i32⟩
  | 93 => ⟨S_, .i32⟩
  | 94 => ⟨S128x32768, .f32⟩
  | 95 => ⟨S8192, .i32⟩
  | 96 => ⟨S128x65536, .f32⟩
  | 97 => ⟨S8192, .i32⟩
  | 98 => ⟨S_, .i32⟩
  | 99 => ⟨S_, .i1⟩
  | 100 => ⟨S_, .i32⟩
  | 101 => ⟨S1x128, .f32⟩
  | 102 => ⟨S128, .f32⟩
  | 103 => ⟨S1, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S1, .i32⟩
  | 111 => ⟨S_, .i32⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S1, .i32⟩
  | 121 => ⟨S128x32768, .f32⟩
  | 122 => ⟨S_, .i32⟩
  | 123 => ⟨S_, .i32⟩
  | 124 => ⟨S_, .i32⟩
  | 125 => ⟨S_, .i32⟩
  | 126 => ⟨S_, .i32⟩
  | 127 => ⟨S_, .i1⟩
  | _ => ⟨S1024x2048, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i1⟩
  | 7 => ⟨S_, .i32⟩
  | 8 => ⟨S_, .i1⟩
  | 9 => ⟨S_, .i1⟩
  | 10 => ⟨S_, .i1⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S_, .i32⟩
  | 18 => ⟨S1, .i32⟩
  | 19 => ⟨S8192, .i32⟩
  | 20 => ⟨S_, .i32⟩
  | 21 => ⟨S_, .i1⟩
  | 22 => ⟨S_, .i32⟩
  | 23 => ⟨S_, .i32⟩
  | 24 => ⟨S_, .i32⟩
  | 25 => ⟨S1, .i32⟩
  | 26 => ⟨S_, .i32⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S1, .i32⟩
  | 36 => ⟨S128x65536, .f32⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i1⟩
  | 50 => ⟨S_, .i32⟩
  | 51 => ⟨S_, .i1⟩
  | 52 => ⟨S_, .i1⟩
  | 53 => ⟨S_, .i1⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S1, .i32⟩
  | 62 => ⟨S8192, .i32⟩
  | 63 => ⟨S_, .i32⟩
  | 64 => ⟨S_, .i32⟩
  | _ => ⟨S1024x2048, .f32⟩

abbrev hbmTy (i : Nat) : BufTy := match i / 128 with
  | 0 => hbmTy0_0 i
  | 1 => hbmTy0_1 i
  | 2 => hbmTy0_2 i
  | _ => ⟨S1024x2048, .f32⟩

abbrev bufTy : (tb : Table) → Fin (tcTables nBuf tb) → BufTy
  | .hbm, ⟨i, _⟩ => hbmTy i
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_cst_3 : Ref sig .tc := ⟨.hbm, 42, rfl⟩
abbrev main_call0_v12 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_1 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_call1_cst : Ref sig .tc := ⟨.hbm, 64, rfl⟩
abbrev main_call1_v0 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_2 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_3 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_4 : Ref sig .tc := ⟨.hbm, 85, rfl⟩
abbrev main_v40 : Ref sig .tc := ⟨.hbm, 86, rfl⟩
abbrev main_cst_5 : Ref sig .tc := ⟨.hbm, 87, rfl⟩
abbrev main_v41 : Ref sig .tc := ⟨.hbm, 88, rfl⟩
abbrev main_v42 : Ref sig .tc := ⟨.hbm, 89, rfl⟩
abbrev main_c_6 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_cst_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_cst_1 : Ref sig .tc := ⟨.hbm, 101, rfl⟩
abbrev main_call2_v8 : Ref sig .tc := ⟨.hbm, 102, rfl⟩
abbrev main_call2_cst_2 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_cst_3 : Ref sig .tc := ⟨.hbm, 107, rfl⟩
abbrev main_call2_v12 : Ref sig .tc := ⟨.hbm, 108, rfl⟩
abbrev main_call2_cst_4 : Ref sig .tc := ⟨.hbm, 109, rfl⟩
abbrev main_call2_call0_v0 : Ref sig .tc := ⟨.hbm, 110, rfl⟩
abbrev main_call2_call0_v1 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_cst_7 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_call3_cst : Ref sig .tc := ⟨.hbm, 129, rfl⟩
abbrev main_call3_v0 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_cst_8 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_cst_9 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_c_10 : Ref sig .tc := ⟨.hbm, 147, rfl⟩
abbrev main_v73 : Ref sig .tc := ⟨.hbm, 148, rfl⟩
abbrev main_v74 : Ref sig .tc := ⟨.hbm, 149, rfl⟩
abbrev main_c_11 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_c_12 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_c_13 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_call4_c : Ref sig .tc := ⟨.hbm, 174, rfl⟩
abbrev main_call4_v0 : Ref sig .tc := ⟨.hbm, 175, rfl⟩
abbrev main_call4_v1 : Ref sig .tc := ⟨.hbm, 176, rfl⟩
abbrev main_call4_c_0 : Ref sig .tc := ⟨.hbm, 177, rfl⟩
abbrev main_call4_v2 : Ref sig .tc := ⟨.hbm, 178, rfl⟩
abbrev main_call4_v3 : Ref sig .tc := ⟨.hbm, 179, rfl⟩
abbrev main_call4_v4 : Ref sig .tc := ⟨.hbm, 180, rfl⟩
abbrev main_call4_v5 : Ref sig .tc := ⟨.hbm, 181, rfl⟩
abbrev main_call4_c_1 : Ref sig .tc := ⟨.hbm, 182, rfl⟩
abbrev main_call4_c_2 : Ref sig .tc := ⟨.hbm, 183, rfl⟩
abbrev main_call4_v6 : Ref sig .tc := ⟨.hbm, 184, rfl⟩
abbrev main_call4_v7 : Ref sig .tc := ⟨.hbm, 185, rfl⟩
abbrev main_call4_v8 : Ref sig .tc := ⟨.hbm, 186, rfl⟩
abbrev main_call4_v9 : Ref sig .tc := ⟨.hbm, 187, rfl⟩
abbrev main_call4_v10 : Ref sig .tc := ⟨.hbm, 188, rfl⟩
abbrev main_call4_v11 : Ref sig .tc := ⟨.hbm, 189, rfl⟩
abbrev main_call4_c_3 : Ref sig .tc := ⟨.hbm, 190, rfl⟩
abbrev main_call4_v12 : Ref sig .tc := ⟨.hbm, 191, rfl⟩
abbrev main_call4_v13 : Ref sig .tc := ⟨.hbm, 192, rfl⟩
abbrev main_call4_cst : Ref sig .tc := ⟨.hbm, 193, rfl⟩
abbrev main_call4_v14 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_cst_14 : Ref sig .tc := ⟨.hbm, 205, rfl⟩
abbrev main_v106 : Ref sig .tc := ⟨.hbm, 206, rfl⟩
abbrev main_cst_15 : Ref sig .tc := ⟨.hbm, 207, rfl⟩
abbrev main_v107 : Ref sig .tc := ⟨.hbm, 208, rfl⟩
abbrev main_v108 : Ref sig .tc := ⟨.hbm, 209, rfl⟩
abbrev main_v109 : Ref sig .tc := ⟨.hbm, 210, rfl⟩
abbrev main_v110 : Ref sig .tc := ⟨.hbm, 211, rfl⟩
abbrev main_v111 : Ref sig .tc := ⟨.hbm, 212, rfl⟩
abbrev main_v112 : Ref sig .tc := ⟨.hbm, 213, rfl⟩
abbrev main_v113 : Ref sig .tc := ⟨.hbm, 214, rfl⟩
abbrev main_v114 : Ref sig .tc := ⟨.hbm, 215, rfl⟩
abbrev main_v115 : Ref sig .tc := ⟨.hbm, 216, rfl⟩
abbrev main_v116 : Ref sig .tc := ⟨.hbm, 217, rfl⟩
abbrev main_c_16 : Ref sig .tc := ⟨.hbm, 218, rfl⟩
abbrev main_v117_0 : Ref sig .tc := ⟨.hbm, 219, rfl⟩
abbrev main_v117_1 : Ref sig .tc := ⟨.hbm, 220, rfl⟩
abbrev main_v117_2 : Ref sig .tc := ⟨.hbm, 221, rfl⟩
abbrev main_v117_3 : Ref sig .tc := ⟨.hbm, 222, rfl⟩
abbrev main_v117_4 : Ref sig .tc := ⟨.hbm, 223, rfl⟩
abbrev main_v117_5 : Ref sig .tc := ⟨.hbm, 224, rfl⟩
abbrev main_v117_6 : Ref sig .tc := ⟨.hbm, 225, rfl⟩
abbrev main_while0c_c_23 : Ref sig .tc := ⟨.hbm, 226, rfl⟩
abbrev main_while0c_v118 : Ref sig .tc := ⟨.hbm, 227, rfl⟩
abbrev main_while0b_call5_c : Ref sig .tc := ⟨.hbm, 228, rfl⟩
abbrev main_while0b_call5_v0 : Ref sig .tc := ⟨.hbm, 229, rfl⟩
abbrev main_while0b_v118 : Ref sig .tc := ⟨.hbm, 230, rfl⟩
abbrev main_while0b_call6_v0 : Ref sig .tc := ⟨.hbm, 231, rfl⟩
abbrev main_while0b_v119 : Ref sig .tc := ⟨.hbm, 232, rfl⟩
abbrev main_while0b_c_23 : Ref sig .tc := ⟨.hbm, 233, rfl⟩
abbrev main_while0b_v120 : Ref sig .tc := ⟨.hbm, 234, rfl⟩
abbrev main_while0b_c_24 : Ref sig .tc := ⟨.hbm, 235, rfl⟩
abbrev main_while0b_v121 : Ref sig .tc := ⟨.hbm, 236, rfl⟩
abbrev main_while0b_v122 : Ref sig .tc := ⟨.hbm, 237, rfl⟩
abbrev main_while0b_v123 : Ref sig .tc := ⟨.hbm, 238, rfl⟩
abbrev main_while0b_v124 : Ref sig .tc := ⟨.hbm, 239, rfl⟩
abbrev main_while0b_c_25 : Ref sig .tc := ⟨.hbm, 240, rfl⟩
abbrev main_while0b_v125 : Ref sig .tc := ⟨.hbm, 241, rfl⟩
abbrev main_while0b_v126 : Ref sig .tc := ⟨.hbm, 242, rfl⟩
abbrev main_while0b_c_26 : Ref sig .tc := ⟨.hbm, 243, rfl⟩
abbrev main_while0b_v127 : Ref sig .tc := ⟨.hbm, 244, rfl⟩
abbrev main_while0b_c_27 : Ref sig .tc := ⟨.hbm, 245, rfl⟩
abbrev main_while0b_v128 : Ref sig .tc := ⟨.hbm, 246, rfl⟩
abbrev main_while0b_v129 : Ref sig .tc := ⟨.hbm, 247, rfl⟩
abbrev main_while0b_v130 : Ref sig .tc := ⟨.hbm, 248, rfl⟩
abbrev main_while0b_v131 : Ref sig .tc := ⟨.hbm, 249, rfl⟩
abbrev main_while0b_c_28 : Ref sig .tc := ⟨.hbm, 250, rfl⟩
abbrev main_while0b_v132 : Ref sig .tc := ⟨.hbm, 251, rfl⟩
abbrev main_while0b_c_29 : Ref sig .tc := ⟨.hbm, 252, rfl⟩
abbrev main_while0b_call7_v0 : Ref sig .tc := ⟨.hbm, 253, rfl⟩
abbrev main_while0b_call7_c : Ref sig .tc := ⟨.hbm, 254, rfl⟩
abbrev main_while0b_call7_v1 : Ref sig .tc := ⟨.hbm, 255, rfl⟩
abbrev main_while0b_call7_c_0 : Ref sig .tc := ⟨.hbm, 256, rfl⟩
abbrev main_while0b_call7_v2 : Ref sig .tc := ⟨.hbm, 257, rfl⟩
abbrev main_while0b_call7_v3 : Ref sig .tc := ⟨.hbm, 258, rfl⟩
abbrev main_while0b_call7_c_1 : Ref sig .tc := ⟨.hbm, 259, rfl⟩
abbrev main_while0b_call7_v4 : Ref sig .tc := ⟨.hbm, 260, rfl⟩
abbrev main_while0b_call7_c_2 : Ref sig .tc := ⟨.hbm, 261, rfl⟩
abbrev main_while0b_call7_v5 : Ref sig .tc := ⟨.hbm, 262, rfl⟩
abbrev main_while0b_call7_c_3 : Ref sig .tc := ⟨.hbm, 263, rfl⟩
abbrev main_while0b_call7_v6 : Ref sig .tc := ⟨.hbm, 264, rfl⟩
abbrev main_while0b_call7_v7 : Ref sig .tc := ⟨.hbm, 265, rfl⟩
abbrev main_while0b_call7_v8 : Ref sig .tc := ⟨.hbm, 266, rfl⟩
abbrev main_while0b_call7_v9 : Ref sig .tc := ⟨.hbm, 267, rfl⟩
abbrev main_while0b_v133 : Ref sig .tc := ⟨.hbm, 268, rfl⟩
abbrev main_while0b_c_30 : Ref sig .tc := ⟨.hbm, 269, rfl⟩
abbrev main_while0b_v134 : Ref sig .tc := ⟨.hbm, 270, rfl⟩
abbrev main_while0b_c_31 : Ref sig .tc := ⟨.hbm, 271, rfl⟩
abbrev main_while0b_v135 : Ref sig .tc := ⟨.hbm, 272, rfl⟩
abbrev main_while0b_v136 : Ref sig .tc := ⟨.hbm, 273, rfl⟩
abbrev main_while0b_v137 : Ref sig .tc := ⟨.hbm, 274, rfl⟩
abbrev main_while0b_v138 : Ref sig .tc := ⟨.hbm, 275, rfl⟩
abbrev main_while0b_c_32 : Ref sig .tc := ⟨.hbm, 276, rfl⟩
abbrev main_while0b_v139 : Ref sig .tc := ⟨.hbm, 277, rfl⟩
abbrev main_while0b_c_33 : Ref sig .tc := ⟨.hbm, 278, rfl⟩
abbrev main_while0b_v140 : Ref sig .tc := ⟨.hbm, 279, rfl⟩
abbrev main_while0b_v141 : Ref sig .tc := ⟨.hbm, 280, rfl⟩
abbrev main_while0b_v142 : Ref sig .tc := ⟨.hbm, 281, rfl⟩
abbrev main_while0b_v143 : Ref sig .tc := ⟨.hbm, 282, rfl⟩
abbrev main_while0b_c_34 : Ref sig .tc := ⟨.hbm, 283, rfl⟩
abbrev main_while0b_v144 : Ref sig .tc := ⟨.hbm, 284, rfl⟩
abbrev main_while0b_v145 : Ref sig .tc := ⟨.hbm, 285, rfl⟩
abbrev main_while0b_c_35 : Ref sig .tc := ⟨.hbm, 286, rfl⟩
abbrev main_while0b_v146 : Ref sig .tc := ⟨.hbm, 287, rfl⟩
abbrev main_while0b_c_36 : Ref sig .tc := ⟨.hbm, 288, rfl⟩
abbrev main_while0b_v147 : Ref sig .tc := ⟨.hbm, 289, rfl⟩
abbrev main_while0b_v148 : Ref sig .tc := ⟨.hbm, 290, rfl⟩
abbrev main_while0b_v149 : Ref sig .tc := ⟨.hbm, 291, rfl⟩
abbrev main_while0b_v150 : Ref sig .tc := ⟨.hbm, 292, rfl⟩
abbrev main_while0b_c_37 : Ref sig .tc := ⟨.hbm, 293, rfl⟩
abbrev main_while0b_v151 : Ref sig .tc := ⟨.hbm, 294, rfl⟩
abbrev main_while0b_c_38 : Ref sig .tc := ⟨.hbm, 295, rfl⟩
abbrev main_while0b_call8_v0 : Ref sig .tc := ⟨.hbm, 296, rfl⟩
abbrev main_while0b_call8_c : Ref sig .tc := ⟨.hbm, 297, rfl⟩
abbrev main_while0b_call8_v1 : Ref sig .tc := ⟨.hbm, 298, rfl⟩
abbrev main_while0b_call8_c_0 : Ref sig .tc := ⟨.hbm, 299, rfl⟩
abbrev main_while0b_call8_v2 : Ref sig .tc := ⟨.hbm, 300, rfl⟩
abbrev main_while0b_call8_v3 : Ref sig .tc := ⟨.hbm, 301, rfl⟩
abbrev main_while0b_call8_c_1 : Ref sig .tc := ⟨.hbm, 302, rfl⟩
abbrev main_while0b_call8_v4 : Ref sig .tc := ⟨.hbm, 303, rfl⟩
abbrev main_while0b_call8_c_2 : Ref sig .tc := ⟨.hbm, 304, rfl⟩
abbrev main_while0b_call8_v5 : Ref sig .tc := ⟨.hbm, 305, rfl⟩
abbrev main_while0b_call8_c_3 : Ref sig .tc := ⟨.hbm, 306, rfl⟩
abbrev main_while0b_call8_v6 : Ref sig .tc := ⟨.hbm, 307, rfl⟩
abbrev main_while0b_call8_v7 : Ref sig .tc := ⟨.hbm, 308, rfl⟩
abbrev main_while0b_call8_v8 : Ref sig .tc := ⟨.hbm, 309, rfl⟩
abbrev main_while0b_call8_v9 : Ref sig .tc := ⟨.hbm, 310, rfl⟩
abbrev main_while0b_v152 : Ref sig .tc := ⟨.hbm, 311, rfl⟩
abbrev main_while0b_c_39 : Ref sig .tc := ⟨.hbm, 312, rfl⟩
abbrev main_while0b_v153 : Ref sig .tc := ⟨.hbm, 313, rfl⟩
abbrev main_while0b_c_40 : Ref sig .tc := ⟨.hbm, 314, rfl⟩
abbrev main_while0b_v154 : Ref sig .tc := ⟨.hbm, 315, rfl⟩
abbrev main_while0b_v155 : Ref sig .tc := ⟨.hbm, 316, rfl⟩
abbrev main_while0b_v156 : Ref sig .tc := ⟨.hbm, 317, rfl⟩
abbrev main_while0b_v157 : Ref sig .tc := ⟨.hbm, 318, rfl⟩
abbrev main_while0b_c_41 : Ref sig .tc := ⟨.hbm, 319, rfl⟩
abbrev main_while0b_v158 : Ref sig .tc := ⟨.hbm, 320, rfl⟩

abbrev nD : Nat := 1
abbrev τ : Topo := Topo.v7x

variable {F : FTy → Type} [FloatOps F]

abbrev main_while0_count : Scf.Loop 32 := ⟨0#32, 1024#32, 1#32⟩
-- ==== Proof.Run.Region0.lean ====
/- Kernel call 0 of the program, `_mlp_body`, run once at arbitrary entry contents `V`: what its body leaves in each
   output block (in the form of the frame certificates of a single call), its proof data `dat0` and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__mlp_body` (pipeline 0), at the entry contents `V` — class R -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val % 8 :=
  (by decide +kernel : ∀ t : Fin grid0.N, cond0_1 (grid0.coords t) ↔ 1 ≤ t.val % 8)

/-- The condition of the body's `scf.if` 2 (`k0_h3`), from the grid coordinates (the skeleton's scalar
    chain substituted). -/
abbrev cond0_2 (i : grid0.Coords) : Prop := k0_cond3 i = 1#1
/-- It holds at the points ≡ 7 (mod 8) — by arithmetic of the point. -/
theorem hcond0_2 : ∀ t : Fin cfg0.N, cond0_2 (grid0.coords t) ↔ t.val % 8 = 7 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Whether output 7's buffer is FRESH at each position `1 ‥ N` — holds nothing the body stored since the region's entry or the
    last write-back (written back at the point before, or idle there and fresh before it) —, as a bitmask the classifier
    computed, bit `n` for position `n + 1`; position 0 is fresh. `freshTab0_7_step` checks it against the configuration's own
    step point by point and Lib/Pipeline/TableIdle.lean `Cfg.fresh_tab` makes it `Cfg.fresh` (`fresh0_7_eq`). -/
def freshTab0_7 : ℕ → Bool
  | 0 => true
  | n + 1 => (0x8080 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 live: the case stores into it. -/
theorem liveAt0_7_A : ∀ t : Fin cfg0.N, cond0_0 (grid0.coords t) → ¬cond0_1 (grid0.coords t) → ¬cond0_2 (grid0.coords t) → cfg0.idle 7 (grid0.coords t) = false := by decide +kernel
/-- At the points of case B the printed configuration (`Cfg.idle`) calls output 7 live: the case stores into it. -/
theorem liveAt0_7_B : ∀ t : Fin cfg0.N, ¬cond0_0 (grid0.coords t) → cond0_1 (grid0.coords t) → ¬cond0_2 (grid0.coords t) → cfg0.idle 7 (grid0.coords t) = false := by decide +kernel
/-- At the points of case B, which keeps output 7's prior contents (reads it before covering, or covers it in part), the
    window's buffer is not FRESH: something was stored into it since the region's entry or its last write-back, idle points
    between or not (Lib/Pipeline/TableIdle.lean `Cfg.fresh`, by the table `freshTab0_7`). -/
theorem notFresh0_7_B : ∀ t : Fin cfg0.N, ¬cond0_0 (grid0.coords t) → cond0_1 (grid0.coords t) → ¬cond0_2 (grid0.coords t) → cfg0.fresh 7 t.val = false := by
  intro t; rw [fresh0_7_eq t]; revert t; decide +kernel
/-- At the points of case C the printed configuration (`Cfg.idle`) calls output 7 live: the case stores into it. -/
theorem liveAt0_7_C : ∀ t : Fin cfg0.N, ¬cond0_0 (grid0.coords t) → cond0_1 (grid0.coords t) → cond0_2 (grid0.coords t) → cfg0.idle 7 (grid0.coords t) = false := by decide +kernel
/-- At the points of case C, which keeps output 7's prior contents (reads it before covering, or covers it in part), the
    window's buffer is not FRESH: something was stored into it since the region's entry or its last write-back, idle points
    between or not (Lib/Pipeline/TableIdle.lean `Cfg.fresh`, by the table `freshTab0_7`). -/
theorem notFresh0_7_C : ∀ t : Fin cfg0.N, ¬cond0_0 (grid0.coords t) → cond0_1 (grid0.coords t) → cond0_2 (grid0.coords t) → cfg0.fresh 7 t.val = false := by
  intro t; rw [fresh0_7_eq t]; revert t; decide +kernel

/-! ## The kernel body on any staging memrefs: a subtype the run finds -/

/-- One staging buffer of output window 7, through which its contents are stated (`View.read_writes_of_cover`: the
    choice does not matter). -/
abbrev VO0_7 : View sig .tc .vmem S1x1024x128 .f32 := (Memref.whole cc0_stg7_0 : Memref sig .tc .vmem S1x1024x128 .f32).view
/-- Each window's current staging memref at point `t`, spelled as the pipeline passes it (`bodyAt0`), and its wholeness. -/
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x128 .f32 := win0_7.stage (cfg0.slots t 7)
abbrev hs0_7 (t : Fin cfg0.N) : (ms0_7 t).IsWhole := hstage0_7 ((cfg0.slots t 7).cast nbuf0_7)

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0, 8), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x1024x128 .f32) (harg9 : arg9.IsWhole) (hc0 : cond0_0 i) (hc1 : ¬cond0_1 i) (hc2 : ¬cond0_2 i)
    (x0 : Vec F S1x1024x2048 .f32) (x1 : Vec F S2048x256 .f32) (x2 : Vec F S1x256 .f32) (x3 : Vec F S1x256 .f32) (x4 : Vec F S1x256 .f32) (x5 : Vec F S256x128 .f32) (x6 : Vec F S1x128 .f32) :
    { L7 : List (View.Piece (Elt F) S1x1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0__mlp_body i arg2 harg2 arg3 harg3 arg4 harg4 arg5 harg5 arg6 harg6 arg7 harg7 arg8 harg8 arg9 harg9) K } := by
  refine ⟨?_, fun E K => ?run⟩
  case run =>
    simp only [cc0__mlp_body_eq_skeleton]; unfold cc0__mlp_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

/-- Case A's pieces for output 7 tile its block (1 store of `S1x1024x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S1x1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x1024x128 .f32) (harg9 : arg9.IsWhole) (hc0 : cond0_0 i) (hc1 : ¬cond0_1 i) (hc2 : ¬cond0_2 i)
    (x0 : Vec F S1x1024x2048 .f32) (x1 : Vec F S2048x256 .f32) (x2 : Vec F S1x256 .f32) (x3 : Vec F S1x256 .f32) (x4 : Vec F S1x256 .f32) (x5 : Vec F S256x128 .f32) (x6 : Vec F S1x128 .f32) (y : S1x1024x128.Idx) :
    ∃ pc ∈ (kernelRun0_A c i arg2 harg2 arg3 harg3 arg4 harg4 arg5 harg5 arg6 harg6 arg7 harg7 arg8 harg8 arg9 harg9 hc0 hc1 hc2 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 hc0 hc1 hc2 x0 x1 x2 x3 x4 x5 x6).1 S1x1024x128.size (by sl_kernel_rfl) y

/-- What case A leaves in output 7's staging buffer: its pieces read back over junk. -/
def out0_A_7 (c : Dev nD) (i : grid0.Coords) (arg2 : Memref sig .tc .vmem S1x1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x1024x128 .f32) (harg9 : arg9.IsWhole) (hc0 : cond0_0 i) (hc1 : ¬cond0_1 i) (hc2 : ¬cond0_2 i)
    (x0 : Vec F S1x1024x2048 .f32) (x1 : Vec F S2048x256 .f32) (x2 : Vec F S1x256 .f32) (x3 : Vec F S1x256 .f32) (x4 : Vec F S1x256 .f32) (x5 : Vec F S256x128 .f32) (x6 : Vec F S1x128 .f32) : Vec F S1x1024x128 .f32 :=
  VO0_7.read (Elt F) (VO0_7.writes (Elt F) VO0_7.junk (kernelRun0_A c i arg2 harg2 arg3 harg3 arg4 harg4 arg5 harg5 arg6 harg6 arg7 harg7 arg8 harg8 arg9 harg9 hc0 hc1 hc2 x0 x1 x2 x3 x4 x5 x6).1)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 14: 12 of 16), WITH the
    proof that on whole staging memrefs — the inputs' at their contents, the outputs it reads before covering (7) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x1024x128 .f32) (harg9 : arg9.IsWhole) (hc0 : ¬cond0_0 i) (hc1 : cond0_1 i) (hc2 : ¬cond0_2 i)
    (x0 : Vec F S1x1024x2048 .f32) (x1 : Vec F S2048x256 .f32) (x2 : Vec F S1x256 .f32) (x3 : Vec F S1x256 .f32) (x4 : Vec F S1x256 .f32) (x5 : Vec F S256x128 .f32) (x6 : Vec F S1x128 .f32) (xo7 : Vec F S1x1024x128 .f32) :
    { L7 : List (View.Piece (Elt F) S1x1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0__mlp_body i arg2 harg2 arg3 harg3 arg4 harg4 arg5 harg5 arg6 harg6 arg7 harg7 arg8 harg8 arg9 harg9) K } := by
  refine ⟨?_, fun E K => ?run⟩
  case run =>
    simp only [cc0__mlp_body_eq_skeleton]; unfold cc0__mlp_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

/-- Case B's pieces for output 7 tile its block (1 store of `S1x1024x128`, checked by the kernel's evaluation: Lib/Ring.lean `Piece.tiledL`, linear in the pieces, through a loop's `@[irreducible]` trip theorem too), so they cover it. -/
theorem cover0_B_7 (c : Dev nD) (i : grid0.Coords) (arg2 : Memref sig .tc .vmem S1x1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x1024x128 .f32) (harg9 : arg9.IsWhole) (hc0 : ¬cond0_0 i) (hc1 : cond0_1 i) (hc2 : ¬cond0_2 i)
    (x0 : Vec F S1x1024x2048 .f32) (x1 : Vec F S2048x256 .f32) (x2 : Vec F S1x256 .f32) (x3 : Vec F S1x256 .f32) (x4 : Vec F S1x256 .f32) (x5 : Vec F S256x128 .f32) (x6 : Vec F S1x128 .f32) (xo7 : Vec F S1x1024x128 .f32) (y : S1x1024x128.Idx) :
    ∃ pc ∈ (kernelRun0_B c i arg2 harg2 arg3 harg3 arg4 harg4 arg5 harg5 arg6 harg6 arg7 harg7 arg8 harg8 arg9 harg9 hc0 hc1 hc2 x0 x1 x2 x3 x4 x5 x6 xo7).1, y ∈ pc.1.set :=
  View.cover_of_tiledL (kernelRun0_B c i arg2 harg2 arg3 harg3 arg4 harg4 arg5 harg5 arg6 harg6 arg7 harg7 arg8 harg8 arg9 harg9 hc0 hc1 hc2 x0 x1 x2 x3 x4 x5 x6 xo7).1 S1x1024x128.size (by sl_kernel_rfl) y

/-- What case B leaves in output 7's staging buffer: its pieces read back over junk. -/
def out0_B_7 (c : Dev nD) (i : grid0.Coords) (arg2 : Memref sig .tc .vmem S1x1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x1024x128 .f32) (harg9 : arg9.IsWhole) (hc0 : ¬cond0_0 i) (hc1 : cond0_1 i) (hc2 : ¬cond0_2 i)
    (x0 : Vec F S1x1024x2048 .f32) (x1 : Vec F S2048x256 .f32) (x2 : Vec F S1x256 .f32) (x3 : Vec F S1x256 .f32) (x4 : Vec F S1x256 .f32) (x5 : Vec F S256x128 .f32) (x6 : Vec F S1x128 .f32) (xo7 : Vec F S1x1024x128 .f32) : Vec F S1x1024x128 .f32 :=
  VO0_7.read (Elt F) (VO0_7.writes (Elt F) VO0_7.junk (kernelRun0_B c i arg2 harg2 arg3 harg3 arg4 harg4 arg5 harg5 arg6 harg6 arg7 harg7 arg8 harg8 arg9 harg9 hc0 hc1 hc2 x0 x1 x2 x3 x4 x5 x6 xo7).1)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 7, 15), WITH the
    proof that on whole staging memrefs — the inputs' at their contents, the outputs it reads before covering (7) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1x1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x1024x128 .f32) (harg9 : arg9.IsWhole) (hc0 : ¬cond0_0 i) (hc1 : cond0_1 i) (hc2 : cond0_2 i)
    (x0 : Vec F S1x1024x2048 .f32) (x1 : Vec F S2048x256 .f32) (x2 : Vec F S1x256 .f32) (x3 : Vec F S1x256 .f32) (x4 : Vec F S1x256 .f32) (x5 : Vec F S256x128 .f32) (x6 : Vec F S1x128 .f32) (xo7 : Vec F S1x1024x128 .f32) :
    { L7 : List (View.Piece (Elt F) S1x1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0__mlp_body i arg2 harg2 arg3 harg3 arg4 harg4 arg5 harg5 arg6 harg6 arg7 harg7 arg8 harg8 arg9 harg9) K } := by
  refine ⟨?_, fun E K => ?run⟩
  case run =>
    simp only [cc0__mlp_body_eq_skeleton]; unfold cc0__mlp_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

/-- Case C's pieces for output 7 tile its block (2 stores of `S1x1024x128`, checked by the kernel's evaluation: Lib/Ring.lean `Piece.tiledL`, linear in the pieces, through a loop's `@[irreducible]` trip theorem too), so they cover it. -/
theorem cover0_C_7 (c : Dev nD) (i : grid0.Coords) (arg2 : Memref sig .tc .vmem S1x1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x1024x128 .f32) (harg9 : arg9.IsWhole) (hc0 : ¬cond0_0 i) (hc1 : cond0_1 i) (hc2 : cond0_2 i)
    (x0 : Vec F S1x1024x2048 .f32) (x1 : Vec F S2048x256 .f32) (x2 : Vec F S1x256 .f32) (x3 : Vec F S1x256 .f32) (x4 : Vec F S1x256 .f32) (x5 : Vec F S256x128 .f32) (x6 : Vec F S1x128 .f32) (xo7 : Vec F S1x1024x128 .f32) (y : S1x1024x128.Idx) :
    ∃ pc ∈ (kernelRun0_C c i arg2 harg2 arg3 harg3 arg4 harg4 arg5 harg5 arg6 harg6 arg7 harg7 arg8 harg8 arg9 harg9 hc0 hc1 hc2 x0 x1 x2 x3 x4 x5 x6 xo7).1, y ∈ pc.1.set :=
  View.cover_of_tiledL (kernelRun0_C c i arg2 harg2 arg3 harg3 arg4 harg4 arg5 harg5 arg6 harg6 arg7 harg7 arg8 harg8 arg9 harg9 hc0 hc1 hc2 x0 x1 x2 x3 x4 x5 x6 xo7).1 S1x1024x128.size (by sl_kernel_rfl) y

/-- What case C leaves in output 7's staging buffer: its pieces read back over junk. -/
def out0_C_7 (c : Dev nD) (i : grid0.Coords) (arg2 : Memref sig .tc .vmem S1x1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x1024x128 .f32) (harg9 : arg9.IsWhole) (hc0 : ¬cond0_0 i) (hc1 : cond0_1 i) (hc2 : cond0_2 i)
    (x0 : Vec F S1x1024x2048 .f32) (x1 : Vec F S2048x256 .f32) (x2 : Vec F S1x256 .f32) (x3 : Vec F S1x256 .f32) (x4 : Vec F S1x256 .f32) (x5 : Vec F S256x128 .f32) (x6 : Vec F S1x128 .f32) (xo7 : Vec F S1x1024x128 .f32) : Vec F S1x1024x128 .f32 :=
  VO0_7.read (Elt F) (VO0_7.writes (Elt F) VO0_7.junk (kernelRun0_C c i arg2 harg2 arg3 harg3 arg4 harg4 arg5 harg5 arg6 harg6 arg7 harg7 arg8 harg8 arg9 harg9 hc0 hc1 hc2 x0 x1 x2 x3 x4 x5 x6 xo7).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x1024x128 .f32
  | 0, hn => out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩)
  | n + 1, hn =>
    if h0 : (n + 1) % 8 = 0 then
      if h1 : 1 ≤ (n + 1) % 8 then
        False.elim (by have hN : n + 1 < 16 := lt_of_lt_of_eq hn (show cfg0.N = 16 from N_0); omega)
      else
        if h2 : (n + 1) % 8 = 7 then
          False.elim (by have hN : n + 1 < 16 := lt_of_lt_of_eq hn (show cfg0.N = 16 from N_0); omega)
        else
          out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩)
    else
      if h1 : 1 ≤ (n + 1) % 8 then
        if h2 : (n + 1) % 8 = 7 then
          out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn))
        else
          out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn))
      else
        False.elim (by have hN : n + 1 < 16 := lt_of_lt_of_eq hn (show cfg0.N = 16 from N_0); omega)

/-- `outsAt0` at a point of case A: that case's contents. -/
theorem outsAt0_A (c : Dev nD) (t : Fin cfg0.N) (h0 : t.val % 8 = 0) (h1 : ¬1 ≤ t.val % 8) (h2 : ¬t.val % 8 = 7) :
    outsAt0 V c t.val t.isLt = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (fun h => h2 ((hcond0_2 t).mp h)) (iblk0 V c 0 t) (iblk0 V c 1 t) (iblk0 V c 2 t) (iblk0 V c 3 t) (iblk0 V c 4 t) (iblk0 V c 5 t) (iblk0 V c 6 t) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 8 = 0) (h1 : 1 ≤ t.val % 8) (h2 : ¬t.val % 8 = 7) :
    outsAt0 V c t.val t.isLt = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (fun h => h2 ((hcond0_2 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 8 = 0) (h1 : 1 ≤ t.val % 8) (h2 : t.val % 8 = 7) :
    outsAt0 V c t.val t.isLt = out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) ((hcond0_2 t).mpr h2) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- Output 7's contents CARRY through the points that leave it idle: at such a point, its buffer not fresh, the proof data's
    `after` is the point before's (the case there stores nothing into the window and its term says so; a case that stores
    into it is not idle there by `liveAt0_7_κ`) — the hypothesis of Lib/Pipeline/TableIdle.lean `Dat.before_out_traj`. -/
theorem hcarry0_7 (c : Dev nD) : ∀ (t : Fin cfg0.N) (_ : t.val ≠ 0), cfg0.idle 7 (grid0.coords t) = true → cfg0.fresh 7 t.val = false →
    (dat0 V c).after 7 t = (dat0 V c).after 7 ⟨t.val - 1, by omega⟩ := by
  intro t _ hi _
  have hN : t.val < 16 := lt_of_lt_of_eq t.isLt (show cfg0.N = 16 from N_0)
  rw [after0_7, after0_7]
  by_cases h0 : t.val % 8 = 0
  · by_cases h1 : 1 ≤ t.val % 8
    · exfalso; omega
    · by_cases h2 : t.val % 8 = 7
      · exfalso; omega
      · rw [liveAt0_7_A t ((hcond0_0 t).mpr h0) (fun h => h1 ((hcond0_1 t).mp h)) (fun h => h2 ((hcond0_2 t).mp h))] at hi
        exact absurd hi Bool.false_ne_true
  · by_cases h1 : 1 ≤ t.val % 8
    · by_cases h2 : t.val % 8 = 7
      · rw [liveAt0_7_C t (fun h => h0 ((hcond0_0 t).mp h)) ((hcond0_1 t).mpr h1) ((hcond0_2 t).mpr h2)] at hi
        exact absurd hi Bool.false_ne_true
      · rw [liveAt0_7_B t (fun h => h0 ((hcond0_0 t).mp h)) ((hcond0_1 t).mpr h1) (fun h => h2 ((hcond0_2 t).mp h))] at hi
        exact absurd hi Bool.false_ne_true
    · exfalso; omega
/-- At a point of case B output 7's current staging buffer holds what the point before left: the buffer is not fresh
    there (`notFresh0_7_B`: stored into since the region's entry or the last write-back, carried through the points that
    leave it idle by `hcarry0_7`; Lib/Pipeline/TableIdle.lean `Dat.before_out_traj`). -/
theorem before0_7_B (c : Dev nD) (t : Fin cfg0.N) (h0 : ¬t.val % 8 = 0) (h1 : 1 ≤ t.val % 8) (h2 : ¬t.val % 8 = 7) (d) :
    (dat0 V c).before 7 t d = (outsAt0 V c (t.val - 1) (Nat.lt_of_le_of_lt (Nat.sub_le _ _) t.isLt)) := by
  rw [Dat.before_out_traj _ 7 rfl (fun _ _ => rfl) (hcarry0_7 V c) t.val t rfl d,
    if_neg (by rw [notFresh0_7_B t (fun h => h0 ((hcond0_0 t).mp h)) ((hcond0_1 t).mpr h1) (fun h => h2 ((hcond0_2 t).mp h))]; exact Bool.false_ne_true)]
  dsimp only [dat0]
/-- At a point of case C output 7's current staging buffer holds what the point before left: the buffer is not fresh
    there (`notFresh0_7_C`: stored into since the region's entry or the last write-back, carried through the points that
    leave it idle by `hcarry0_7`; Lib/Pipeline/TableIdle.lean `Dat.before_out_traj`). -/
theorem before0_7_C (c : Dev nD) (t : Fin cfg0.N) (h0 : ¬t.val % 8 = 0) (h1 : 1 ≤ t.val % 8) (h2 : t.val % 8 = 7) (d) :
    (dat0 V c).before 7 t d = (outsAt0 V c (t.val - 1) (Nat.lt_of_le_of_lt (Nat.sub_le _ _) t.isLt)) := by
  rw [Dat.before_out_traj _ 7 rfl (fun _ _ => rfl) (hcarry0_7 V c) t.val t rfl d,
    if_neg (by rw [notFresh0_7_C t (fun h => h0 ((hcond0_0 t).mp h)) ((hcond0_1 t).mpr h1) ((hcond0_2 t).mpr h2)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 2400000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl]
  have hN : t.val < 16 := lt_of_lt_of_eq t.isLt (show cfg0.N = 16 from N_0)
  by_cases h0 : t.val % 8 = 0
  · by_cases h1 : 1 ≤ t.val % 8
    · exfalso; omega
    · by_cases h2 : t.val % 8 = 7
      · exfalso; omega
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [show (dat0 V c).leavesExact 2 t = owns (c : Thread nD τ) (ms0_2 t) fullShare ((dat0 V c).after 2 t) from by
      unfold Dat.leavesExact; rw [liveAt0_2 t], after0_2]
        rw [show (dat0 V c).leavesExact 3 t = owns (c : Thread nD τ) (ms0_3 t) fullShare ((dat0 V c).after 3 t) from by
      unfold Dat.leavesExact; rw [liveAt0_3 t], after0_3]
        rw [show (dat0 V c).leavesExact 4 t = owns (c : Thread nD τ) (ms0_4 t) fullShare ((dat0 V c).after 4 t) from by
      unfold Dat.leavesExact; rw [liveAt0_4 t], after0_4]
        rw [show (dat0 V c).leavesExact 5 t = owns (c : Thread nD τ) (ms0_5 t) fullShare ((dat0 V c).after 5 t) from by
      unfold Dat.leavesExact; rw [liveAt0_5 t], after0_5]
        rw [show (dat0 V c).leavesExact 6 t = owns (c : Thread nD τ) (ms0_6 t) fullShare ((dat0 V c).after 6 t) from by
      unfold Dat.leavesExact; rw [liveAt0_6 t], after0_6]
        rw [show (dat0 V c).leavesExact 7 t = owns (c : Thread nD τ) (ms0_7 t) fullShare ((dat0 V c).after 7 t) from by
      unfold Dat.leavesExact; rw [liveAt0_7_A t ((hcond0_0 t).mpr h0) (fun h => h1 ((hcond0_1 t).mp h)) (fun h => h2 ((hcond0_2 t).mp h))], after0_7]
        rw [outsAt0_A V c t h0 h1 h2]
        unfold out0_A_7
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ ((hcond0_0 t).mpr h0) (fun h => h1 ((hcond0_1 t).mp h)) (fun h => h2 ((hcond0_2 t).mp h)) (iblk0 V c 0 t) (iblk0 V c 1 t) (iblk0 V c 2 t) (iblk0 V c 3 t) (iblk0 V c 4 t) (iblk0 V c 5 t) (iblk0 V c 6 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iintro ⟨H0, H1, H2, H3, H4, H5, H6, ⟨%e7, H7⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_A_7 c _ _ _ _ _ _ _ _ _ _ _ _ _ _ _ _ _ _ _ _ _ _ _ _ _ _ _)
  · by_cases h1 : 1 ≤ t.val % 8
    · by_cases h2 : t.val % 8 = 7
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [show (dat0 V c).leavesExact 2 t = owns (c : Thread nD τ) (ms0_2 t) fullShare ((dat0 V c).after 2 t) from by
      unfold Dat.leavesExact; rw [liveAt0_2 t], after0_2]
        rw [show (dat0 V c).leavesExact 3 t = owns (c : Thread nD τ) (ms0_3 t) fullShare ((dat0 V c).after 3 t) from by
      unfold Dat.leavesExact; rw [liveAt0_3 t], after0_3]
        rw [show (dat0 V c).leavesExact 4 t = owns (c : Thread nD τ) (ms0_4 t) fullShare ((dat0 V c).after 4 t) from by
      unfold Dat.leavesExact; rw [liveAt0_4 t], after0_4]
        rw [show (dat0 V c).leavesExact 5 t = owns (c : Thread nD τ) (ms0_5 t) fullShare ((dat0 V c).after 5 t) from by
      unfold Dat.leavesExact; rw [liveAt0_5 t], after0_5]
        rw [show (dat0 V c).leavesExact 6 t = owns (c : Thread nD τ) (ms0_6 t) fullShare ((dat0 V c).after 6 t) from by
      unfold Dat.leavesExact; rw [liveAt0_6 t], after0_6]
        rw [show (dat0 V c).leavesExact 7 t = owns (c : Thread nD τ) (ms0_7 t) fullShare ((dat0 V c).after 7 t) from by
      unfold Dat.leavesExact; rw [liveAt0_7_C t (fun h => h0 ((hcond0_0 t).mp h)) ((hcond0_1 t).mpr h1) ((hcond0_2 t).mpr h2)], after0_7]
        rw [outsAt0_C V c t h0 h1 h2]
        simp only [before0_7_C V c t h0 h1 h2]
        unfold out0_C_7
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ (fun h => h0 ((hcond0_0 t).mp h)) ((hcond0_1 t).mpr h1) ((hcond0_2 t).mpr h2) (iblk0 V c 0 t) (iblk0 V c 1 t) (iblk0 V c 2 t) (iblk0 V c 3 t) (iblk0 V c 4 t) (iblk0 V c 5 t) (iblk0 V c 6 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iintro ⟨H0, H1, H2, H3, H4, H5, H6, ⟨%e7, H7⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c _ _ _ _ _ _ _ _ _ _ _ _ _ _ _ _ _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [show (dat0 V c).leavesExact 2 t = owns (c : Thread nD τ) (ms0_2 t) fullShare ((dat0 V c).after 2 t) from by
      unfold Dat.leavesExact; rw [liveAt0_2 t], after0_2]
        rw [show (dat0 V c).leavesExact 3 t = owns (c : Thread nD τ) (ms0_3 t) fullShare ((dat0 V c).after 3 t) from by
      unfold Dat.leavesExact; rw [liveAt0_3 t], after0_3]
        rw [show (dat0 V c).leavesExact 4 t = owns (c : Thread nD τ) (ms0_4 t) fullShare ((dat0 V c).after 4 t) from by
      unfold Dat.leavesExact; rw [liveAt0_4 t], after0_4]
        rw [show (dat0 V c).leavesExact 5 t = owns (c : Thread nD τ) (ms0_5 t) fullShare ((dat0 V c).after 5 t) from by
      unfold Dat.leavesExact; rw [liveAt0_5 t], after0_5]
        rw [show (dat0 V c).leavesExact 6 t = owns (c : Thread nD τ) (ms0_6 t) fullShare ((dat0 V c).after 6 t) from by
      unfold Dat.leavesExact; rw [liveAt0_6 t], after0_6]
        rw [show (dat0 V c).leavesExact 7 t = owns (c : Thread nD τ) (ms0_7 t) fullShare ((dat0 V c).after 7 t) from by
      unfold Dat.leavesExact; rw [liveAt0_7_B t (fun h => h0 ((hcond0_0 t).mp h)) ((hcond0_1 t).mpr h1) (fun h => h2 ((hcond0_2 t).mp h))], after0_7]
        rw [outsAt0_B V c t h0 h1 h2]
        simp only [before0_7_B V c t h0 h1 h2]
        unfold out0_B_7
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ (fun h => h0 ((hcond0_0 t).mp h)) ((hcond0_1 t).mpr h1) (fun h => h2 ((hcond0_2 t).mp h)) (iblk0 V c 0 t) (iblk0 V c 1 t) (iblk0 V c 2 t) (iblk0 V c 3 t) (iblk0 V c 4 t) (iblk0 V c 5 t) (iblk0 V c 6 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iintro ⟨H0, H1, H2, H3, H4, H5, H6, ⟨%e7, H7⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_B_7 c _ _ _ _ _ _ _ _ _ _ _ _ _ _ _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Run.Region1.lean ====
/- Kernel call 1 of the program, `_logits_body`, run once at arbitrary entry contents `V`: what its body leaves in each
   output block (in the form of the frame certificates of a single call), its proof data `dat1` and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__logits_body` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S2048x512 := Rect.unit (s := S2048x512) ![0, 0] S2048x512.size inb_S2048x512_S2048x512_0_0
abbrev r1_1 : Rect S1x512 := Rect.unit (s := S1x512) ![0, 0] S1x512.size inb_S1x512_S1x512_0_0
abbrev r1_2 : Rect S1024x2048 := Rect.unit (s := S1024x2048) ![0, 0] S1024x2048.size inb_S1024x2048_S1024x2048_0_0
abbrev r1_3 : Rect S1024x512 := Rect.unit (s := S1024x512) ![0, 0] S1024x512.size inb_S1024x512_S1024x512_0_0

/-! ## What the body leaves in each output window's buffer -/

/-- Window 4's staging buffer after the body, from the input windows' blocks: its 1 store as pieces, LAST
    FIRST (Lib/Pipeline/FrameBody.lean `View.canon`; the payloads are the skeleton's). -/
def out1_4 (x0 : Vec F S1024x2048 .f32) (x1 : Vec F S1024x2048 .f32) (x2 : Vec F S2048x512 .f32) (x3 : Vec F S1x512 .f32) : Vec F S1024x512 .f32 :=
  View.canon [⟨r1_3, k1_pay3 (View.ld x2 r1_0) (View.ld x3 r1_1) (View.ld x0 r1_2)⟩]

/-- Its stores tile the buffer (checked by evaluation), so they cover it. -/
theorem cover1_4 (p0 : Vec F S1024x512 .f32) (y : S1024x512.Idx) :
    ∃ pc ∈ ([⟨r1_3, p0⟩] : List (View.Piece (Elt F) S1024x512 .f32)), y ∈ pc.1.set :=
  View.cover_of_tiled [⟨r1_3, p0⟩] S1024x512.size (by rfl) y

/-- Window 5's staging buffer after the body, from the input windows' blocks: its 1 store as pieces, LAST
    FIRST (Lib/Pipeline/FrameBody.lean `View.canon`; the payloads are the skeleton's). -/
def out1_5 (x0 : Vec F S1024x2048 .f32) (x1 : Vec F S1024x2048 .f32) (x2 : Vec F S2048x512 .f32) (x3 : Vec F S1x512 .f32) : Vec F S1024x512 .f32 :=
  View.canon [⟨r1_3, k1_pay4 (View.ld x2 r1_0) (View.ld x3 r1_1) (View.ld x1 r1_2)⟩]

/-- Its stores tile the buffer (checked by evaluation), so they cover it. -/
theorem cover1_5 (p0 : Vec F S1024x512 .f32) (y : S1024x512.Idx) :
    ∃ pc ∈ ([⟨r1_3, p0⟩] : List (View.Piece (Elt F) S1024x512 .f32)), y ∈ pc.1.set :=
  View.cover_of_tiled [⟨r1_3, p0⟩] S1024x512.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S1024x2048 .f32) (harg1 : arg1.IsWhole) (arg2 : Memref sig .tc .vmem S1024x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole)
    (x0 : Vec F S1024x2048 .f32) (x1 : Vec F S1024x2048 .f32) (x2 : Vec F S2048x512 .f32) (x3 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3) ∗ owns (c : Thread nD τ) arg6 fullShare (out1_5 x0 x1 x2 x3)) -∗ K ⟨⟩))
      ⊢ wp frame (wpE (defs₀ (F := F)) Variants.none c none) E (cc1__logits_body i arg1 harg1 arg2 harg2 arg3 harg3 arg4 harg4 arg5 harg5 arg6 harg6) K := by
  simp only [cc1__logits_body_eq_skeleton]; unfold cc1__logits_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Run.Region2.lean ====
/- Kernel call 2 of the program, `_poslist_body`, run once at arbitrary entry contents `V`: what its body leaves in each
   output block (in the form of the frame certificates of a single call), its proof data `dat2` and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2__poslist_body` (pipeline 2), at the entry contents `V` — class R -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := k2_cond1 i = 1#1
/-- It holds at the points ≡ 0 (mod 32) — by arithmetic of the point. -/
theorem hcond2_0 : ∀ t : Fin cfg2.N, cond2_0 (grid2.coords t) ↔ t.val % 32 = 0 :=
  (fun t => by
    have ht : t.val < 64 := Nat.lt_of_lt_of_eq t.isLt N_2
    have e0 : (grid2.coords t 0).val = t.val / 32 % 2 := Pipeline.Grid.coords_val t 0 (by decide) rfl
    have e1 : (grid2.coords t 1).val = t.val / 1 % 32 := Pipeline.Grid.coords_val t 1 (by decide) rfl
    simp only [cond2_0, k2_cond1, e0, e1]
    word_cmp
   : ∀ t : Fin grid2.N, cond2_0 (grid2.coords t) ↔ t.val % 32 = 0)

/-- The condition of the body's `scf.if` 1 (`k2_h2`), from the grid coordinates (the skeleton's scalar
    chain substituted). -/
abbrev cond2_1 (i : grid2.Coords) : Prop := k2_cond2 i = 1#1
/-- It holds at the points whose coordinates have 1 ≤ i1 — decided over the grid. -/
theorem hcond2_1 : ∀ t : Fin cfg2.N, cond2_1 (grid2.coords t) ↔ 1 ≤ t.val % 32 :=
  (by decide +kernel : ∀ t : Fin grid2.N, cond2_1 (grid2.coords t) ↔ 1 ≤ t.val % 32)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an input). -/
theorem liveAt2_2 : ∀ t : Fin cfg2.N, cfg2.idle 2 (grid2.coords t) = false := fun _ => rfl
/-- Whether output 3's buffer is FRESH at each position `1 ‥ N` — holds nothing the body stored since the region's entry or the
    last write-back (written back at the point before, or idle there and fresh before it) —, as a bitmask the classifier
    computed, bit `n` for position `n + 1`; position 0 is fresh. `freshTab2_3_step` checks it against the configuration's own
    step point by point and Lib/Pipeline/TableIdle.lean `Cfg.fresh_tab` makes it `Cfg.fresh` (`fresh2_3_eq`). -/
def freshTab2_3 : ℕ → Bool
  | 0 => true
  | n + 1 => (0x8000000080000000 : ℕ).testBit n
theorem freshTab2_3_step : ∀ t : Fin cfg2.N,
    freshTab2_3 (t.val + 1) = ((cfg2.win 3).flush t || (cfg2.idle 3 (cfg2.grid.coords t) && freshTab2_3 t.val)) := by decide +kernel
theorem fresh2_3_eq (t : Fin cfg2.N) : cfg2.fresh 3 t.val = freshTab2_3 t.val :=
  Pipeline.Cfg.fresh_tab cfg2 3 freshTab2_3 rfl freshTab2_3_step t.val (Nat.le_of_lt t.isLt)
/-- At the points of case A the printed configuration (`Cfg.idle`) calls output 3 live: the case stores into it. -/
theorem liveAt2_3_A : ∀ t : Fin cfg2.N, cond2_0 (grid2.coords t) → ¬cond2_1 (grid2.coords t) → cfg2.idle 3 (grid2.coords t) = false := by decide +kernel
/-- At the points of case B the printed configuration (`Cfg.idle`) calls output 3 live: the case stores into it. -/
theorem liveAt2_3_B : ∀ t : Fin cfg2.N, ¬cond2_0 (grid2.coords t) → cond2_1 (grid2.coords t) → cfg2.idle 3 (grid2.coords t) = false := by decide +kernel
/-- At the points of case B, which keeps output 3's prior contents (reads it before covering, or covers it in part), the
    window's buffer is not FRESH: something was stored into it since the region's entry or its last write-back, idle points
    between or not (Lib/Pipeline/TableIdle.lean `Cfg.fresh`, by the table `freshTab2_3`). -/
theorem notFresh2_3_B : ∀ t : Fin cfg2.N, ¬cond2_0 (grid2.coords t) → cond2_1 (grid2.coords t) → cfg2.fresh 3 t.val = false := by
  intro t; rw [fresh2_3_eq t]; revert t; decide +kernel

/-! ## The kernel body on any staging memrefs: a subtype the run finds -/

/-- One staging buffer of output window 3, through which its contents are stated (`View.read_writes_of_cover`: the
    choice does not matter). -/
abbrev VO2_3 : View sig .tc .vmem S1x8x1024 .f32 := (Memref.whole cc2_stg3_0 : Memref sig .tc .vmem S1x8x1024 .f32).view
/-- Each window's current staging memref at point `t`, spelled as the pipeline passes it (`bodyAt2`), and its wholeness. -/
abbrev ms2_0 (t : Fin cfg2.N) : Memref sig .tc .vmem S128x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x8x1024 .f32 := win2_3.stage (cfg2.slots t 3)
abbrev hs2_3 (t : Fin cfg2.N) : (ms2_3 t).IsWhole := hstage2_3 ((cfg2.slots t 3).cast nbuf2_3)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 32), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg2 : Memref sig .tc .vmem S128x1024 .f32) (harg2 : arg2.IsWhole) (arg3 : Memref sig .tc .vmem S1024x128 .f32) (harg3 : arg3.IsWhole) (arg4 : Memref sig .tc .vmem S1x1024 .i32) (harg4 : arg4.IsWhole) (arg5 : Memref sig .tc .vmem S1x8x1024 .f32) (harg5 : arg5.IsWhole) (hc0 : cond2_0 i) (hc1 : ¬cond2_1 i)
    (x0 : Vec F S128x1024 .f32) (x1 : Vec F S1024x128 .f32) (x2 : Vec F S1x1024 .i32) :
    { L3 : List (View.Piece (Elt F) S1x8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__poslist_body i arg2 harg2 arg3 harg3 arg4 harg4 arg5 harg5) K } := by
  refine ⟨?_, fun E K => ?run⟩
  case run =>
    simp only [cc2__poslist_body_eq_skeleton]; unfold cc2__poslist_body_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- Case A's pieces for output 3 tile its block (1 store of `S1x8x1024`, checked by the kernel's evaluation: Lib/Ring.lean `Piece.tiledL`, linear in the pieces, through a loop's `@[irreducible]` trip theorem too), so they cover it. -/
theorem cover2_A_3 (c : Dev nD) (i : grid2.Coords) (arg2 : Memref sig .tc .vmem S128x1024 .f32) (harg2 : arg2.IsWhole) (arg3 : Memref sig .tc .vmem S1024x128 .f32) (harg3 : arg3.IsWhole) (arg4 : Memref sig .tc .vmem S1x1024 .i32) (harg4 : arg4.IsWhole) (arg5 : Memref sig .tc .vmem S1x8x1024 .f32) (harg5 : arg5.IsWhole) (hc0 : cond2_0 i) (hc1 : ¬cond2_1 i)
    (x0 : Vec F S128x1024 .f32) (x1 : Vec F S1024x128 .f32) (x2 : Vec F S1x1024 .i32) (y : S1x8x1024.Idx) :
    ∃ pc ∈ (kernelRun2_A c i arg2 harg2 arg3 harg3 arg4 harg4 arg5 harg5 hc0 hc1 x0 x1 x2).1, y ∈ pc.1.set :=
  View.cover_of_tiledL (kernelRun2_A c i arg2 harg2 arg3 harg3 arg4 harg4 arg5 harg5 hc0 hc1 x0 x1 x2).1 S1x8x1024.size (by sl_kernel_rfl) y

/-- What case A leaves in output 3's staging buffer: its pieces read back over junk. -/
def out2_A_3 (c : Dev nD) (i : grid2.Coords) (arg2 : Memref sig .tc .vmem S128x1024 .f32) (harg2 : arg2.IsWhole) (arg3 : Memref sig .tc .vmem S1024x128 .f32) (harg3 : arg3.IsWhole) (arg4 : Memref sig .tc .vmem S1x1024 .i32) (harg4 : arg4.IsWhole) (arg5 : Memref sig .tc .vmem S1x8x1024 .f32) (harg5 : arg5.IsWhole) (hc0 : cond2_0 i) (hc1 : ¬cond2_1 i)
    (x0 : Vec F S128x1024 .f32) (x1 : Vec F S1024x128 .f32) (x2 : Vec F S1x1024 .i32) : Vec F S1x8x1024 .f32 :=
  VO2_3.read (Elt F) (VO2_3.writes (Elt F) VO2_3.junk (kernelRun2_A c i arg2 harg2 arg3 harg3 arg4 harg4 arg5 harg5 hc0 hc1 x0 x1 x2).1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 63: 62 of 64), WITH the
    proof that on whole staging memrefs — the inputs' at their contents, the outputs it reads before covering (3) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg2 : Memref sig .tc .vmem S128x1024 .f32) (harg2 : arg2.IsWhole) (arg3 : Memref sig .tc .vmem S1024x128 .f32) (harg3 : arg3.IsWhole) (arg4 : Memref sig .tc .vmem S1x1024 .i32) (harg4 : arg4.IsWhole) (arg5 : Memref sig .tc .vmem S1x8x1024 .f32) (harg5 : arg5.IsWhole) (hc0 : ¬cond2_0 i) (hc1 : cond2_1 i)
    (x0 : Vec F S128x1024 .f32) (x1 : Vec F S1024x128 .f32) (x2 : Vec F S1x1024 .i32) (xo3 : Vec F S1x8x1024 .f32) :
    { L3 : List (View.Piece (Elt F) S1x8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__poslist_body i arg2 harg2 arg3 harg3 arg4 harg4 arg5 harg5) K } := by
  refine ⟨?_, fun E K => ?run⟩
  case run =>
    simp only [cc2__poslist_body_eq_skeleton]; unfold cc2__poslist_body_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- Case B's pieces for output 3 tile its block (1 store of `S1x8x1024`, checked by the kernel's evaluation: Lib/Ring.lean `Piece.tiledL`, linear in the pieces, through a loop's `@[irreducible]` trip theorem too), so they cover it. -/
theorem cover2_B_3 (c : Dev nD) (i : grid2.Coords) (arg2 : Memref sig .tc .vmem S128x1024 .f32) (harg2 : arg2.IsWhole) (arg3 : Memref sig .tc .vmem S1024x128 .f32) (harg3 : arg3.IsWhole) (arg4 : Memref sig .tc .vmem S1x1024 .i32) (harg4 : arg4.IsWhole) (arg5 : Memref sig .tc .vmem S1x8x1024 .f32) (harg5 : arg5.IsWhole) (hc0 : ¬cond2_0 i) (hc1 : cond2_1 i)
    (x0 : Vec F S128x1024 .f32) (x1 : Vec F S1024x128 .f32) (x2 : Vec F S1x1024 .i32) (xo3 : Vec F S1x8x1024 .f32) (y : S1x8x1024.Idx) :
    ∃ pc ∈ (kernelRun2_B c i arg2 harg2 arg3 harg3 arg4 harg4 arg5 harg5 hc0 hc1 x0 x1 x2 xo3).1, y ∈ pc.1.set :=
  View.cover_of_tiledL (kernelRun2_B c i arg2 harg2 arg3 harg3 arg4 harg4 arg5 harg5 hc0 hc1 x0 x1 x2 xo3).1 S1x8x1024.size (by sl_kernel_rfl) y

/-- What case B leaves in output 3's staging buffer: its pieces read back over junk. -/
def out2_B_3 (c : Dev nD) (i : grid2.Coords) (arg2 : Memref sig .tc .vmem S128x1024 .f32) (harg2 : arg2.IsWhole) (arg3 : Memref sig .tc .vmem S1024x128 .f32) (harg3 : arg3.IsWhole) (arg4 : Memref sig .tc .vmem S1x1024 .i32) (harg4 : arg4.IsWhole) (arg5 : Memref sig .tc .vmem S1x8x1024 .f32) (harg5 : arg5.IsWhole) (hc0 : ¬cond2_0 i) (hc1 : cond2_1 i)
    (x0 : Vec F S128x1024 .f32) (x1 : Vec F S1024x128 .f32) (x2 : Vec F S1x1024 .i32) (xo3 : Vec F S1x8x1024 .f32) : Vec F S1x8x1024 .f32 :=
  VO2_3.read (Elt F) (VO2_3.writes (Elt F) VO2_3.junk (kernelRun2_B c i arg2 harg2 arg3 harg3 arg4 harg4 arg5 harg5 hc0 hc1 x0 x1 x2 xo3).1)

/-! ## What the outputs hold after each point -/

/-- THE ACCUMULATION. What the outputs' staging buffers hold after the body at position `n`:
    the case the closed forms select at `n`, run at the point's memrefs and input blocks, an output it reads before covering
    at what this leaves at `n - 1` (its buffer is not written back between: `before2_W_κ`); an output it leaves idle whose contents another case keeps stays
    what this leaves at `n - 1`, carried. An assignment of the conditions no point meets is no case (`False.elim`). -/
def outsAt2 (c : Dev nD) : (n : ℕ) → n < cfg2.N → Vec F S1x8x1024 .f32
  | 0, hn => out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)
  | n + 1, hn =>
    if h0 : (n + 1) % 32 = 0 then
      if h1 : 1 ≤ (n + 1) % 32 then
        False.elim (by have hN : n + 1 < 64 := lt_of_lt_of_eq hn (show cfg2.N = 64 from N_2); omega)
      else
        out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩)
    else
      if h1 : 1 ≤ (n + 1) % 32 then
        out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn))
      else
        False.elim (by have hN : n + 1 < 64 := lt_of_lt_of_eq hn (show cfg2.N = 64 from N_2); omega)

/-- `outsAt2` at a point of case A: that case's contents. -/
theorem outsAt2_A (c : Dev nD) (t : Fin cfg2.N) (h0 : t.val % 32 = 0) (h1 : ¬1 ≤ t.val % 32) :
    outsAt2 V c t.val t.isLt = out2_A_3 c (grid2.coords t) (ms2_0 t) (hs2_0 t) (ms2_1 t) (hs2_1 t) (ms2_2 t) (hs2_2 t) (ms2_3 t) (hs2_3 t) ((hcond2_0 t).mpr h0) (fun h => h1 ((hcond2_1 t).mp h)) (iblk2 V c 0 t) (iblk2 V c 1 t) (iblk2 V c 2 t) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 32 = 0) (h1 : 1 ≤ t.val % 32) :
    outsAt2 V c t.val t.isLt = out2_B_3 c (grid2.coords t) (ms2_0 t) (hs2_0 t) (ms2_1 t) (hs2_1 t) (ms2_2 t) (hs2_2 t) (ms2_3 t) (hs2_3 t) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- Output 3's contents CARRY through the points that leave it idle: at such a point, its buffer not fresh, the proof data's
    `after` is the point before's (the case there stores nothing into the window and its term says so; a case that stores
    into it is not idle there by `liveAt2_3_κ`) — the hypothesis of Lib/Pipeline/TableIdle.lean `Dat.before_out_traj`. -/
theorem hcarry2_3 (c : Dev nD) : ∀ (t : Fin cfg2.N) (_ : t.val ≠ 0), cfg2.idle 3 (grid2.coords t) = true → cfg2.fresh 3 t.val = false →
    (dat2 V c).after 3 t = (dat2 V c).after 3 ⟨t.val - 1, by omega⟩ := by
  intro t _ hi _
  have hN : t.val < 64 := lt_of_lt_of_eq t.isLt (show cfg2.N = 64 from N_2)
  rw [after2_3, after2_3]
  by_cases h0 : t.val % 32 = 0
  · by_cases h1 : 1 ≤ t.val % 32
    · exfalso; omega
    · rw [liveAt2_3_A t ((hcond2_0 t).mpr h0) (fun h => h1 ((hcond2_1 t).mp h))] at hi
      exact absurd hi Bool.false_ne_true
  · by_cases h1 : 1 ≤ t.val % 32
    · rw [liveAt2_3_B t (fun h => h0 ((hcond2_0 t).mp h)) ((hcond2_1 t).mpr h1)] at hi
      exact absurd hi Bool.false_ne_true
    · exfalso; omega
/-- At a point of case B output 3's current staging buffer holds what the point before left: the buffer is not fresh
    there (`notFresh2_3_B`: stored into since the region's entry or the last write-back, carried through the points that
    leave it idle by `hcarry2_3`; Lib/Pipeline/TableIdle.lean `Dat.before_out_traj`). -/
theorem before2_3_B (c : Dev nD) (t : Fin cfg2.N) (h0 : ¬t.val % 32 = 0) (h1 : 1 ≤ t.val % 32) (d) :
    (dat2 V c).before 3 t d = (outsAt2 V c (t.val - 1) (Nat.lt_of_le_of_lt (Nat.sub_le _ _) t.isLt)) := by
  rw [Dat.before_out_traj _ 3 rfl (fun _ _ => rfl) (hcarry2_3 V c) t.val t rfl d,
    if_neg (by rw [notFresh2_3_B t (fun h => h0 ((hcond2_0 t).mp h)) ((hcond2_1 t).mpr h1)]; exact Bool.false_ne_true)]
  dsimp only [dat2]

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 800000 in
/-- The body at any point: the inputs' memrefs hold their blocks (`before2_W`); the closed forms say which case the point is in (`by_cases`), an output the case reads before covering holds what the point before left (`before2_W_κ`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl]
  have hN : t.val < 64 := lt_of_lt_of_eq t.isLt (show cfg2.N = 64 from N_2)
  by_cases h0 : t.val % 32 = 0
  · by_cases h1 : 1 ≤ t.val % 32
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3_A t ((hcond2_0 t).mpr h0) (fun h => h1 ((hcond2_1 t).mp h))], after2_3]
      rw [outsAt2_A V c t h0 h1]
      unfold out2_A_3
      iintro ⟨HΦ, Ho, ⟨%d0, H0⟩, ⟨%d1, H1⟩, ⟨%d2, H2⟩, ⟨%d3, H3⟩⟩
      iapply ((kernelRun2_A c (grid2.coords t) _ _ _ _ _ _ _ _ ((hcond2_0 t).mpr h0) (fun h => h1 ((hcond2_1 t).mp h)) (iblk2 V c 0 t) (iblk2 V c 1 t) (iblk2 V c 2 t)).2 Set.univ _)
      isplitl [H0]; · iexact H0
      isplitl [H1]; · iexact H1
      isplitl [H2]; · iexact H2
      isplitl [H3]; · iexists _; iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_A_3 c _ _ _ _ _ _ _ _ _ _ _ _ _ _)
  · by_cases h1 : 1 ≤ t.val % 32
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3_B t (fun h => h0 ((hcond2_0 t).mp h)) ((hcond2_1 t).mpr h1)], after2_3]
      rw [outsAt2_B V c t h0 h1]
      simp only [before2_3_B V c t h0 h1]
      unfold out2_B_3
      iintro ⟨HΦ, Ho, ⟨%d0, H0⟩, ⟨%d1, H1⟩, ⟨%d2, H2⟩, ⟨%d3, H3⟩⟩
      iapply ((kernelRun2_B c (grid2.coords t) _ _ _ _ _ _ _ _ (fun h => h0 ((hcond2_0 t).mp h)) ((hcond2_1 t).mpr h1) (iblk2 V c 0 t) (iblk2 V c 1 t) (iblk2 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_B_3 c _ _ _ _ _ _ _ _ _ _ _ _ _ _ _)
    · exfalso; omega

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.Run.Region3.lean ====
/- Kernel call 3 of the program, `_prep_body`, run once at arbitrary entry contents `V`: what its body leaves in each
   output block (in the form of the frame certificates of a single call), its proof data `dat3` and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3__prep_body` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S1x1024 := Rect.unit (s := S1x1024) ![0, 0] S1x1024.size inb_S1x1024_S1x1024_0_0
abbrev r3_1 : Rect S1024x1 := Rect.unit (s := S1024x1) ![0, 0] S1024x1.size inb_S1024x1_S1024x1_0_0
abbrev r3_2 : Rect S8192x1 := Rect.unit (s := S8192x1) ![0, 0] S1024x1.size inb_S8192x1_S1024x1_0_0
abbrev r3_3 : Rect S8192x1 := Rect.unit (s := S8192x1) ![1024, 0] S1024x1.size inb_S8192x1_S1024x1_1024_0
abbrev r3_4 : Rect S8192x1 := Rect.unit (s := S8192x1) ![2048, 0] S1024x1.size inb_S8192x1_S1024x1_2048_0
abbrev r3_5 : Rect S8192x1 := Rect.unit (s := S8192x1) ![3072, 0] S1024x1.size inb_S8192x1_S1024x1_3072_0
abbrev r3_6 : Rect S8192x1 := Rect.unit (s := S8192x1) ![4096, 0] S1024x1.size inb_S8192x1_S1024x1_4096_0
abbrev r3_7 : Rect S8192x1 := Rect.unit (s := S8192x1) ![5120, 0] S1024x1.size inb_S8192x1_S1024x1_5120_0
abbrev r3_8 : Rect S8192x1 := Rect.unit (s := S8192x1) ![6144, 0] S1024x1.size inb_S8192x1_S1024x1_6144_0
abbrev r3_9 : Rect S8192x1 := Rect.unit (s := S8192x1) ![7168, 0] S1024x1.size inb_S8192x1_S1024x1_7168_0

/-! ## What the body leaves in each output window's buffer -/

/-! ### Values of the body that the stores' payloads, spelt out, would write more than once

    Each is a vector the body binds (often a part call's result), stated over the input windows' blocks and
    numbered on from the skeleton's payload functions (`k3_pay73` …, after `k3_pay72`), so that
    `out3_W` and the values after it name it instead of spelling it out (`unfold_out out3_W` opens a canon
    with them, `unfold_payloads` opens them with the payloads); the comment after each is the printed function's
    name for the value (a count appended where that name is bound again). -/

def k3_pay73 (x0 : Vec F S1x1024 .i32) (x1 : Vec F S1024x1 .i32) (x2 : Vec F S8192x1 .i32) (x3 : Vec F S8192x1 .i32) : IVec S1x1024 32 :=
  k3_pay4 (View.ld x0 r3_0) -- `v1`
def k3_pay74 (x0 : Vec F S1x1024 .i32) (x1 : Vec F S1024x1 .i32) (x2 : Vec F S8192x1 .i32) (x3 : Vec F S8192x1 .i32) : IVec S1x1024 32 :=
  k3_pay6 (View.ld x0 r3_0) (View.ld x1 r3_1) -- `v19`
def k3_pay75 (x0 : Vec F S1x1024 .i32) (x1 : Vec F S1024x1 .i32) (x2 : Vec F S8192x1 .i32) (x3 : Vec F S8192x1 .i32) : IVec S1x1024 32 :=
  k3_pay7 (View.ld x0 r3_0) (View.ld x1 r3_1) -- `v20`
def k3_pay76 (x0 : Vec F S1x1024 .i32) (x1 : Vec F S1024x1 .i32) (x2 : Vec F S8192x1 .i32) (x3 : Vec F S8192x1 .i32) : FVec F S1024x1024 .f32 :=
  k3_pay10 (View.ld x0 r3_0) -- `v30`
def k3_pay77 (x0 : Vec F S1x1024 .i32) (x1 : Vec F S1024x1 .i32) (x2 : Vec F S8192x1 .i32) (x3 : Vec F S8192x1 .i32) : FVec F S1024x1024 .f32 :=
  k3_pay18 (F := F) (k3_pay73 x0 x1 x2 x3) -- `v69`
def k3_pay78 (x0 : Vec F S1x1024 .i32) (x1 : Vec F S1024x1 .i32) (x2 : Vec F S8192x1 .i32) (x3 : Vec F S8192x1 .i32) : FVec F S1024x1024 .f32 :=
  k3_pay26 (F := F) (k3_pay73 x0 x1 x2 x3) -- `v108`
def k3_pay79 (x0 : Vec F S1x1024 .i32) (x1 : Vec F S1024x1 .i32) (x2 : Vec F S8192x1 .i32) (x3 : Vec F S8192x1 .i32) : FVec F S1024x1024 .f32 :=
  k3_pay34 (F := F) (k3_pay73 x0 x1 x2 x3) -- `v147`
def k3_pay80 (x0 : Vec F S1x1024 .i32) (x1 : Vec F S1024x1 .i32) (x2 : Vec F S8192x1 .i32) (x3 : Vec F S8192x1 .i32) : FVec F S1024x1024 .f32 :=
  k3_pay42 (F := F) (k3_pay73 x0 x1 x2 x3) -- `v186`
def k3_pay81 (x0 : Vec F S1x1024 .i32) (x1 : Vec F S1024x1 .i32) (x2 : Vec F S8192x1 .i32) (x3 : Vec F S8192x1 .i32) : FVec F S1024x1024 .f32 :=
  k3_pay50 (F := F) (k3_pay73 x0 x1 x2 x3) -- `v225`
def k3_pay82 (x0 : Vec F S1x1024 .i32) (x1 : Vec F S1024x1 .i32) (x2 : Vec F S8192x1 .i32) (x3 : Vec F S8192x1 .i32) : FVec F S1024x1024 .f32 :=
  k3_pay58 (F := F) (k3_pay73 x0 x1 x2 x3) -- `v264`
def k3_pay83 (x0 : Vec F S1x1024 .i32) (x1 : Vec F S1024x1 .i32) (x2 : Vec F S8192x1 .i32) (x3 : Vec F S8192x1 .i32) : FVec F S1024x1024 .f32 :=
  k3_pay65 (F := F) (k3_pay73 x0 x1 x2 x3) -- `v303`

/-- Window 4's staging buffer after the body, from the input windows' blocks: its 1 store as pieces, LAST
    FIRST (Lib/Pipeline/FrameBody.lean `View.canon`; the payloads are the skeleton's and the values stated above). -/
def out3_4 (x0 : Vec F S1x1024 .i32) (x1 : Vec F S1024x1 .i32) (x2 : Vec F S8192x1 .i32) (x3 : Vec F S8192x1 .i32) : Vec F S1x1024 .i32 :=
  View.canon [⟨r3_0, k3_pay71 (k3_pay73 x0 x1 x2 x3) (k3_pay74 x0 x1 x2 x3) (k3_pay60 (k3_pay53 (k3_pay45 (k3_pay37 (k3_pay29 (k3_pay21 (k3_pay13 (k3_pay8 (F := F)) (k3_pay12 (View.ld x0 r3_0) (View.ld x2 r3_2))) (k3_pay20 (k3_pay73 x0 x1 x2 x3) (View.ld x2 r3_3))) (k3_pay28 (k3_pay73 x0 x1 x2 x3) (View.ld x2 r3_4))) (k3_pay79 x0 x1 x2 x3) (k3_pay36 (View.ld x2 r3_5))) (k3_pay80 x0 x1 x2 x3) (k3_pay43 (View.ld x2 r3_6))) (k3_pay81 x0 x1 x2 x3) (k3_pay51 (View.ld x2 r3_7))) (k3_pay82 x0 x1 x2 x3) (k3_pay59 (View.ld x2 r3_8))) (k3_pay83 x0 x1 x2 x3) (k3_pay66 (View.ld x2 r3_9))⟩]

/-- Its stores tile the buffer (checked by evaluation), so they cover it. -/
theorem cover3_4 (p0 : Vec F S1x1024 .i32) (y : S1x1024.Idx) :
    ∃ pc ∈ ([⟨r3_0, p0⟩] : List (View.Piece (Elt F) S1x1024 .i32)), y ∈ pc.1.set :=
  View.cover_of_tiled [⟨r3_0, p0⟩] S1x1024.size (by rfl) y

/-- Window 5's staging buffer after the body, from the input windows' blocks: its 1 store as pieces, LAST
    FIRST (Lib/Pipeline/FrameBody.lean `View.canon`; the payloads are the skeleton's and the values stated above). -/
def out3_5 (x0 : Vec F S1x1024 .i32) (x1 : Vec F S1024x1 .i32) (x2 : Vec F S8192x1 .i32) (x3 : Vec F S8192x1 .i32) : Vec F S1x1024 .i32 :=
  View.canon [⟨r3_0, k3_pay1 (k3_pay75 x0 x1 x2 x3) (k3_pay72 (k3_pay74 x0 x1 x2 x3))⟩]

/-- Its stores tile the buffer (checked by evaluation), so they cover it. -/
theorem cover3_5 (p0 : Vec F S1x1024 .i32) (y : S1x1024.Idx) :
    ∃ pc ∈ ([⟨r3_0, p0⟩] : List (View.Piece (Elt F) S1x1024 .i32)), y ∈ pc.1.set :=
  View.cover_of_tiled [⟨r3_0, p0⟩] S1x1024.size (by rfl) y

/-- Window 6's staging buffer after the body, from the input windows' blocks: its 1 store as pieces, LAST
    FIRST (Lib/Pipeline/FrameBody.lean `View.canon`; the payloads are the skeleton's and the values stated above). -/
def out3_6 (x0 : Vec F S1x1024 .i32) (x1 : Vec F S1024x1 .i32) (x2 : Vec F S8192x1 .i32) (x3 : Vec F S8192x1 .i32) : Vec F S1x1024 .i32 :=
  View.canon [⟨r3_0, k3_pay2 (k3_pay73 x0 x1 x2 x3) (k3_pay74 x0 x1 x2 x3) (k3_pay70 (k3_pay61 (k3_pay54 (k3_pay46 (k3_pay38 (k3_pay30 (k3_pay22 (k3_pay14 (k3_pay9 (F := F)) (k3_pay76 x0 x1 x2 x3) (k3_pay11 (View.ld x3 r3_2))) (k3_pay77 x0 x1 x2 x3) (k3_pay19 (View.ld x3 r3_3))) (k3_pay78 x0 x1 x2 x3) (k3_pay27 (View.ld x3 r3_4))) (k3_pay79 x0 x1 x2 x3) (k3_pay35 (View.ld x3 r3_5))) (k3_pay80 x0 x1 x2 x3) (k3_pay44 (View.ld x3 r3_6))) (k3_pay81 x0 x1 x2 x3) (k3_pay52 (View.ld x3 r3_7))) (k3_pay82 x0 x1 x2 x3) (View.ld x3 r3_8)) (k3_pay83 x0 x1 x2 x3) (View.ld x3 r3_9))⟩]

/-- Its stores tile the buffer (checked by evaluation), so they cover it. -/
theorem cover3_6 (p0 : Vec F S1x1024 .i32) (y : S1x1024.Idx) :
    ∃ pc ∈ ([⟨r3_0, p0⟩] : List (View.Piece (Elt F) S1x1024 .i32)), y ∈ pc.1.set :=
  View.cover_of_tiled [⟨r3_0, p0⟩] S1x1024.size (by rfl) y

/-- Window 7's staging buffer after the body, from the input windows' blocks: its 1 store as pieces, LAST
    FIRST (Lib/Pipeline/FrameBody.lean `View.canon`; the payloads are the skeleton's and the values stated above). -/
def out3_7 (x0 : Vec F S1x1024 .i32) (x1 : Vec F S1024x1 .i32) (x2 : Vec F S8192x1 .i32) (x3 : Vec F S8192x1 .i32) : Vec F S1x1024 .i32 :=
  View.canon [⟨r3_0, k3_pay3 (k3_pay74 x0 x1 x2 x3) (k3_pay75 x0 x1 x2 x3)⟩]

/-- Its stores tile the buffer (checked by evaluation), so they cover it. -/
theorem cover3_7 (p0 : Vec F S1x1024 .i32) (y : S1x1024.Idx) :
    ∃ pc ∈ ([⟨r3_0, p0⟩] : List (View.Piece (Elt F) S1x1024 .i32)), y ∈ pc.1.set :=
  View.cover_of_tiled [⟨r3_0, p0⟩] S1x1024.size (by rfl) y

/-- Window 8's staging buffer after the body, from the input windows' blocks: its 8 stores as pieces, LAST
    FIRST (Lib/Pipeline/FrameBody.lean `View.canon`; the payloads are the skeleton's and the values stated above). -/
def out3_8 (x0 : Vec F S1x1024 .i32) (x1 : Vec F S1024x1 .i32) (x2 : Vec F S8192x1 .i32) (x3 : Vec F S8192x1 .i32) : Vec F S8192x1 .i32 :=
  View.canon [⟨r3_9, k3_pay68 (k3_pay83 x0 x1 x2 x3) (View.ld x2 r3_9)⟩,
    ⟨r3_8, k3_pay63 (k3_pay82 x0 x1 x2 x3) (View.ld x2 r3_8)⟩,
    ⟨r3_7, k3_pay56 (k3_pay81 x0 x1 x2 x3) (View.ld x2 r3_7)⟩,
    ⟨r3_6, k3_pay48 (k3_pay80 x0 x1 x2 x3) (View.ld x2 r3_6)⟩,
    ⟨r3_5, k3_pay40 (k3_pay79 x0 x1 x2 x3) (View.ld x2 r3_5)⟩,
    ⟨r3_4, k3_pay32 (k3_pay78 x0 x1 x2 x3) (View.ld x2 r3_4)⟩,
    ⟨r3_3, k3_pay24 (k3_pay77 x0 x1 x2 x3) (View.ld x2 r3_3)⟩,
    ⟨r3_2, k3_pay16 (k3_pay76 x0 x1 x2 x3) (View.ld x2 r3_2)⟩]

/-- Its stores tile the buffer (checked by evaluation), so they cover it. -/
theorem cover3_8 (p0 : Vec F S1024x1 .i32) (p1 : Vec F S1024x1 .i32) (p2 : Vec F S1024x1 .i32) (p3 : Vec F S1024x1 .i32) (p4 : Vec F S1024x1 .i32) (p5 : Vec F S1024x1 .i32) (p6 : Vec F S1024x1 .i32) (p7 : Vec F S1024x1 .i32) (y : S8192x1.Idx) :
    ∃ pc ∈ ([⟨r3_9, p0⟩, ⟨r3_8, p1⟩, ⟨r3_7, p2⟩, ⟨r3_6, p3⟩, ⟨r3_5, p4⟩, ⟨r3_4, p5⟩, ⟨r3_3, p6⟩, ⟨r3_2, p7⟩] : List (View.Piece (Elt F) S8192x1 .i32)), y ∈ pc.1.set :=
  View.cover_of_tiled [⟨r3_9, p0⟩, ⟨r3_8, p1⟩, ⟨r3_7, p2⟩, ⟨r3_6, p3⟩, ⟨r3_5, p4⟩, ⟨r3_4, p5⟩, ⟨r3_3, p6⟩, ⟨r3_2, p7⟩] S1024x1.size (by rfl) y

/-- Window 9's staging buffer after the body, from the input windows' blocks: its 8 stores as pieces, LAST
    FIRST (Lib/Pipeline/FrameBody.lean `View.canon`; the payloads are the skeleton's and the values stated above). -/
def out3_9 (x0 : Vec F S1x1024 .i32) (x1 : Vec F S1024x1 .i32) (x2 : Vec F S8192x1 .i32) (x3 : Vec F S8192x1 .i32) : Vec F S8192x1 .i32 :=
  View.canon [⟨r3_9, k3_pay69 (k3_pay83 x0 x1 x2 x3) (View.ld x3 r3_9)⟩,
    ⟨r3_8, k3_pay64 (k3_pay82 x0 x1 x2 x3) (View.ld x3 r3_8)⟩,
    ⟨r3_7, k3_pay57 (k3_pay81 x0 x1 x2 x3) (View.ld x3 r3_7)⟩,
    ⟨r3_6, k3_pay49 (k3_pay80 x0 x1 x2 x3) (View.ld x3 r3_6)⟩,
    ⟨r3_5, k3_pay41 (k3_pay79 x0 x1 x2 x3) (View.ld x3 r3_5)⟩,
    ⟨r3_4, k3_pay33 (k3_pay78 x0 x1 x2 x3) (View.ld x3 r3_4)⟩,
    ⟨r3_3, k3_pay25 (k3_pay77 x0 x1 x2 x3) (View.ld x3 r3_3)⟩,
    ⟨r3_2, k3_pay17 (k3_pay76 x0 x1 x2 x3) (View.ld x3 r3_2)⟩]

/-- Its stores tile the buffer (checked by evaluation), so they cover it. -/
theorem cover3_9 (p0 : Vec F S1024x1 .i32) (p1 : Vec F S1024x1 .i32) (p2 : Vec F S1024x1 .i32) (p3 : Vec F S1024x1 .i32) (p4 : Vec F S1024x1 .i32) (p5 : Vec F S1024x1 .i32) (p6 : Vec F S1024x1 .i32) (p7 : Vec F S1024x1 .i32) (y : S8192x1.Idx) :
    ∃ pc ∈ ([⟨r3_9, p0⟩, ⟨r3_8, p1⟩, ⟨r3_7, p2⟩, ⟨r3_6, p3⟩, ⟨r3_5, p4⟩, ⟨r3_4, p5⟩, ⟨r3_3, p6⟩, ⟨r3_2, p7⟩] : List (View.Piece (Elt F) S8192x1 .i32)), y ∈ pc.1.set :=
  View.cover_of_tiled [⟨r3_9, p0⟩, ⟨r3_8, p1⟩, ⟨r3_7, p2⟩, ⟨r3_6, p3⟩, ⟨r3_5, p4⟩, ⟨r3_4, p5⟩, ⟨r3_3, p6⟩, ⟨r3_2, p7⟩] S1024x1.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg1 : Memref sig .tc .vmem S1x1024 .i32) (harg1 : arg1.IsWhole) (arg2 : Memref sig .tc .vmem S1024x1 .i32) (harg2 : arg2.IsWhole) (arg3 : Memref sig .tc .vmem S8192x1 .i32) (harg3 : arg3.IsWhole) (arg4 : Memref sig .tc .vmem S8192x1 .i32) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S1x1024 .i32) (harg8 : arg8.IsWhole) (arg9 : Memref sig .tc .vmem S8192x1 .i32) (harg9 : arg9.IsWhole) (arg10 : Memref sig .tc .vmem S8192x1 .i32) (harg10 : arg10.IsWhole)
    (x0 : Vec F S1x1024 .i32) (x1 : Vec F S1024x1 .i32) (x2 : Vec F S8192x1 .i32) (x3 : Vec F S8192x1 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3) ∗ owns (c : Thread nD τ) arg6 fullShare (out3_5 x0 x1 x2 x3) ∗ owns (c : Thread nD τ) arg7 fullShare (out3_6 x0 x1 x2 x3) ∗ owns (c : Thread nD τ) arg8 fullShare (out3_7 x0 x1 x2 x3) ∗ owns (c : Thread nD τ) arg9 fullShare (out3_8 x0 x1 x2 x3) ∗ owns (c : Thread nD τ) arg10 fullShare (out3_9 x0 x1 x2 x3)) -∗ K ⟨⟩))
      ⊢ wp frame (wpE (defs₀ (F := F)) Variants.none c none) E (cc3__prep_body i arg1 harg1 arg2 harg2 arg3 harg3 arg4 harg4 arg5 harg5 arg6 harg6 arg7 harg7 arg8 harg8 arg9 harg9 arg10 harg10) K := by
  simp only [cc3__prep_body_eq_skeleton]; unfold cc3__prep_body_skel
  simp only [k3_part1_eq_skeleton, k3_part2_eq_skeleton, k3_part3_eq_skeleton, k3_part4_eq_skeleton, k3_part5_eq_skeleton, k3_part6_eq_skeleton, k3_part7_eq_skeleton, k3_part8_eq_skeleton, k3_part9_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover3_4 _)).trans ?_
    rfl
  isplitl [H5]
  · iexists _; isplitr
    swap; · iexact H5
    ipureintro
    refine (View.read_writes_eq_canon _ _ _ (cover3_5 _)).trans ?_
    rfl
  isplitl [H6]
  · iexists _; isplitr
    swap; · iexact H6
    ipureintro
    refine (View.read_writes_eq_canon _ _ _ (cover3_6 _)).trans ?_
    rfl
  isplitl [H7]
  · iexists _; isplitr
    swap; · iexact H7
    ipureintro
    refine (View.read_writes_eq_canon _ _ _ (cover3_7 _)).trans ?_
    rfl
  isplitl [H8]
  · iexists _; isplitr
    swap; · iexact H8
    ipureintro
    refine (View.read_writes_eq_canon _ _ _ (cover3_8 _ _ _ _ _ _ _ _)).trans ?_
    rfl
  iexists _; isplitr
  swap; · iexact H9
  ipureintro
  refine (View.read_writes_eq_canon _ _ _ (cover3_9 _ _ _ _ _ _ _ _)).trans ?_
  rfl

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
    | ⟨6, _⟩ => out3_6 (iblk3 V c 0 t) (iblk3 V c 1 t) (iblk3 V c 2 t) (iblk3 V c 3 t)
    | ⟨7, _⟩ => out3_7 (iblk3 V c 0 t) (iblk3 V c 1 t) (iblk3 V c 2 t) (iblk3 V c 3 t)
    | ⟨8, _⟩ => out3_8 (iblk3 V c 0 t) (iblk3 V c 1 t) (iblk3 V c 2 t) (iblk3 V c 3 t)
    | ⟨9, _⟩ => out3_9 (iblk3 V c 0 t) (iblk3 V c 1 t) (iblk3 V c 2 t) (iblk3 V c 3 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]
theorem after3_6 (c : Dev nD) (t : Fin cfg3.N) : (dat3 V c).after 6 t = out3_6 (iblk3 V c 0 t) (iblk3 V c 1 t) (iblk3 V c 2 t) (iblk3 V c 3 t) := by dsimp only [dat3]
theorem after3_7 (c : Dev nD) (t : Fin cfg3.N) : (dat3 V c).after 7 t = out3_7 (iblk3 V c 0 t) (iblk3 V c 1 t) (iblk3 V c 2 t) (iblk3 V c 3 t) := by dsimp only [dat3]
theorem after3_8 (c : Dev nD) (t : Fin cfg3.N) : (dat3 V c).after 8 t = out3_8 (iblk3 V c 0 t) (iblk3 V c 1 t) (iblk3 V c 2 t) (iblk3 V c 3 t) := by dsimp only [dat3]
theorem after3_9 (c : Dev nD) (t : Fin cfg3.N) : (dat3 V c).after 9 t = out3_9 (iblk3 V c 0 t) (iblk3 V c 1 t) (iblk3 V c 2 t) (iblk3 V c 3 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.Run.Region4.lean ====
/- Kernel call 4 of the program, `_simcon_body`, run once at arbitrary entry contents `V`: what its body leaves in each
   output block (in the form of the frame certificates of a single call), its proof data `dat4` and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 4 of @main: custom_call 4, `cc4__simcon_body` (pipeline 4), at the entry contents `V` — class R -/

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's `scf.if` 0 (`k4_h1`), from the grid coordinates (the skeleton's scalar
    chain substituted). -/
abbrev cond4_0 (i : grid4.Coords) : Prop := k4_cond1 i = 1#1
/-- It holds at the first point only — by arithmetic of the point. -/
theorem hcond4_0 : ∀ t : Fin cfg4.N, cond4_0 (grid4.coords t) ↔ t.val % 34 = 0 :=
  (fun t => by
    have ht : t.val < 34 := Nat.lt_of_lt_of_eq t.isLt N_4
    have e0 : (grid4.coords t 0).val = t.val / 1 % 34 := Pipeline.Grid.coords_val t 0 (by decide) rfl
    simp only [cond4_0, k4_cond1, e0]
    word_cmp
   : ∀ t : Fin grid4.N, cond4_0 (grid4.coords t) ↔ t.val % 34 = 0)

/-- The condition of the body's `scf.if` 1 (`k4_h2`), from the grid coordinates (the skeleton's scalar
    chain substituted). -/
abbrev cond4_1 (i : grid4.Coords) : Prop := k4_cond2 i = 1#1
/-- It holds at the points from point 1 on — decided over the grid. -/
theorem hcond4_1 : ∀ t : Fin cfg4.N, cond4_1 (grid4.coords t) ↔ 1 ≤ t.val :=
  (by decide +kernel : ∀ t : Fin grid4.N, cond4_1 (grid4.coords t) ↔ 1 ≤ t.val)

/-! ## Where the windows are idle (the printed configuration's table `Cfg.idle`) -/

/-- Window 0 is never idle (an input). -/
theorem liveAt4_0 : ∀ t : Fin cfg4.N, cfg4.idle 0 (grid4.coords t) = false := fun _ => rfl
/-- Window 1 is never idle (an input). -/
theorem liveAt4_1 : ∀ t : Fin cfg4.N, cfg4.idle 1 (grid4.coords t) = false := fun _ => rfl
/-- Window 2 is never idle (an input). -/
theorem liveAt4_2 : ∀ t : Fin cfg4.N, cfg4.idle 2 (grid4.coords t) = false := fun _ => rfl
/-- Window 3 is never idle (an input). -/
theorem liveAt4_3 : ∀ t : Fin cfg4.N, cfg4.idle 3 (grid4.coords t) = false := fun _ => rfl
/-- Window 4 is never idle (an input). -/
theorem liveAt4_4 : ∀ t : Fin cfg4.N, cfg4.idle 4 (grid4.coords t) = false := fun _ => rfl
/-- Window 5 is never idle (an input). -/
theorem liveAt4_5 : ∀ t : Fin cfg4.N, cfg4.idle 5 (grid4.coords t) = false := fun _ => rfl
/-- At the points of case A the printed configuration (`Cfg.idle`) calls output 6 live: the case stores into it. -/
theorem liveAt4_6_A : ∀ t : Fin cfg4.N, cond4_0 (grid4.coords t) → ¬cond4_1 (grid4.coords t) → cfg4.idle 6 (grid4.coords t) = false := by decide +kernel
/-- At the points of case B the printed configuration (`Cfg.idle`) calls output 6 live: the case stores into it. -/
theorem liveAt4_6_B : ∀ t : Fin cfg4.N, ¬cond4_0 (grid4.coords t) → cond4_1 (grid4.coords t) → cfg4.idle 6 (grid4.coords t) = false := by decide +kernel
/-- At the points of case A the printed configuration (`Cfg.idle`) calls output 7 live: the case stores into it. -/
theorem liveAt4_7_A : ∀ t : Fin cfg4.N, cond4_0 (grid4.coords t) → ¬cond4_1 (grid4.coords t) → cfg4.idle 7 (grid4.coords t) = false := by decide +kernel
/-- At the points of case B the printed configuration (`Cfg.idle`) calls output 7 live: the case stores into it. -/
theorem liveAt4_7_B : ∀ t : Fin cfg4.N, ¬cond4_0 (grid4.coords t) → cond4_1 (grid4.coords t) → cfg4.idle 7 (grid4.coords t) = false := by decide +kernel

/-! ## The kernel body on any staging memrefs: a subtype the run finds -/

/-- One staging buffer of output window 6, through which its contents are stated (`View.read_writes_of_cover`: the
    choice does not matter). -/
abbrev VO4_6 : View sig .tc .vmem S1024x1024 .f32 := (Memref.whole cc4_stg6_0 : Memref sig .tc .vmem S1024x1024 .f32).view
/-- One staging buffer of output window 7, through which its contents are stated (`View.read_writes_of_cover`: the
    choice does not matter). -/
abbrev VO4_7 : View sig .tc .vmem S1024x1024 .f32 := (Memref.whole cc4_stg7_0 : Memref sig .tc .vmem S1024x1024 .f32).view
/-- Each window's current staging memref at point `t`, spelled as the pipeline passes it (`bodyAt4`), and its wholeness. -/
abbrev ms4_0 (t : Fin cfg4.N) : Memref sig .tc .vmem S128x34944 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x1 .i32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1024 .i32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1024x8 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1024x1024 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1024x1024 .f32 := win4_7.stage (cfg4.slots t 7)
abbrev hs4_7 (t : Fin cfg4.N) : (ms4_7 t).IsWhole := hstage4_7 ((cfg4.slots t 7).cast nbuf4_7)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_A (c : Dev nD) (i : grid4.Coords) (arg1 : Memref sig .tc .vmem S128x34944 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x8 .f32) (harg6 : arg6.IsWhole) (arg7 : Memref sig .tc .vmem S1024x1024 .f32) (harg7 : arg7.IsWhole) (arg8 : Memref sig .tc .vmem S1024x1024 .f32) (harg8 : arg8.IsWhole) (hc0 : cond4_0 i) (hc1 : ¬cond4_1 i)
    (x0 : Vec F S128x34944 .f32) (x1 : Vec F S1024x128 .f32) (x2 : Vec F S1024x128 .f32) (x3 : Vec F S1024x1 .i32) (x4 : Vec F S1x1024 .i32) (x5 : Vec F S1024x8 .f32) :
    Σ' (L6 : List (View.Piece (Elt F) S1024x1024 .f32)), { L7 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc4__simcon_body i arg1 harg1 arg2 harg2 arg3 harg3 arg4 harg4 arg5 harg5 arg6 harg6 arg7 harg7 arg8 harg8) K } := by
  refine ⟨?_, ?_, fun E K => ?run⟩
  case run =>
    simp only [cc4__simcon_body_eq_skeleton]; unfold cc4__simcon_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- Case A's pieces for output 6 tile its block (1 store of `S1024x1024`, checked by the kernel's evaluation: Lib/Ring.lean `Piece.tiledL`, linear in the pieces, through a loop's `@[irreducible]` trip theorem too), so they cover it. -/
theorem cover4_A_6 (c : Dev nD) (i : grid4.Coords) (arg1 : Memref sig .tc .vmem S128x34944 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x8 .f32) (harg6 : arg6.IsWhole) (arg7 : Memref sig .tc .vmem S1024x1024 .f32) (harg7 : arg7.IsWhole) (arg8 : Memref sig .tc .vmem S1024x1024 .f32) (harg8 : arg8.IsWhole) (hc0 : cond4_0 i) (hc1 : ¬cond4_1 i)
    (x0 : Vec F S128x34944 .f32) (x1 : Vec F S1024x128 .f32) (x2 : Vec F S1024x128 .f32) (x3 : Vec F S1024x1 .i32) (x4 : Vec F S1x1024 .i32) (x5 : Vec F S1024x8 .f32) (y : S1024x1024.Idx) :
    ∃ pc ∈ (kernelRun4_A c i arg1 harg1 arg2 harg2 arg3 harg3 arg4 harg4 arg5 harg5 arg6 harg6 arg7 harg7 arg8 harg8 hc0 hc1 x0 x1 x2 x3 x4 x5).1, y ∈ pc.1.set :=
  View.cover_of_tiledL (kernelRun4_A c i arg1 harg1 arg2 harg2 arg3 harg3 arg4 harg4 arg5 harg5 arg6 harg6 arg7 harg7 arg8 harg8 hc0 hc1 x0 x1 x2 x3 x4 x5).1 S1024x1024.size (by sl_kernel_rfl) y

/-- What case A leaves in output 6's staging buffer: its pieces read back over junk. -/
def out4_A_6 (c : Dev nD) (i : grid4.Coords) (arg1 : Memref sig .tc .vmem S128x34944 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x8 .f32) (harg6 : arg6.IsWhole) (arg7 : Memref sig .tc .vmem S1024x1024 .f32) (harg7 : arg7.IsWhole) (arg8 : Memref sig .tc .vmem S1024x1024 .f32) (harg8 : arg8.IsWhole) (hc0 : cond4_0 i) (hc1 : ¬cond4_1 i)
    (x0 : Vec F S128x34944 .f32) (x1 : Vec F S1024x128 .f32) (x2 : Vec F S1024x128 .f32) (x3 : Vec F S1024x1 .i32) (x4 : Vec F S1x1024 .i32) (x5 : Vec F S1024x8 .f32) : Vec F S1024x1024 .f32 :=
  VO4_6.read (Elt F) (VO4_6.writes (Elt F) VO4_6.junk (kernelRun4_A c i arg1 harg1 arg2 harg2 arg3 harg3 arg4 harg4 arg5 harg5 arg6 harg6 arg7 harg7 arg8 harg8 hc0 hc1 x0 x1 x2 x3 x4 x5).1)

/-- Case A's pieces for output 7 tile its block (1 store of `S1024x1024`, checked by the kernel's evaluation: Lib/Ring.lean `Piece.tiledL`, linear in the pieces, through a loop's `@[irreducible]` trip theorem too), so they cover it. -/
theorem cover4_A_7 (c : Dev nD) (i : grid4.Coords) (arg1 : Memref sig .tc .vmem S128x34944 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x8 .f32) (harg6 : arg6.IsWhole) (arg7 : Memref sig .tc .vmem S1024x1024 .f32) (harg7 : arg7.IsWhole) (arg8 : Memref sig .tc .vmem S1024x1024 .f32) (harg8 : arg8.IsWhole) (hc0 : cond4_0 i) (hc1 : ¬cond4_1 i)
    (x0 : Vec F S128x34944 .f32) (x1 : Vec F S1024x128 .f32) (x2 : Vec F S1024x128 .f32) (x3 : Vec F S1024x1 .i32) (x4 : Vec F S1x1024 .i32) (x5 : Vec F S1024x8 .f32) (y : S1024x1024.Idx) :
    ∃ pc ∈ (kernelRun4_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun4_A c i arg1 harg1 arg2 harg2 arg3 harg3 arg4 harg4 arg5 harg5 arg6 harg6 arg7 harg7 arg8 harg8 hc0 hc1 x0 x1 x2 x3 x4 x5).2.1 S1024x1024.size (by sl_kernel_rfl) y

/-- What case A leaves in output 7's staging buffer: its pieces read back over junk. -/
def out4_A_7 (c : Dev nD) (i : grid4.Coords) (arg1 : Memref sig .tc .vmem S128x34944 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x8 .f32) (harg6 : arg6.IsWhole) (arg7 : Memref sig .tc .vmem S1024x1024 .f32) (harg7 : arg7.IsWhole) (arg8 : Memref sig .tc .vmem S1024x1024 .f32) (harg8 : arg8.IsWhole) (hc0 : cond4_0 i) (hc1 : ¬cond4_1 i)
    (x0 : Vec F S128x34944 .f32) (x1 : Vec F S1024x128 .f32) (x2 : Vec F S1024x128 .f32) (x3 : Vec F S1024x1 .i32) (x4 : Vec F S1x1024 .i32) (x5 : Vec F S1024x8 .f32) : Vec F S1024x1024 .f32 :=
  VO4_7.read (Elt F) (VO4_7.writes (Elt F) VO4_7.junk (kernelRun4_A c i arg1 harg1 arg2 harg2 arg3 harg3 arg4 harg4 arg5 harg5 arg6 harg6 arg7 harg7 arg8 harg8 hc0 hc1 x0 x1 x2 x3 x4 x5).2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 33: 33 of 34), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_B (c : Dev nD) (i : grid4.Coords) (arg1 : Memref sig .tc .vmem S128x34944 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x8 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : cond4_1 i)
    (x0 : Vec F S128x34944 .f32) (x1 : Vec F S1024x128 .f32) (x2 : Vec F S1024x128 .f32) (x3 : Vec F S1024x1 .i32) (x4 : Vec F S1x1024 .i32) (x5 : Vec F S1024x8 .f32) :
    Σ' (L6 : List (View.Piece (Elt F) S1024x1024 .f32)), { L7 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc4__simcon_body i arg1 harg1 arg2 harg2 arg3 harg3 arg4 harg4 arg5 harg5 arg6 harg6 arg7 harg7 arg8 harg8) K } := by
  refine ⟨?_, ?_, fun E K => ?run⟩
  case run =>
    simp only [cc4__simcon_body_eq_skeleton]; unfold cc4__simcon_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- Case B's pieces for output 6 tile its block (1 store of `S1024x1024`, checked by the kernel's evaluation: Lib/Ring.lean `Piece.tiledL`, linear in the pieces, through a loop's `@[irreducible]` trip theorem too), so they cover it. -/
theorem cover4_B_6 (c : Dev nD) (i : grid4.Coords) (arg1 : Memref sig .tc .vmem S128x34944 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x8 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : cond4_1 i)
    (x0 : Vec F S128x34944 .f32) (x1 : Vec F S1024x128 .f32) (x2 : Vec F S1024x128 .f32) (x3 : Vec F S1024x1 .i32) (x4 : Vec F S1x1024 .i32) (x5 : Vec F S1024x8 .f32) (y : S1024x1024.Idx) :
    ∃ pc ∈ (kernelRun4_B c i arg1 harg1 arg2 harg2 arg3 harg3 arg4 harg4 arg5 harg5 arg6 harg6 arg7 harg7 arg8 harg8 hc0 hc1 x0 x1 x2 x3 x4 x5).1, y ∈ pc.1.set :=
  View.cover_of_tiledL (kernelRun4_B c i arg1 harg1 arg2 harg2 arg3 harg3 arg4 harg4 arg5 harg5 arg6 harg6 arg7 harg7 arg8 harg8 hc0 hc1 x0 x1 x2 x3 x4 x5).1 S1024x1024.size (by sl_kernel_rfl) y

/-- What case B leaves in output 6's staging buffer: its pieces read back over junk. -/
def out4_B_6 (c : Dev nD) (i : grid4.Coords) (arg1 : Memref sig .tc .vmem S128x34944 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x8 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : cond4_1 i)
    (x0 : Vec F S128x34944 .f32) (x1 : Vec F S1024x128 .f32) (x2 : Vec F S1024x128 .f32) (x3 : Vec F S1024x1 .i32) (x4 : Vec F S1x1024 .i32) (x5 : Vec F S1024x8 .f32) : Vec F S1024x1024 .f32 :=
  VO4_6.read (Elt F) (VO4_6.writes (Elt F) VO4_6.junk (kernelRun4_B c i arg1 harg1 arg2 harg2 arg3 harg3 arg4 harg4 arg5 harg5 arg6 harg6 arg7 harg7 arg8 harg8 hc0 hc1 x0 x1 x2 x3 x4 x5).1)

/-- Case B's pieces for output 7 tile its block (1 store of `S1024x1024`, checked by the kernel's evaluation: Lib/Ring.lean `Piece.tiledL`, linear in the pieces, through a loop's `@[irreducible]` trip theorem too), so they cover it. -/
theorem cover4_B_7 (c : Dev nD) (i : grid4.Coords) (arg1 : Memref sig .tc .vmem S128x34944 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x8 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : cond4_1 i)
    (x0 : Vec F S128x34944 .f32) (x1 : Vec F S1024x128 .f32) (x2 : Vec F S1024x128 .f32) (x3 : Vec F S1024x1 .i32) (x4 : Vec F S1x1024 .i32) (x5 : Vec F S1024x8 .f32) (y : S1024x1024.Idx) :
    ∃ pc ∈ (kernelRun4_B c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun4_B c i arg1 harg1 arg2 harg2 arg3 harg3 arg4 harg4 arg5 harg5 arg6 harg6 arg7 harg7 arg8 harg8 hc0 hc1 x0 x1 x2 x3 x4 x5).2.1 S1024x1024.size (by sl_kernel_rfl) y

/-- What case B leaves in output 7's staging buffer: its pieces read back over junk. -/
def out4_B_7 (c : Dev nD) (i : grid4.Coords) (arg1 : Memref sig .tc .vmem S128x34944 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x8 .f32) (harg6 : arg6.IsWhole) (arg7 : Memref sig .tc .vmem S1024x1024 .f32) (harg7 : arg7.IsWhole) (arg8 : Memref sig .tc .vmem S1024x1024 .f32) (harg8 : arg8.IsWhole) (hc0 : ¬cond4_0 i) (hc1 : cond4_1 i)
    (x0 : Vec F S128x34944 .f32) (x1 : Vec F S1024x128 .f32) (x2 : Vec F S1024x128 .f32) (x3 : Vec F S1024x1 .i32) (x4 : Vec F S1x1024 .i32) (x5 : Vec F S1024x8 .f32) : Vec F S1024x1024 .f32 :=
  VO4_7.read (Elt F) (VO4_7.writes (Elt F) VO4_7.junk (kernelRun4_B c i arg1 harg1 arg2 harg2 arg3 harg3 arg4 harg4 arg5 harg5 arg6 harg6 arg7 harg7 arg8 harg8 hc0 hc1 x0 x1 x2 x3 x4 x5).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before4_W_κ`). An assignment of the conditions no point meets is no case (`False.elim`). -/
def outsAt4 (c : Dev nD) : (n : ℕ) → n < cfg4.N → Vec F S1024x1024 .f32 × Vec F S1024x1024 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h0 : (n + 1) % 34 = 0 then
      if h1 : 1 ≤ (n + 1) then
        False.elim (by have hN : n + 1 < 34 := lt_of_lt_of_eq hn (show cfg4.N = 34 from N_4); omega)
      else
        (out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))
    else
      if h1 : 1 ≤ (n + 1) then
        (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))
      else
        False.elim (by have hN : n + 1 < 34 := lt_of_lt_of_eq hn (show cfg4.N = 34 from N_4); omega)

/-- `outsAt4` at a point of case A: that case's contents. -/
theorem outsAt4_A (c : Dev nD) (t : Fin cfg4.N) (h0 : t.val % 34 = 0) (h1 : ¬1 ≤ t.val) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (fun h => h1 ((hcond4_1 t).mp h)) (iblk4 V c 0 t) (iblk4 V c 1 t) (iblk4 V c 2 t) (iblk4 V c 3 t) (iblk4 V c 4 t) (iblk4 V c 5 t), out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (fun h => h1 ((hcond4_1 t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact (dif_pos h0).trans ((dif_neg h1).trans rfl)

/-- `outsAt4` at a point of case B: that case's contents. -/
theorem outsAt4_B (c : Dev nD) (t : Fin cfg4.N) (h0 : ¬t.val % 34 = 0) (h1 : 1 ≤ t.val) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) ((hcond4_1 t).mpr h1) (iblk4 V c 0 t) (iblk4 V c 1 t) (iblk4 V c 2 t) (iblk4 V c 3 t) (iblk4 V c 4 t) (iblk4 V c 5 t), out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) ((hcond4_1 t).mpr h1) (iblk4 V c 0 t) (iblk4 V c 1 t) (iblk4 V c 2 t) (iblk4 V c 3 t) (iblk4 V c 4 t) (iblk4 V c 5 t)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 4 on core `c`: the arrays as the region finds them (`V`); after the body at
    point `t` each input's buffer at its block and the outputs' at `outsAt4`; the invariant the class's
    (Lib/Pipeline/Frame.lean `ΦA`: the scoped rest and the generator register); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2
  Φ _ := Pipeline.ΦA spec4 c
  q _ := fullShare
  owed _ := 0

/-- The proof data's arrays are the region-entry contents, by projecting the definition (`dsimp`): a region record cites
    this for its arrays rather than have Lean unfold `V`, the fold through @main up to the region's entry. -/
theorem A_eq4 (c : Dev nD) (w : Fin cfg4.W) : (dat4 V c).A w = V c (Pipeline.arrRef spec4 w) := by
  dsimp only [dat4]

/-- What the body leaves, window by window (the proof data's `match` reduced by `dsimp`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2 := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t` (Lib/Pipeline.lean `BodyObligation`'s precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 1600000 in
/-- The body at any point: the inputs' memrefs hold their blocks (`before4_W`); the closed forms say which case the point is in (`by_cases`), an output the case reads before covering holds what the point before left (`before4_W_κ`); so the
    run applies; the invariant passes through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl]
  have hN : t.val < 34 := lt_of_lt_of_eq t.isLt (show cfg4.N = 34 from N_4)
  by_cases h0 : t.val % 34 = 0
  · by_cases h1 : 1 ≤ t.val
    · exfalso; omega
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [show (dat4 V c).leavesExact 5 t = owns (c : Thread nD τ) (ms4_5 t) fullShare ((dat4 V c).after 5 t) from by
      unfold Dat.leavesExact; rw [liveAt4_5 t], after4_5]
      rw [show (dat4 V c).leavesExact 6 t = owns (c : Thread nD τ) (ms4_6 t) fullShare ((dat4 V c).after 6 t) from by
      unfold Dat.leavesExact; rw [liveAt4_6_A t ((hcond4_0 t).mpr h0) (fun h => h1 ((hcond4_1 t).mp h))], after4_6]
      rw [show (dat4 V c).leavesExact 7 t = owns (c : Thread nD τ) (ms4_7 t) fullShare ((dat4 V c).after 7 t) from by
      unfold Dat.leavesExact; rw [liveAt4_7_A t ((hcond4_0 t).mpr h0) (fun h => h1 ((hcond4_1 t).mp h))], after4_7]
      rw [outsAt4_A V c t h0 h1]
      unfold out4_A_6 out4_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_A c (grid4.coords t) _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_A_6 c _ _ _ _ _ _ _ _ _ _ _ _ _ _ _ _ _ _ _ _ _ _ _ _ _)
      unfold owns; iexists _; isplitr
      swap; · iexact H7
      ipureintro; exact View.read_writes_of_cover _ _ _ _ _ (cover4_A_7 c _ _ _ _ _ _ _ _ _ _ _ _ _ _ _ _ _ _ _ _ _ _ _ _ _)
  · by_cases h1 : 1 ≤ t.val
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [show (dat4 V c).leavesExact 5 t = owns (c : Thread nD τ) (ms4_5 t) fullShare ((dat4 V c).after 5 t) from by
      unfold Dat.leavesExact; rw [liveAt4_5 t], after4_5]
      rw [show (dat4 V c).leavesExact 6 t = owns (c : Thread nD τ) (ms4_6 t) fullShare ((dat4 V c).after 6 t) from by
      unfold Dat.leavesExact; rw [liveAt4_6_B t (fun h => h0 ((hcond4_0 t).mp h)) ((hcond4_1 t).mpr h1)], after4_6]
      rw [show (dat4 V c).leavesExact 7 t = owns (c : Thread nD τ) (ms4_7 t) fullShare ((dat4 V c).after 7 t) from by
      unfold Dat.leavesExact; rw [liveAt4_7_B t (fun h => h0 ((hcond4_0 t).mp h)) ((hcond4_1 t).mpr h1)], after4_7]
      rw [outsAt4_B V c t h0 h1]
      unfold out4_B_6 out4_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_B c (grid4.coords t) _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_B_6 c _ _ _ _ _ _ _ _ _ _ _ _ _ _ _ _ _ _ _ _ _ _ _ _ _)
      unfold owns; iexists _; isplitr
      swap; · iexact H7
      ipureintro; exact View.read_writes_of_cover _ _ _ _ _ (cover4_B_7 c _ _ _ _ _ _ _ _ _ _ _ _ _ _ _ _ _ _ _ _ _ _ _ _ _)
    · exfalso; omega

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated (Lib/Pipeline/FrameBody.lean `triple_restated`). -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Gen

end
-- ==== Proof.Run.Region5.lean ====
/- Kernel call 5 of the program, `_scatter_body (negative queue)`, run once at arbitrary entry contents `V`: what its body leaves in each
   output block (in the form of the frame certificates of a single call), its proof data `dat5` and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 5 of @main: custom_call 5, `cc5__scatter_body` (pipeline 5), at the entry contents `V` -/

/-! ## The windows' blocks -/

/-- Window `w`'s block at point `t`, read off its array as the region finds it (`V`). -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S1x1024 := Rect.unit (s := S1x1024) ![0, 0] S1x1024.size inb_S1x1024_S1x1024_0_0
abbrev r5_1 : Rect S1024x128 := Rect.unit (s := S1024x128) ![0, 0] S1024x128.size inb_S1024x128_S1024x128_0_0
abbrev r5_2 : Rect S128x1024 := Rect.unit (s := S128x1024) ![0, 0] S128x1024.size inb_S128x1024_S128x1024_0_0

/-! ## What the body leaves in each output window's buffer -/

/-- Window 4's staging buffer after the body, from the input windows' blocks: its 1 store as pieces, LAST
    FIRST (Lib/Pipeline/FrameBody.lean `View.canon`; the payloads are the skeleton's). -/
def out5_4 (i : grid5.Coords) (x0 : Vec F S128x1024 .f32) (x1 : Vec F S1024x128 .f32) (x2 : Vec F S1x1024 .i32) (x3 : Vec F S1x1024 .i32) : Vec F S128x1024 .f32 :=
  View.canon [⟨r5_2, k5_pay1 i (View.ld x2 r5_0) (View.ld x3 r5_0) (View.ld x1 r5_1) (View.ld x0 r5_2)⟩]

/-- Its stores tile the buffer (checked by evaluation), so they cover it. -/
theorem cover5_4 (p0 : Vec F S128x1024 .f32) (y : S128x1024.Idx) :
    ∃ pc ∈ ([⟨r5_2, p0⟩] : List (View.Piece (Elt F) S128x1024 .f32)), y ∈ pc.1.set :=
  View.cover_of_tiled [⟨r5_2, p0⟩] S128x1024.size (by rfl) y

/-! ## The body's triple -/

set_option maxHeartbeats 1000000 in
/-- The kernel body on whole staging memrefs, the inputs' at read contents `xW` and the outputs' at anything, runs to
    the continuation holding the inputs' as they were and each output's at `out5_W` of the inputs': the printed functions
    are their skeletons (`Gen.*_eq_skeleton`), which `sl_exec` runs (Lib/Exec.lean), through every part call. -/
theorem sound_kernel5 (c : Dev nD) (E : Set ℕ) (i : grid5.Coords) (arg1 : Memref sig .tc .vmem S128x1024 .f32) (harg1 : arg1.IsWhole) (arg2 : Memref sig .tc .vmem S1024x128 .f32) (harg2 : arg2.IsWhole) (arg3 : Memref sig .tc .vmem S1x1024 .i32) (harg3 : arg3.IsWhole) (arg4 : Memref sig .tc .vmem S1x1024 .i32) (harg4 : arg4.IsWhole) (arg5 : Memref sig .tc .vmem S128x1024 .f32) (harg5 : arg5.IsWhole)
    (x0 : Vec F S128x1024 .f32) (x1 : Vec F S1024x128 .f32) (x2 : Vec F S1x1024 .i32) (x3 : Vec F S1x1024 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 i x0 x1 x2 x3)) -∗ K ⟨⟩))
      ⊢ wp frame (wpE (defs₀ (F := F)) Variants.none c none) E (cc5__scatter_body i arg1 harg1 arg2 harg2 arg3 harg3 arg4 harg4 arg5 harg5) K := by
  simp only [cc5__scatter_body_eq_skeleton]; unfold cc5__scatter_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of pipeline 5 on core `c`: the arrays as the region finds them (`V`); after the body at
    point `t` each input's buffer at its block and each output's at `out5_W` of the input blocks; the invariant the
    class's (Lib/Pipeline/Frame.lean `ΦA`: the scoped rest and the generator register, untouched); nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (grid5.coords t) (iblk5 V c 0 t) (iblk5 V c 1 t) (iblk5 V c 2 t) (iblk5 V c 3 t)
  Φ _ := Pipeline.ΦA spec5 c
  q _ := fullShare
  owed _ := 0

/-- The proof data's arrays are the region-entry contents, by projecting the definition (`dsimp`): a region record cites
    this for its arrays rather than have Lean unfold `V`, the fold through @main up to the region's entry. -/
theorem A_eq5 (c : Dev nD) (w : Fin cfg5.W) : (dat5 V c).A w = V c (Pipeline.arrRef spec5 w) := by
  dsimp only [dat5]

/-- What the body leaves, window by window (the proof data's `match` reduced by `dsimp`, never `rfl`: Lib/Pipeline.lean `Dat`). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (grid5.coords t) (iblk5 V c 0 t) (iblk5 V c 1 t) (iblk5 V c 2 t) (iblk5 V c 3 t) := by dsimp only [dat5]

/-- Each input's current staging buffer holds its block at every point, fetched there or not (`beforeK_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t` (Lib/Pipeline.lean `BodyObligation`'s precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks (`before5_W`), so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt5` spells it. -/
theorem defs₀_row5 (t : Fin cfg5.N) :
    defs₀ (F := F) .tc cfg5.body (cfg5.bodyArgs t (cfg5.slots t)) = bodyAt5 t := by
  unfold defs₀; rw [Defs.onTc_tc]

/-- The library's body obligation, at every point: the body's triple restated (Lib/Pipeline/FrameBody.lean `triple_restated`). -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Regions

end Cert.KernelIdeal.Gen

end
-- ==== Proof.Run.Region6.lean ====
/- Kernel call 6 of the program, `_scatter_body (positive queue)`, run once at arbitrary entry contents `V`: what its body leaves in each
   output block (in the form of the frame certificates of a single call), its proof data `dat6` and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 6 of @main: custom_call 6, `cc6__scatter_body` (pipeline 6), at the entry contents `V` -/

/-! ## The windows' blocks -/

/-- Window `w`'s block at point `t`, read off its array as the region finds it (`V`). -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S1x1024 := Rect.unit (s := S1x1024) ![0, 0] S1x1024.size inb_S1x1024_S1x1024_0_0
abbrev r6_1 : Rect S1024x128 := Rect.unit (s := S1024x128) ![0, 0] S1024x128.size inb_S1024x128_S1024x128_0_0
abbrev r6_2 : Rect S128x1024 := Rect.unit (s := S128x1024) ![0, 0] S128x1024.size inb_S128x1024_S128x1024_0_0

/-! ## What the body leaves in each output window's buffer -/

/-- Window 4's staging buffer after the body, from the input windows' blocks: its 1 store as pieces, LAST
    FIRST (Lib/Pipeline/FrameBody.lean `View.canon`; the payloads are the skeleton's). -/
def out6_4 (i : grid6.Coords) (x0 : Vec F S128x1024 .f32) (x1 : Vec F S1024x128 .f32) (x2 : Vec F S1x1024 .i32) (x3 : Vec F S1x1024 .i32) : Vec F S128x1024 .f32 :=
  View.canon [⟨r6_2, k6_pay1 i (View.ld x2 r6_0) (View.ld x3 r6_0) (View.ld x1 r6_1) (View.ld x0 r6_2)⟩]

/-- Its stores tile the buffer (checked by evaluation), so they cover it. -/
theorem cover6_4 (p0 : Vec F S128x1024 .f32) (y : S128x1024.Idx) :
    ∃ pc ∈ ([⟨r6_2, p0⟩] : List (View.Piece (Elt F) S128x1024 .f32)), y ∈ pc.1.set :=
  View.cover_of_tiled [⟨r6_2, p0⟩] S128x1024.size (by rfl) y

/-! ## The body's triple -/

set_option maxHeartbeats 1000000 in
/-- The kernel body on whole staging memrefs, the inputs' at read contents `xW` and the outputs' at anything, runs to
    the continuation holding the inputs' as they were and each output's at `out6_W` of the inputs': the printed functions
    are their skeletons (`Gen.*_eq_skeleton`), which `sl_exec` runs (Lib/Exec.lean), through every part call. -/
theorem sound_kernel6 (c : Dev nD) (E : Set ℕ) (i : grid6.Coords) (arg1 : Memref sig .tc .vmem S128x1024 .f32) (harg1 : arg1.IsWhole) (arg2 : Memref sig .tc .vmem S1024x128 .f32) (harg2 : arg2.IsWhole) (arg3 : Memref sig .tc .vmem S1x1024 .i32) (harg3 : arg3.IsWhole) (arg4 : Memref sig .tc .vmem S1x1024 .i32) (harg4 : arg4.IsWhole) (arg5 : Memref sig .tc .vmem S128x1024 .f32) (harg5 : arg5.IsWhole)
    (x0 : Vec F S128x1024 .f32) (x1 : Vec F S1024x128 .f32) (x2 : Vec F S1x1024 .i32) (x3 : Vec F S1x1024 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6_4 i x0 x1 x2 x3)) -∗ K ⟨⟩))
      ⊢ wp frame (wpE (defs₀ (F := F)) Variants.none c none) E (cc6__scatter_body i arg1 harg1 arg2 harg2 arg3 harg3 arg4 harg4 arg5 harg5) K := by
  simp only [cc6__scatter_body_eq_skeleton]; unfold cc6__scatter_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-! ## The pipeline's proof data -/

/-- The proof data of pipeline 6 on core `c`: the arrays as the region finds them (`V`); after the body at
    point `t` each input's buffer at its block and each output's at `out6_W` of the input blocks; the invariant the
    class's (Lib/Pipeline/Frame.lean `ΦA`: the scoped rest and the generator register, untouched); nothing owed;
    full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (grid6.coords t) (iblk6 V c 0 t) (iblk6 V c 1 t) (iblk6 V c 2 t) (iblk6 V c 3 t)
  Φ _ := Pipeline.ΦA spec6 c
  q _ := fullShare
  owed _ := 0

/-- The proof data's arrays are the region-entry contents, by projecting the definition (`dsimp`): a region record cites
    this for its arrays rather than have Lean unfold `V`, the fold through @main up to the region's entry. -/
theorem A_eq6 (c : Dev nD) (w : Fin cfg6.W) : (dat6 V c).A w = V c (Pipeline.arrRef spec6 w) := by
  dsimp only [dat6]

/-- What the body leaves, window by window (the proof data's `match` reduced by `dsimp`, never `rfl`: Lib/Pipeline.lean `Dat`). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (grid6.coords t) (iblk6 V c 0 t) (iblk6 V c 1 t) (iblk6 V c 2 t) (iblk6 V c 3 t) := by dsimp only [dat6]

/-- Each input's current staging buffer holds its block at every point, fetched there or not (`beforeK_W_of`). -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point `t` (Lib/Pipeline.lean `BodyObligation`'s precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks (`before6_W`), so `sound_kernel6` applies; the invariant and
    the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt6` spells it. -/
theorem defs₀_row6 (t : Fin cfg6.N) :
    defs₀ (F := F) .tc cfg6.body (cfg6.bodyArgs t (cfg6.slots t)) = bodyAt6 t := by
  unfold defs₀; rw [Defs.onTc_tc]

/-- The library's body obligation, at every point: the body's triple restated (Lib/Pipeline/FrameBody.lean `triple_restated`). -/
theorem body_obligation6 (c : Dev nD) : BodyObligation (dat6 (F := F) V c) (defs₀ (F := F)) Variants.none () Set.univ := fun t => by
  rw [bigSep_W6, bigSep_W6, defs₀_row6]
  exact triple_restated (sound_body6 V c t) rfl .rfl fun _ => .rfl

end Regions

end Cert.KernelIdeal.Gen

end
-- ==== Proof.Run.Hosts.lean ====
/- The stretches of host operations between the kernel calls: which buffers each writes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_v11, main_v12]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v14, main_v15, main_v16, main_v17]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v20, main_v21, main_v22, main_v23, main_v24, main_v25, main_v26]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_c]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-- No operation of `hostOps4_1` allocates a buffer. -/
theorem hostOps4_1_fresh : (hostOps4_1 : List (HloOp τ sig (Elt F))).Forall fun op => op.fresh = ∅ := by
  simp only [List.Forall]; repeat' constructor
/-- The reference each operation of `hostOps4_1` writes, in order. -/
abbrev hostOps4_1_W : List (Ref sig .tc) := [main_call0_v0, main_v28]
theorem hostOps4_1_writes : (hostOps4_1 : List (HloOp τ sig (Elt F))).Forall fun op => op.writes ⊆ (hostOps4_1_W.map (Proc.devRef (τ := τ) .tc)).toFinset :=
  StableHlo.forall_writes_sub_of_map rfl
/-- `hostOps4_1` writes none of the argument arrays (checked: each argument against each reference it writes). -/
theorem hostOps4_1_args : ∀ a ∈ argRefs, a ∉ hostOps4_1_W := ListAll.forall_mem_of_all_decide (by decide +kernel)

/-- No operation of `hostOps7` allocates a buffer. -/
theorem hostOps7_fresh : (hostOps7 : List (HloOp τ sig (Elt F))).Forall fun op => op.fresh = ∅ := by
  simp only [List.Forall]; repeat' constructor
/-- The reference each operation of `hostOps7` writes, in order. -/
abbrev hostOps7_W : List (Ref sig .tc) := [main_v32, main_v33]
theorem hostOps7_writes : (hostOps7 : List (HloOp τ sig (Elt F))).Forall fun op => op.writes ⊆ (hostOps7_W.map (Proc.devRef (τ := τ) .tc)).toFinset :=
  StableHlo.forall_writes_sub_of_map rfl
/-- `hostOps7` writes none of the argument arrays (checked: each argument against each reference it writes). -/
theorem hostOps7_args : ∀ a ∈ argRefs, a ∉ hostOps7_W := ListAll.forall_mem_of_all_decide (by decide +kernel)

end Cert.KernelIdeal.Gen

end
-- ==== Proof.Run.Fold.lean ====
/- The contents of every buffer at the boundaries between host stretches and kernel calls (`W0` … `W13`), as a fold
   from the launch memory, and what each item leaves unchanged. -/
module

public import proofs.«01_k».proof.Proof.Run.Region0
public import proofs.«01_k».proof.Proof.Run.Region1
public import proofs.«01_k».proof.Proof.Run.Region2
public import proofs.«01_k».proof.Proof.Run.Region3
public import proofs.«01_k».proof.Proof.Run.Region4
public import proofs.«01_k».proof.Proof.Run.Region5
public import proofs.«01_k».proof.Proof.Run.Region6
public import proofs.«01_k».proof.Proof.Run.Hosts

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`) (region 2's entry). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3` (region 3's entry). -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)
/-- The same read at the TensorCore's references (what region 3's proof data take). -/
abbrev V6 : (c : Dev nD) → (b : Ref sig .tc) → Buf (Elt F) ((c : Thread nD τ).loc b) := fun c b => W6 m ρ c b
/-- At region 3's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- A reference that is none of region 3's OUTPUT arrays keeps its entry contents across it: an input window's
    array is never written back (`Dat.arrAt_in`, `A_eq3`); any other buffer is left as is. -/
theorem W7_of (c : Dev nD) (r : Ref sig .tc) (h : ∀ w : Fin cfg3.W, Pipeline.arrRef spec3 w = r → (cfg3.win w).isOut = false) :
    W7 m ρ c (Proc.devRef .tc r) = W6 m ρ c (Proc.devRef .tc r) := by
  by_cases hw : ∃ w : Fin cfg3.W, Pipeline.arrRef spec3 w = r
  · obtain ⟨w, rfl⟩ := hw
    exact (W7_arr m ρ c w).trans (((dat3 (V6 m ρ) c).arrAt_in w (h w rfl) _).trans (A_eq3 (V6 m ρ) c w))
  · exact W7_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn3 a ha)).trans (W6_args m ρ c a ha)
/-- The same read at the TensorCore's references (region 3's exit contents). -/
abbrev V7 : (c : Dev nD) → (b : Ref sig .tc) → Buf (Elt F) ((c : Thread nD τ).loc b) := fun c b => W7 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After `hostOps4`. -/
abbrev W8 : Dev nD → Valuation τ sig (Elt F) := fun c => StableHlo.after hostOps4 (W7 m ρ c)
/-- A reference `hostOps4` does not write keeps its contents across it. -/
theorem W8_of (c : Dev nD) (r : Ref sig .tc) (h : r ∉ hostOps4_W) : W8 m ρ c (Proc.devRef .tc r) = W7 m ρ c (Proc.devRef .tc r) :=
  StableHlo.after_of_writes_sub hostOps4 _ hostOps4_writes h
theorem W8_args (c : Dev nD) : ∀ a ∈ argRefs, W8 m ρ c (Proc.devRef .tc a) = m ((c : Thread nD τ).loc a) :=
  fun a ha => (W8_of m ρ c a (hostOps4_args a ha)).trans (W7_args m ρ c a ha)
/-- After `hostOps4_1` (region 4's entry). -/
abbrev W9 : Dev nD → Valuation τ sig (Elt F) := fun c => StableHlo.after hostOps4_1 (W8 m ρ c)
/-- A reference `hostOps4_1` does not write keeps its contents across it. -/
theorem W9_of (c : Dev nD) (r : Ref sig .tc) (h : r ∉ hostOps4_1_W) : W9 m ρ c (Proc.devRef .tc r) = W8 m ρ c (Proc.devRef .tc r) :=
  StableHlo.after_of_writes_sub hostOps4_1 _ hostOps4_1_writes h
theorem W9_args (c : Dev nD) : ∀ a ∈ argRefs, W9 m ρ c (Proc.devRef .tc a) = m ((c : Thread nD τ).loc a) :=
  fun a ha => (W9_of m ρ c a (hostOps4_1_args a ha)).trans (W8_args m ρ c a ha)
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves (the inputs as entered, each output's write-backs
    folded: `Dat.arrAt … N`), every other buffer as entered (Lib/Pipeline/FrameSuffix.lean `withArrays`) (region 5's entry). -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- A reference that is none of region 4's OUTPUT arrays keeps its entry contents across it: an input window's
    array is never written back (`Dat.arrAt_in`, `A_eq4`); any other buffer is left as is. -/
theorem W10_of (c : Dev nD) (r : Ref sig .tc) (h : ∀ w : Fin cfg4.W, Pipeline.arrRef spec4 w = r → (cfg4.win w).isOut = false) :
    W10 m ρ c (Proc.devRef .tc r) = W9 m ρ c (Proc.devRef .tc r) := by
  by_cases hw : ∃ w : Fin cfg4.W, Pipeline.arrRef spec4 w = r
  · obtain ⟨w, rfl⟩ := hw
    exact (W10_arr m ρ c w).trans (((dat4 (V9 m ρ) c).arrAt_in w (h w rfl) _).trans (A_eq4 (V9 m ρ) c w))
  · exact W10_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn4 a ha)).trans (W9_args m ρ c a ha)
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- At region 5's exit: its arrays at what the pipeline leaves (the inputs as entered, each output's write-backs
    folded: `Dat.arrAt … N`), every other buffer as entered (Lib/Pipeline/FrameSuffix.lean `withArrays`) (region 6's entry). -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- A reference that is none of region 5's OUTPUT arrays keeps its entry contents across it: an input window's
    array is never written back (`Dat.arrAt_in`, `A_eq5`); any other buffer is left as is. -/
theorem W11_of (c : Dev nD) (r : Ref sig .tc) (h : ∀ w : Fin cfg5.W, Pipeline.arrRef spec5 w = r → (cfg5.win w).isOut = false) :
    W11 m ρ c (Proc.devRef .tc r) = W10 m ρ c (Proc.devRef .tc r) := by
  by_cases hw : ∃ w : Fin cfg5.W, Pipeline.arrRef spec5 w = r
  · obtain ⟨w, rfl⟩ := hw
    exact (W11_arr m ρ c w).trans (((dat5 (V10 m ρ) c).arrAt_in w (h w rfl) _).trans (A_eq5 (V10 m ρ) c w))
  · exact W11_of_ne m ρ c r fun w e => hw ⟨w, e⟩
/-- Every argument among region 5's arrays is an input window's (checked: each argument against each window). -/
theorem argsIn5 : ∀ a ∈ argRefs, ∀ w : Fin cfg5.W, Pipeline.arrRef spec5 w = a → (cfg5.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn5 a ha)).trans (W10_args m ρ c a ha)
/-- The same read at the TensorCore's references (region 5's exit contents). -/
abbrev V11 : (c : Dev nD) → (b : Ref sig .tc) → Buf (Elt F) ((c : Thread nD τ).loc b) := fun c b => W11 m ρ c b
/-- At region 5's exit each of its arrays holds what the pipeline leaves (`hF5`) and every other buffer what it
    held at entry (`hrest5`): the two hypotheses of Lib/Pipeline/RegionsLoop.lean `unscopedBufs_of_arrays`. -/
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)

/-- At region 6's exit: its arrays at what the pipeline leaves (the inputs as entered, each output's write-backs
    folded: `Dat.arrAt … N`), every other buffer as entered (Lib/Pipeline/FrameSuffix.lean `withArrays`). -/
def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
/-- A reference that is none of region 6's OUTPUT arrays keeps its entry contents across it: an input window's
    array is never written back (`Dat.arrAt_in`, `A_eq6`); any other buffer is left as is. -/
theorem W12_of (c : Dev nD) (r : Ref sig .tc) (h : ∀ w : Fin cfg6.W, Pipeline.arrRef spec6 w = r → (cfg6.win w).isOut = false) :
    W12 m ρ c (Proc.devRef .tc r) = W11 m ρ c (Proc.devRef .tc r) := by
  by_cases hw : ∃ w : Fin cfg6.W, Pipeline.arrRef spec6 w = r
  · obtain ⟨w, rfl⟩ := hw
    exact (W12_arr m ρ c w).trans (((dat6 (V11 m ρ) c).arrAt_in w (h w rfl) _).trans (A_eq6 (V11 m ρ) c w))
  · exact W12_of_ne m ρ c r fun w e => hw ⟨w, e⟩
/-- Every argument among region 6's arrays is an input window's (checked: each argument against each window). -/
theorem argsIn6 : ∀ a ∈ argRefs, ∀ w : Fin cfg6.W, Pipeline.arrRef spec6 w = a → (cfg6.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn6 a ha)).trans (W11_args m ρ c a ha)
/-- The same read at the TensorCore's references (region 6's exit contents). -/
abbrev V12 : (c : Dev nD) → (b : Ref sig .tc) → Buf (Elt F) ((c : Thread nD τ).loc b) := fun c b => W12 m ρ c b
/-- At region 6's exit each of its arrays holds what the pipeline leaves (`hF6`) and every other buffer what it
    held at entry (`hrest6`): the two hypotheses of Lib/Pipeline/RegionsLoop.lean `unscopedBufs_of_arrays`. -/
theorem hF6 (c : Dev nD) (w : Fin cfg6.W) : (dat6 (V11 m ρ) c).arrAt w cfg6.N = V12 m ρ c (Pipeline.arrRef spec6 w) :=
  (W12_arr m ρ c w).symm
theorem hrest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)

/-- After `hostOps7`. -/
abbrev W13 : Dev nD → Valuation τ sig (Elt F) := fun c => StableHlo.after hostOps7 (W12 m ρ c)
/-- A reference `hostOps7` does not write keeps its contents across it. -/
theorem W13_of (c : Dev nD) (r : Ref sig .tc) (h : r ∉ hostOps7_W) : W13 m ρ c (Proc.devRef .tc r) = W12 m ρ c (Proc.devRef .tc r) :=
  StableHlo.after_of_writes_sub hostOps7 _ hostOps7_writes h
theorem W13_args (c : Dev nD) : ∀ a ∈ argRefs, W13 m ρ c (Proc.devRef .tc a) = m ((c : Thread nD τ).loc a) :=
  fun a ha => (W13_of m ρ c a (hostOps7_args a ha)).trans (W12_args m ρ c a ha)

/-! ### The arguments end as launched: no host stretch writes one and no region may change one (a region reads it
    through an input window or bypasses it) -/

theorem W13_main_arg0 (c : Dev nD) : W13 m ρ c (Proc.devRef .tc main_arg0) = m ((c : Thread nD τ).loc main_arg0) :=
  W13_args m ρ c main_arg0 (by decide)
theorem W13_main_arg1 (c : Dev nD) : W13 m ρ c (Proc.devRef .tc main_arg1) = m ((c : Thread nD τ).loc main_arg1) :=
  W13_args m ρ c main_arg1 (by decide)
theorem W13_main_arg2 (c : Dev nD) : W13 m ρ c (Proc.devRef .tc main_arg2) = m ((c : Thread nD τ).loc main_arg2) :=
  W13_args m ρ c main_arg2 (by decide)
theorem W13_main_arg3 (c : Dev nD) : W13 m ρ c (Proc.devRef .tc main_arg3) = m ((c : Thread nD τ).loc main_arg3) :=
  W13_args m ρ c main_arg3 (by decide)
theorem W13_main_arg4 (c : Dev nD) : W13 m ρ c (Proc.devRef .tc main_arg4) = m ((c : Thread nD τ).loc main_arg4) :=
  W13_args m ρ c main_arg4 (by decide)
theorem W13_main_arg5 (c : Dev nD) : W13 m ρ c (Proc.devRef .tc main_arg5) = m ((c : Thread nD τ).loc main_arg5) :=
  W13_args m ρ c main_arg5 (by decide)
theorem W13_main_arg6 (c : Dev nD) : W13 m ρ c (Proc.devRef .tc main_arg6) = m ((c : Thread nD τ).loc main_arg6) :=
  W13_args m ρ c main_arg6 (by decide)
theorem W13_main_arg7 (c : Dev nD) : W13 m ρ c (Proc.devRef .tc main_arg7) = m ((c : Thread nD τ).loc main_arg7) :=
  W13_args m ρ c main_arg7 (by decide)
theorem W13_main_arg8 (c : Dev nD) : W13 m ρ c (Proc.devRef .tc main_arg8) = m ((c : Thread nD τ).loc main_arg8) :=
  W13_args m ρ c main_arg8 (by decide)
theorem W13_main_arg9 (c : Dev nD) : W13 m ρ c (Proc.devRef .tc main_arg9) = m ((c : Thread nD τ).loc main_arg9) :=
  W13_args m ρ c main_arg9 (by decide)
theorem W13_main_arg10 (c : Dev nD) : W13 m ρ c (Proc.devRef .tc main_arg10) = m ((c : Thread nD τ).loc main_arg10) :=
  W13_args m ρ c main_arg10 (by decide)
theorem W13_main_arg11 (c : Dev nD) : W13 m ρ c (Proc.devRef .tc main_arg11) = m ((c : Thread nD τ).loc main_arg11) :=
  W13_args m ρ c main_arg11 (by decide)
theorem W13_main_arg12 (c : Dev nD) : W13 m ρ c (Proc.devRef .tc main_arg12) = m ((c : Thread nD τ).loc main_arg12) :=
  W13_args m ρ c main_arg12 (by decide)
theorem W13_main_arg13 (c : Dev nD) : W13 m ρ c (Proc.devRef .tc main_arg13) = m ((c : Thread nD τ).loc main_arg13) :=
  W13_args m ρ c main_arg13 (by decide)
theorem W13_main_arg14 (c : Dev nD) : W13 m ρ c (Proc.devRef .tc main_arg14) = m ((c : Thread nD τ).loc main_arg14) :=
  W13_args m ρ c main_arg14 (by decide)
theorem W13_main_arg15 (c : Dev nD) : W13 m ρ c (Proc.devRef .tc main_arg15) = m ((c : Thread nD τ).loc main_arg15) :=
  W13_args m ρ c main_arg15 (by decide)
end Cert.KernelIdeal.Gen

end
-- ==== Proof.Run.State.lean ====
/- The proof data of all seven kernel calls at their entry contents, and the thread state between two of them. -/
module

public import proofs.«01_k».proof.Proof.Run.Fold

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 7) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V9 m ρ) c
  | ⟨5, _⟩ => fun c => dat5 (V10 m ρ) c
  | ⟨6, _⟩ => fun c => dat6 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W13`, the generator register at some state. -/
abbrev Tₙ (c : Dev nD) : sProp 𝕄 := iprop(StableHlo.held (c : Thread nD τ) (Pipeline.ucRefs τ sig) (W13 m ρ c) ∗ ∃ r, prngReg c r)

end Cert.KernelIdeal.Gen

end
-- ==== Proof.Run.Records.lean ====
/- Each of the seven kernel calls as a segment between two boundary contents. -/
module

public import proofs.«01_k».proof.Proof.Run.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (custom_call 3) over the thread state: entered from every unscoped buffer at `W6`, left at `W7`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) (A_eq3 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (custom_call 4) over the thread state: entered from every unscoped buffer at `W9`, left at `W10`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) (A_eq4 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 (custom_call 5) over the thread state: entered from every unscoped buffer at `W10`, left at `W11`
    (what the next segment is entered from). Its arrays split out of the unscoped buffers
    (`arrays_of_unscopedBufs`) and put back at the exit contents (`unscopedBufs_of_arrays`); the generator register into the
    class invariant `ΦA` and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) (A_eq5 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 (custom_call 6) over the thread state: entered from every unscoped buffer at `W11`, left at `W12`
    (what the next segment is entered from). Its arrays split out of the unscoped buffers
    (`arrays_of_unscopedBufs`) and put back at the exit contents (`unscopedBufs_of_arrays`); the generator register into the
    class invariant `ΦA` and out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) (A_eq6 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Run.Frame.lean ====
/- The program as its chain of segments, its run, and the frame: every buffer ends at the last boundary contents `W13`,
   the arguments end as launched, every semaphore counter at zero. -/
module

public import proofs.«01_k».proof.Proof.Run.Records

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 13 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .host (hseg hostOps4 hostOps4_sub hostOps4_fresh (W7 m ρ)),
    .host (hseg hostOps4_1 hostOps4_1_sub hostOps4_1_fresh (W8 m ρ)),
    .region (reg4 m ρ),
    .region (reg5 m ρ),
    .region (reg6 m ρ),
    .host (hseg hostOps7 hostOps7_sub hostOps7_fresh (W12 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run, in full: from any memory with zero counters every weakly fair execution terminates without a fault, every
    buffer that outlives the calls ends at the last boundary's contents, every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W13 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨h, funext fun g => hz g (.inr (no_unscoped g.2))⟩)

/-- The frame: the argument arrays end as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun s hs => ⟨fun c =>
      have h := hs.1 c
      ⟨(h _ (mem_uc main_arg0 (by decide))).trans (W13_main_arg0 m ρ c),
       (h _ (mem_uc main_arg1 (by decide))).trans (W13_main_arg1 m ρ c),
       (h _ (mem_uc main_arg2 (by decide))).trans (W13_main_arg2 m ρ c),
       (h _ (mem_uc main_arg3 (by decide))).trans (W13_main_arg3 m ρ c),
       (h _ (mem_uc main_arg4 (by decide))).trans (W13_main_arg4 m ρ c),
       (h _ (mem_uc main_arg5 (by decide))).trans (W13_main_arg5 m ρ c),
       (h _ (mem_uc main_arg6 (by decide))).trans (W13_main_arg6 m ρ c),
       (h _ (mem_uc main_arg7 (by decide))).trans (W13_main_arg7 m ρ c),
       (h _ (mem_uc main_arg8 (by decide))).trans (W13_main_arg8 m ρ c),
       (h _ (mem_uc main_arg9 (by decide))).trans (W13_main_arg9 m ρ c),
       (h _ (mem_uc main_arg10 (by decide))).trans (W13_main_arg10 m ρ c),
       (h _ (mem_uc main_arg11 (by decide))).trans (W13_main_arg11 m ρ c),
       (h _ (mem_uc main_arg12 (by decide))).trans (W13_main_arg12 m ρ c),
       (h _ (mem_uc main_arg13 (by decide))).trans (W13_main_arg13 m ρ c),
       (h _ (mem_uc main_arg14 (by decide))).trans (W13_main_arg14 m ρ c),
       (h _ (mem_uc main_arg15 (by decide))).trans (W13_main_arg15 m ρ c)⟩, hs.2⟩) (run m ρ)

end Cert.KernelIdeal.Gen

end
-- ==== Proof.Run.Bits.lean ====
/- The compiled program is, definition by definition, the program that the value claims read: its frame is that one's. -/
module

public import proofs.«01_k».proof.Proof.Gen.Kernel
public import proofs.«01_k».proof.Proof.Run.Frame

@[expose] public section

noncomputable section

open Idealize.ShloMosaic Idealize.ShloMosaic.TcCoe
open Idealize.SL.Sem

variable (F : FTy → Type) [FloatOps F]

namespace Cert.KernelIdeal.Gen

/-- The frame of the program that the value claims read, at every memory. -/
def Framed : Prop := ∀ (m : (ℓ : Loc nD τ sig) → Buf (Elt F) ℓ) (ρ : Dev nD → PrngReg),
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0)

theorem framed : Framed F := fun m ρ => frame m ρ

end Cert.KernelIdeal.Gen

namespace Cert.Kernel.Gen

/-- The frame of the compiled program, at every memory. -/
def Framed : Prop := ∀ (m : (ℓ : Loc nD τ sig) → Buf (Elt F) ℓ) (ρ : Dev nD → PrngReg),
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0)

set_option maxRecDepth 100000 in
theorem framed_eq : Framed F = Cert.KernelIdeal.Gen.Framed F := by sl_kernel_rfl

theorem framed : Framed F := (framed_eq F).mpr (Cert.KernelIdeal.Gen.framed F)

end Cert.Kernel.Gen

end
-- ==== Proof.Value.RefRun.lean ====
/-
  The idealized reference's run: the host operations before its one counted loop, then 1024 trips round the loop.
  `final` is what a buffer holds at the end; a buffer that the loop does not write keeps what the
  operations before the loop left (`final_entry`), and the arguments are never written (`final_arg`).
-/
module

public import proofs.«01_k».proof.Defs
public import proofs.«01_k».proof.Proof.Gen.ReferenceIdeal.Run
public import Idealize.ShloMosaic.Lib.Quiescent

@[expose] public section

set_option maxRecDepth 16384

noncomputable section

namespace Cert.ReferenceIdeal.Value

open Idealize.ShloMosaic Idealize.ShloMosaic.TcCoe Idealize.ShloMosaic.StableHlo
open Idealize.SL.Sem Cert.ReferenceIdeal.Gen

variable {F : FTy → Type} [FloatOps F]

/-- The references that one trip of the loop writes, with the loop's condition. -/
abbrev loopW : List (Ref sig .tc) :=
  condOps_W ++ while0Ops0_W ++ while0Ops0_1_W ++ while0Ops0_2_W ++ while0Ops0_3_W ++ while0Ops0_4_W ++ while0Ops0_5_W ++ while0Ops0_6_W

/-- The references that the operations before the loop write. -/
abbrev preW : List (Ref sig .tc) :=
  hostOps0_W ++ hostOps0_1_W ++ hostOps0_2_W ++ hostOps0_3_W ++ hostOps0_4_W ++ hostOps0_5_W ++ hostOps0_6_W ++ hostOps0_7_W
    ++ hostOps0_8_W ++ hostOps0_9_W ++ hostOps0_10_W

/-- One trip keeps what it does not write. -/
theorem trip_of (V : Valuation τ sig (Elt F)) (b : Ref sig .tc) (h : b ∉ loopW) :
    afterL bodyI (after condOps V) (Proc.devRef .tc b) = V (Proc.devRef .tc b) := by
  simp only [loopW, List.mem_append, not_or] at h
  obtain ⟨⟨⟨⟨⟨⟨⟨h0, h1⟩, h2⟩, h3⟩, h4⟩, h5⟩, h6⟩, h7⟩ := h
  simp only [afterL_cons, afterL_nil]
  rw [after_of_writes_sub _ _ while0Ops0_6_writes h7, after_of_writes_sub _ _ while0Ops0_5_writes h6,
    after_of_writes_sub _ _ while0Ops0_4_writes h5, after_of_writes_sub _ _ while0Ops0_3_writes h4,
    after_of_writes_sub _ _ while0Ops0_2_writes h3, after_of_writes_sub _ _ while0Ops0_1_writes h2,
    after_of_writes_sub _ _ while0Ops0_writes h1, after_of_writes_sub _ _ condOps_writes h0]

/-- The operations before the loop keep what they do not write. -/
theorem pre_of (V : Valuation τ sig (Elt F)) (b : Ref sig .tc) (h : b ∉ preW) :
    afterL preI V (Proc.devRef .tc b) = V (Proc.devRef .tc b) := by
  simp only [preW, List.mem_append, not_or] at h
  obtain ⟨⟨⟨⟨⟨⟨⟨⟨⟨⟨h0, h1⟩, h2⟩, h3⟩, h4⟩, h5⟩, h6⟩, h7⟩, h8⟩, h9⟩, h10⟩ := h
  simp only [afterL_cons, afterL_nil]
  rw [after_of_writes_sub _ _ hostOps0_10_writes h10, after_of_writes_sub _ _ hostOps0_9_writes h9,
    after_of_writes_sub _ _ hostOps0_8_writes h8, after_of_writes_sub _ _ hostOps0_7_writes h7,
    after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

variable (m : (ℓ : Loc nD τ sig) → Buf (Elt F) ℓ) (ρ : Dev nD → PrngReg) (c : Dev nD)

/-- Every trip keeps, since the loop's entry, what the loop does not write. -/
theorem atK_of (b : Ref sig .tc) (h : b ∉ loopW) : ∀ k, atK m k c (Proc.devRef .tc b) = entryContents preI m c (Proc.devRef .tc b)
  | 0 => rfl
  | k + 1 => (trip_of (atK m k c) b h).trans (atK_of b h k)

/-- What a buffer holds at the end. -/
abbrev final (b : Ref sig .tc) : Buf (Elt F) ((c.tc : Thread nD τ).loc b) :=
  finalContents condOps preI bodyI postI 1024 m c (Proc.devRef .tc b)

/-- A buffer that the condition does not write ends at what the last trip left. -/
theorem final_atK (b : Ref sig .tc) (h : b ∉ condOps_W) : final m c b = atK m 1024 c (Proc.devRef .tc b) :=
  after_of_writes_sub condOps _ condOps_writes h

/-- A buffer that the loop does not write ends at what the operations before the loop left. -/
theorem final_entry (b : Ref sig .tc) (h : b ∉ loopW) : final m c b = entryContents preI m c (Proc.devRef .tc b) := by
  rw [final_atK m c b (fun h' => h (by simp only [loopW, List.mem_append]; simp [h'])), atK_of m c b h]

/-- A buffer that nothing writes ends as launched. -/
theorem final_arg (b : Ref sig .tc) (h : b ∉ loopW) (h' : b ∉ preW) : final m c b = m ((c.tc : Thread nD τ).loc b) :=
  (final_entry m c b h).trans (pre_of _ b h')

/-- Every buffer ends at `final`, the arguments as launched, every semaphore counter at zero. -/
theorem run : θ_run (defs (F := F)) (onTc (τ := τ) (main (F := F))) ⟨m, fun _ => 0, ρ⟩ (fun r =>
    (∀ (c : Dev nD) (b : Ref sig .tc), (Proc.devRef .tc b : DevRef τ sig).isScoped = false →
      r.2.mem ((c.tc : Thread nD τ).loc b) = final m c b) ∧ r.2.sem = fun _ => 0) :=
  (θ_run _ _ _).mono (fun r h => ⟨h, sem_eq_zero_of_no_sems (by decide) r.2⟩) (run_fold m ρ)

end Cert.ReferenceIdeal.Value

namespace Cert.Proof

open Idealize.ShloMosaic Idealize.SL.Sem Cert.ReferenceIdeal Cert.ReferenceIdeal.Value

/-- The frame of the idealized reference. -/
theorem frame_ReferenceIdeal : Cert.quiescent_ReferenceIdeal := fun m ρ _ =>
  (θ_run _ _ _).mono (fun r h => ⟨fun c =>
    ⟨(h.1 c main_arg0 (by decide)).trans (final_arg m c main_arg0 (by decide) (by decide)),
     (h.1 c main_arg1 (by decide)).trans (final_arg m c main_arg1 (by decide) (by decide)),
     (h.1 c main_arg2 (by decide)).trans (final_arg m c main_arg2 (by decide) (by decide)),
     (h.1 c main_arg3 (by decide)).trans (final_arg m c main_arg3 (by decide) (by decide)),
     (h.1 c main_arg4 (by decide)).trans (final_arg m c main_arg4 (by decide) (by decide)),
     (h.1 c main_arg5 (by decide)).trans (final_arg m c main_arg5 (by decide) (by decide)),
     (h.1 c main_arg6 (by decide)).trans (final_arg m c main_arg6 (by decide) (by decide)),
     (h.1 c main_arg7 (by decide)).trans (final_arg m c main_arg7 (by decide) (by decide)),
     (h.1 c main_arg8 (by decide)).trans (final_arg m c main_arg8 (by decide) (by decide)),
     (h.1 c main_arg9 (by decide)).trans (final_arg m c main_arg9 (by decide) (by decide)),
     (h.1 c main_arg10 (by decide)).trans (final_arg m c main_arg10 (by decide) (by decide)),
     (h.1 c main_arg11 (by decide)).trans (final_arg m c main_arg11 (by decide) (by decide)),
     (h.1 c main_arg12 (by decide)).trans (final_arg m c main_arg12 (by decide) (by decide)),
     (h.1 c main_arg13 (by decide)).trans (final_arg m c main_arg13 (by decide) (by decide)),
     (h.1 c main_arg14 (by decide)).trans (final_arg m c main_arg14 (by decide) (by decide)),
     (h.1 c main_arg15 (by decide)).trans (final_arg m c main_arg15 (by decide) (by decide))⟩, h.2⟩) (Cert.ReferenceIdeal.Value.run (F := Ideal) m ρ)

end Cert.Proof
-- ==== Proof.Value.Logits.lean ====
/-
  The classifier logits (the second launch): each of the two results is `x · Wlin + blin`, whole, at exact arithmetic.
-/
module

public import proofs.«01_k».proof.Proof.Run.Region1
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.ShloMosaic.Pipeline

variable (V : (c : Dev nD) → (b : Ref sig .tc) → Buf (Elt Ideal) ((c : Thread nD τ).loc b)) (c : Dev nD)

/-- `x · Wlin + blin` at an index. -/
def logits (x : FVec Ideal S1024x2048 .f32) (W : FVec Ideal S2048x8192 .f32) (b : FVec Ideal S1x8192 .f32) : FVec Ideal S1024x8192 .f32 :=
  fun i => (∑ k : Fin 2048, x (ix2 (i 0) k) * W (ix2 k (i 1))) + b (ix2 0 (i 1))

/-- Where each window's block lies: the features whole, a block of 512 columns of the others. -/
theorem index1 : ∀ t : Fin cfg1.N, win1_0.index t = ![0, 0] ∧ win1_1.index t = ![0, 0] ∧ win1_2.index t = ![0, t.val]
    ∧ win1_3.index t = ![0, t.val] ∧ win1_4.index t = ![0, t.val] ∧ win1_5.index t = ![0, t.val] := by decide +kernel

/-- The first logits array. -/
theorem logits_q : (dat1 V c).arrAt 4 cfg1.N = logits (V c main_arg0) (V c main_arg10) (V c main_v7) := by
  refine (dat1 V c).arrAt_eq_of_covers 4 _ (by decide +kernel) fun t hf y => ?_
  blk_simp
  rw [after1_4]
  frame_out
  obtain ⟨e0, e1, e2, e3, e4, e5⟩ := index1 t
  pointwise [k1_pay3, k1_pay2, k1_pay1, logits]
  blk_point [iblk1, e0, e1, e2, e3, e4, e5]

/-- The second logits array. -/
theorem logits_k : (dat1 V c).arrAt 5 cfg1.N = logits (V c main_arg1) (V c main_arg10) (V c main_v7) := by
  refine (dat1 V c).arrAt_eq_of_covers 5 _ (by decide +kernel) fun t hf y => ?_
  blk_simp
  rw [after1_5]
  frame_out
  obtain ⟨e0, e1, e2, e3, e4, e5⟩ := index1 t
  pointwise [k1_pay4, k1_pay2, k1_pay1, logits]
  blk_point [iblk1, e0, e1, e2, e3, e4, e5]

end Cert.KernelIdeal.Gen
-- ==== Proof.Value.ExitLogits.lean ====
/-
  The logits where the program ends, of the arguments as launched: the kernel's and the reference's are one function of them.
-/
module

public import proofs.«01_k».proof.Proof.Run.Fold
public import proofs.«01_k».proof.Proof.Value.Logits
public import proofs.«01_k».proof.Proof.Value.RefRun
public import Idealize.ShloMosaic.Lib.Claim
public import Idealize.ShloMosaic.Lib.StableHlo.ReadAt

@[expose] public section

set_option maxRecDepth 16384

noncomputable section

open Idealize.ShloMosaic Idealize.ShloMosaic.TcCoe Idealize.ShloMosaic.Pipeline

namespace Cert.KernelIdeal.Gen

variable (m : (ℓ : Loc nD τ sig) → Buf (Elt Ideal) ℓ) (ρ : Dev nD → PrngReg) (c : Dev nD)

/-- What no operation or launch before the second launch writes is there as launched. -/
theorem V3_arg (b : Ref sig .tc) (h : b ∈ argRefs) : V3 m ρ c b = m ((c : Thread nD τ).loc b) := W3_args m ρ c b h

/-- The second launch's bias is the argument as one row. -/
theorem V3_v7 (j : Fin 8192) : V3 m ρ c main_v7 (ix2 0 j) = m ((c : Thread nD τ).loc main_arg11) (ix1 j) := by
  show W3 m ρ c (Proc.devRef .tc main_v7) _ = _
  rw [W3_of m ρ c main_v7 (by decide), W2_of m ρ c main_v7 (by decide)]
  after_reads_at

/-- The first logits array at the end. -/
theorem W13_v18_0 : W13 m ρ c (Proc.devRef .tc main_v18_0) =
    logits (m ((c : Thread nD τ).loc main_arg0)) (m ((c : Thread nD τ).loc main_arg10)) (V3 m ρ c main_v7) := by
  rw [W13_of m ρ c main_v18_0 (by decide), W12_of m ρ c main_v18_0 (by decide), W11_of m ρ c main_v18_0 (by decide),
    W10_of m ρ c main_v18_0 (by decide), W9_of m ρ c main_v18_0 (by decide), W8_of m ρ c main_v18_0 (by decide),
    W7_of m ρ c main_v18_0 (by decide), W6_of m ρ c main_v18_0 (by decide), W5_of m ρ c main_v18_0 (by decide)]
  rw [← V3_arg m ρ c main_arg0 (by decide), ← V3_arg m ρ c main_arg10 (by decide), ← logits_q]
  exact W4_arr m ρ c 4

/-- The second logits array at the end. -/
theorem W13_v18_1 : W13 m ρ c (Proc.devRef .tc main_v18_1) =
    logits (m ((c : Thread nD τ).loc main_arg1)) (m ((c : Thread nD τ).loc main_arg10)) (V3 m ρ c main_v7) := by
  rw [W13_of m ρ c main_v18_1 (by decide), W12_of m ρ c main_v18_1 (by decide), W11_of m ρ c main_v18_1 (by decide),
    W10_of m ρ c main_v18_1 (by decide), W9_of m ρ c main_v18_1 (by decide), W8_of m ρ c main_v18_1 (by decide),
    W7_of m ρ c main_v18_1 (by decide), W6_of m ρ c main_v18_1 (by decide), W5_of m ρ c main_v18_1 (by decide)]
  rw [← V3_arg m ρ c main_arg1 (by decide), ← V3_arg m ρ c main_arg10 (by decide), ← logits_k]
  exact W4_arr m ρ c 5

end Cert.KernelIdeal.Gen

namespace Cert.ReferenceIdeal.Value

open Cert.ReferenceIdeal.Gen Idealize.ShloMosaic.StableHlo

variable (m : (ℓ : Loc nD τ sig) → Buf (Elt Ideal) ℓ) (c : Dev nD)

/-- The logits of a batch, as the reference names its shapes. -/
def refLogits (x : FVec Ideal S1024x2048 .f32) (W : FVec Ideal S2048x8192 .f32) (b : FVec Ideal S8192 .f32) : FVec Ideal S1024x8192 .f32 :=
  fun i => (∑ k : Fin 2048, x (ix2 (i 0) k) * W (ix2 k (i 1))) + b (ix1 (i 1))

/-- The reference's first logits array. -/
theorem final_v112 : final m c main_v112 =
    refLogits (m ((c.tc : Thread nD τ).loc main_arg0)) (m ((c.tc : Thread nD τ).loc main_arg10)) (m ((c.tc : Thread nD τ).loc main_arg11)) := by
  funext i
  rw [eq_ix2 i, final_entry m c main_v112 (by decide)]
  simp only [entryContents, afterL_cons, afterL_nil]
  after_reads_at
  rfl

/-- The reference's second logits array. -/
theorem final_v116 : final m c main_v116 =
    refLogits (m ((c.tc : Thread nD τ).loc main_arg1)) (m ((c.tc : Thread nD τ).loc main_arg10)) (m ((c.tc : Thread nD τ).loc main_arg11)) := by
  funext i
  rw [eq_ix2 i, final_entry m c main_v116 (by decide)]
  simp only [entryContents, afterL_cons, afterL_nil]
  after_reads_at
  rfl

end Cert.ReferenceIdeal.Value
-- ==== Proof.Value.Features.lean ====
/-
  The features of a batch as a formula: linear layer, batch norm over the rows, relu, linear layer, rows scaled to length one.
-/
module

public import Idealize.ShloMosaic.PureOps.Ideal
public import Mathlib.Algebra.BigOperators.Fin

@[expose] public section

noncomputable section

open Idealize.ShloMosaic

namespace Cert.Features

/-- The first linear layer. -/
def hidden (x : Fin 1024 → Fin 2048 → EReal) (W : Fin 2048 → EReal) (b : EReal) (r : Fin 1024) : EReal := (∑ k : Fin 2048, x r k * W k) + b

/-- The mean of a column. -/
def mean (h : Fin 1024 → EReal) : EReal := Ideal.div (∑ r : Fin 1024, h r) (Ideal.ofBits .f32 1149239296#32)

/-- The variance of a column about its mean. -/
def var (h : Fin 1024 → EReal) : EReal :=
  Ideal.div (∑ r : Fin 1024, (h r - mean h) * (h r - mean h)) (Ideal.ofBits .f32 1149239296#32)

/-- Batch norm of a column, then relu. -/
def act (h : Fin 1024 → EReal) (g be : EReal) (r : Fin 1024) : EReal :=
  max ((h r - mean h) * Ideal.rsqrt (var h + Ideal.ofBits .f32 925353388#32) * g + be) 0

/-- A row scaled to length one. -/
def unit (y : Fin 128 → EReal) (d : Fin 128) : EReal :=
  Ideal.div (y d) (max (Ideal.sqrt (∑ e : Fin 128, y e * y e)) (Ideal.ofBits .f32 730643660#32))

/-- The activations of a batch. -/
def acts (x : Fin 1024 → Fin 2048 → EReal) (W1 : Fin 2048 → Fin 2048 → EReal) (b1 g be : Fin 2048 → EReal) (r : Fin 1024) (k : Fin 2048) : EReal :=
  act (hidden x (fun l => W1 l k) (b1 k)) (g k) (be k) r

/-- The features of a batch. -/
def features (x : Fin 1024 → Fin 2048 → EReal) (W1 : Fin 2048 → Fin 2048 → EReal) (b1 g be : Fin 2048 → EReal) (W2 : Fin 2048 → Fin 128 → EReal)
    (b2 : Fin 128 → EReal) (r : Fin 1024) (d : Fin 128) : EReal :=
  unit (fun d => (∑ k : Fin 2048, acts x W1 b1 g be r k * W2 k d) + b2 d) d

end Cert.Features

end
-- ==== Proof.Value.Mlp.lean ====
/-
  Kernel call 0, `_mlp_body`: one point's share of the features.
-/
module

public import proofs.«01_k».proof.Proof.Run.Region0
public import proofs.«01_k».proof.Proof.Value.Features
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.Pipeline

namespace Cert.KernelIdeal.Gen

/-- One point's product at an index: the point's 256 columns of activations against its rows of the second layer. -/
theorem pay4_at (v0 : Vec Ideal S1x1024x2048 .f32) (v2 : Vec Ideal S2048x256 .f32) (v4 v24 v28 : Vec Ideal S1x256 .f32) (v34 : Vec Ideal S256x128 .f32)
    (r : Fin 1024) (d : Fin 128) : k0_pay4 v0 v2 v4 v24 v28 v34 (ix2 r d) =
      ∑ l : Fin 256, Features.act (Features.hidden (fun r k => v0 (ix3 0 r k)) (fun k => v2 (ix2 k l)) (v4 (ix2 0 l))) (v24 (ix2 0 l)) (v28 (ix2 0 l)) r * v34 (ix2 l d) := by
  pointwise [k0_pay4, Features.act, Features.hidden, Features.mean, Features.var]

/-- The rows scaled to length one. -/
theorem pay3_at (v : Vec Ideal S1x1024x128 .f32) (r : Fin 1024) (d : Fin 128) :
    k0_pay3 v (ix3 0 r d) = Features.unit (fun d => v (ix3 0 r d)) d := by
  pointwise [k0_pay3, Features.unit]

/-- A product added to what stands. -/
theorem pay2_at (u : FVec Ideal S1024x128 .f32) (v : Vec Ideal S1x1024x128 .f32) (r : Fin 1024) (d : Fin 128) :
    k0_pay2 u v (ix3 0 r d) = v (ix3 0 r d) + u (ix2 r d) := by
  pointwise [k0_pay2]

/-- The first product with the bias. -/
theorem pay1_at (u : FVec Ideal S1024x128 .f32) (v : Vec Ideal S1x128 .f32) (r : Fin 1024) (d : Fin 128) :
    k0_pay1 u v (ix3 0 r d) = u (ix2 r d) + v (ix2 0 d) := by
  pointwise [k0_pay1]

variable (V : (c : Dev nD) → (b : Ref sig .tc) → Buf (Elt Ideal) ((c : Thread nD τ).loc b)) (c : Dev nD)

/-- The second layer's bias. -/
def bias (d : Fin 128) : EReal := V c main_v6 (ix2 0 d)

/-- One point's share of the features before scaling. -/
def share (n : ℕ) (r : Fin 1024) (d : Fin 128) : EReal :=
  if h : n < 16 then k0_pay4 (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) (ix2 r d) else 0

/-- The share of a point, by any name of its number. -/
theorem share_at {n k : ℕ} (h : k < 16) (e : n = k) (r : Fin 1024) (d : Fin 128) : share V c n r d =
    k0_pay4 (iblk0 V c 0 ⟨k, h⟩) (iblk0 V c 1 ⟨k, h⟩) (iblk0 V c 2 ⟨k, h⟩) (iblk0 V c 3 ⟨k, h⟩) (iblk0 V c 4 ⟨k, h⟩) (iblk0 V c 5 ⟨k, h⟩) (ix2 r d) := by
  subst e
  rw [share, dif_pos h]

/-- Where each window stands at each point. -/
theorem index0 : ∀ t : Fin cfg0.N, win0_0.index t = ![t.val / 8, 0, 0] ∧ win0_1.index t = ![0, t.val % 8] ∧ win0_2.index t = ![0, t.val % 8]
    ∧ win0_3.index t = ![0, t.val % 8] ∧ win0_4.index t = ![0, t.val % 8] ∧ win0_5.index t = ![t.val % 8, 0] ∧ win0_6.index t = ![0, 0]
    ∧ win0_7.index t = ![t.val / 8, 0, 0] := by decide +kernel

/-- The bias block is the bias. -/
theorem iblk0_6_at (t : Fin cfg0.N) (d : Fin 128) : iblk0 V c 6 t (ix2 0 d) = bias V c d := by
  obtain ⟨e0, e1, e2, e3, e4, e5, e6, e7⟩ := index0 t
  unfold bias
  blk_ext [iblk0, e6]

/-- The running block before the last point of a batch: the bias and the shares so far. -/
theorem outs_acc (r : Fin 1024) (d : Fin 128) : ∀ (n : ℕ) (hn : n < cfg0.N), n % 8 ≠ 7 →
    outsAt0 V c n hn (ix3 0 r d) = bias V c d + ∑ s ∈ Finset.range (n % 8 + 1), share V c (8 * (n / 8) + s) r d := by
  intro n
  induction n with
  | zero =>
    intro hn h7
    have hA := outsAt0_A V c ⟨0, hn⟩ (by simp) (by simp) (by simp)
    rw [show outsAt0 V c 0 hn = _ from hA]
    frame_out
    rw [pay1_at, iblk0_6_at]
    rw [show 0 % 8 + 1 = 1 from rfl, Finset.sum_range_one, share_at V c hn rfl, add_comm]
  | succ n ih =>
    intro hn h7
    by_cases h0 : (n + 1) % 8 = 0
    · have hA := outsAt0_A V c ⟨n + 1, hn⟩ h0 (by simp [h0]) (by simp [h0])
      rw [show outsAt0 V c (n + 1) hn = _ from hA]
      frame_out
      rw [pay1_at, iblk0_6_at]
      have e : 8 * ((n + 1) / 8) = n + 1 := by omega
      have hn' : n + 1 < 16 := hn
      rw [h0, zero_add, Finset.sum_range_one, add_zero, share_at V c hn' e, add_comm]
    · have hB := outsAt0_B V c ⟨n + 1, hn⟩ h0 (Nat.one_le_iff_ne_zero.mpr h0) h7
      rw [show outsAt0 V c (n + 1) hn = _ from hB]
      frame_out
      rw [pay2_at]
      have e : (n + 1) % 8 = n % 8 + 1 := by omega
      have e' : (n + 1) / 8 = n / 8 := by omega
      have hn' : n + 1 < 16 := hn
      have hp := ih (by omega) (by omega)
      rw [e', e, Finset.sum_range_succ, ← add_assoc, ← hp]
      congr 1
      have e2 : 8 * (n / 8) + (n % 8 + 1) = n + 1 := by omega
      exact (share_at V c hn' e2 r d).symm

/-- The block at the last point of a batch: the whole sum, its rows scaled to length one. -/
theorem outs_C (t : Fin cfg0.N) (h : t.val % 8 = 7) (r : Fin 1024) (d : Fin 128) : outsAt0 V c t.val t.isLt (ix3 0 r d) =
    Features.unit (fun d => bias V c d + ∑ s ∈ Finset.range 8, share V c (8 * (t.val / 8) + s) r d) d := by
  rw [outsAt0_C V c t (by omega) (by omega) h]
  frame_out
  rw [pay3_at]
  congr 1
  funext d
  have ht : t.val < 16 := t.isLt
  have hp := outs_acc V c r d (t.val - 1) (Nat.lt_of_le_of_lt (Nat.sub_le _ _) t.isLt) (by omega)
  have e1 : (t.val - 1) % 8 + 1 = 7 := by omega
  have e2 : (t.val - 1) / 8 = t.val / 8 := by omega
  have e3 : 8 * (t.val / 8) + 7 = t.val := by omega
  rw [e1, e2] at hp
  rw [pay2_at, Finset.sum_range_succ, ← add_assoc, ← hp]
  congr 1
  exact (share_at V c ht e3 r d).symm

/-- The activations of batch `i` of the stack that the call reads. -/
def stackActs (i : Fin 2) : Fin 1024 → Fin 2048 → EReal :=
  Features.acts (fun r k => V c main_v2 (ix3 i r k)) (fun l k => V c main_arg4 (ix2 l k)) (fun k => V c main_v3 (ix2 0 k)) (fun k => V c main_v4 (ix2 0 k))
    (fun k => V c main_v5 (ix2 0 k))

/-- The second layer's weights. -/
def layer2 (k : Fin 2048) (d : Fin 128) : EReal := V c main_arg8 (ix2 k d)

/-- One point's share, of the arrays that the call reads. -/
theorem share_eq (i : Fin 2) (s : Fin 8) (r : Fin 1024) (d : Fin 128) : share V c (8 * i.val + s.val) r d =
    ∑ l : Fin 256, stackActs V c i r ⟨s.val * 256 + l.val, by omega⟩ * layer2 V c ⟨s.val * 256 + l.val, by omega⟩ d := by
  have hn : 8 * i.val + s.val < 16 := by omega
  rw [share_at V c hn rfl, pay4_at]
  obtain ⟨e0, e1, e2, e3, e4, e5, e6, e7⟩ := index0 ⟨8 * i.val + s.val, hn⟩
  have d1 : (8 * i.val + s.val) / 8 = i.val := by omega
  have d2 : (8 * i.val + s.val) % 8 = s.val := by omega
  simp only [d1, d2] at e0 e1 e2 e3 e4 e5
  refine Finset.sum_congr rfl fun l _ => ?_
  have q0 : ∀ (r : Fin 1024) (k : Fin 2048), iblk0 V c 0 ⟨8 * i.val + s.val, hn⟩ (ix3 0 r k) = V c main_v2 (ix3 i r k) := by
    intro r k; blk_ext [iblk0, e0]
  have q1 : ∀ (k : Fin 2048), iblk0 V c 1 ⟨8 * i.val + s.val, hn⟩ (ix2 k l) = V c main_arg4 (ix2 k ⟨s.val * 256 + l.val, by omega⟩) := by
    intro k; blk_ext [iblk0, e1]
  have q2 : iblk0 V c 2 ⟨8 * i.val + s.val, hn⟩ (ix2 0 l) = V c main_v3 (ix2 0 ⟨s.val * 256 + l.val, by omega⟩) := by
    blk_ext [iblk0, e2]
  have q3 : iblk0 V c 3 ⟨8 * i.val + s.val, hn⟩ (ix2 0 l) = V c main_v4 (ix2 0 ⟨s.val * 256 + l.val, by omega⟩) := by
    blk_ext [iblk0, e3]
  have q4 : iblk0 V c 4 ⟨8 * i.val + s.val, hn⟩ (ix2 0 l) = V c main_v5 (ix2 0 ⟨s.val * 256 + l.val, by omega⟩) := by
    blk_ext [iblk0, e4]
  have q5 : iblk0 V c 5 ⟨8 * i.val + s.val, hn⟩ (ix2 l d) = layer2 V c ⟨s.val * 256 + l.val, by omega⟩ d := by
    unfold layer2
    blk_ext [iblk0, e5]
  simp only [q0, q1, q2, q3, q4, q5, stackActs, Features.acts]

/-- The features of batch `i` of the stack that the call reads. -/
def stackFeatures (i : Fin 2) : Fin 1024 → Fin 128 → EReal :=
  Features.features (fun r k => V c main_v2 (ix3 i r k)) (fun l k => V c main_arg4 (ix2 l k)) (fun k => V c main_v3 (ix2 0 k)) (fun k => V c main_v4 (ix2 0 k))
    (fun k => V c main_v5 (ix2 0 k)) (layer2 V c) (bias V c)

/-- The eight shares of a batch make the whole product. -/
theorem shares (i : Fin 2) (r : Fin 1024) (d : Fin 128) : bias V c d + ∑ s ∈ Finset.range 8, share V c (8 * i.val + s) r d =
    (∑ k : Fin 2048, stackActs V c i r k * layer2 V c k d) + bias V c d := by
  rw [add_comm, Finset.sum_range]
  congr 1
  refine Fin.sum_mul_add_congr (F := fun s : Fin 8 => fun l : Fin 256 => stackActs V c i r ⟨s.val * 256 + l.val, by omega⟩ * layer2 V c ⟨s.val * 256 + l.val, by omega⟩ d) (fun s l hl => rfl) |>.symm.trans ?_ |>.symm
  exact Finset.sum_congr rfl fun s _ => (share_eq V c i s r d).symm

/-- The call's output array. -/
theorem features_arr : (dat0 V c).arrAt 7 cfg0.N = (fun y => stackFeatures V c (y 0) (y 1) (y 2) : FVec Ideal S2x1024x128 .f32) := by
  refine (dat0 V c).arrAt_eq_of_covers 7 _ (by decide +kernel) fun t hf y => ?_
  blk_simp
  rw [after0_7]
  have hm : t.val % 8 = 7 := (flush0_7 t).mp hf
  have ht : t.val < 16 := t.isLt
  obtain ⟨-, -, -, -, -, -, -, e7⟩ := index0 t
  obtain ⟨a, r, d, rfl⟩ : ∃ (a : Fin 1) (r : Fin 1024) (d : Fin 128), y = ix3 a r d := ⟨y 0, y 1, y 2, eq_ix3 y⟩
  obtain rfl : a = 0 := Subsingleton.elim _ _
  rw [outs_C V c t hm r d]
  have q : (win0_7.blk t).view.emb (ix3 0 r d) = ix3 (⟨t.val / 8, by omega⟩ : Fin 2) r d := by
    blk_ext [e7]
  rw [q]
  show _ = stackFeatures V c ⟨t.val / 8, by omega⟩ r d
  unfold stackFeatures Features.features
  congr 1
  funext d
  exact shares V c ⟨t.val / 8, by omega⟩ r d

end Cert.KernelIdeal.Gen
-- ==== Proof.Value.ExitFeatures.lean ====
/-
  The features that the later launches read, of the arguments as launched.
-/
module

public import proofs.«01_k».proof.Proof.Run.Fold
public import proofs.«01_k».proof.Proof.Value.Mlp
public import Idealize.ShloMosaic.Lib.Claim
public import Idealize.ShloMosaic.Lib.StableHlo.ReadAt

@[expose] public section

set_option maxRecDepth 16384

noncomputable section

open Idealize.ShloMosaic Idealize.ShloMosaic.TcCoe Idealize.ShloMosaic.Pipeline

namespace Cert.KernelIdeal.Gen

variable (m : (ℓ : Loc nD τ sig) → Buf (Elt Ideal) ℓ) (ρ : Dev nD → PrngReg) (c : Dev nD)

/-- The first half of the stack is the first batch. -/
theorem V1_v2_0 (r : Fin 1024) (k : Fin 2048) : V1 m ρ c main_v2 (ix3 0 r k) = m ((c : Thread nD τ).loc main_arg0) (ix2 r k) := by
  show W1 m ρ c (Proc.devRef .tc main_v2) _ = _
  after_reads_at

/-- The second half of the stack is the second batch. -/
theorem V1_v2_1 (r : Fin 1024) (k : Fin 2048) : V1 m ρ c main_v2 (ix3 1 r k) = m ((c : Thread nD τ).loc main_arg1) (ix2 r k) := by
  show W1 m ρ c (Proc.devRef .tc main_v2) _ = _
  after_reads_at

/-- The first layer's bias as one row. -/
theorem V1_v3 (k : Fin 2048) : V1 m ρ c main_v3 (ix2 0 k) = m ((c : Thread nD τ).loc main_arg5) (ix1 k) := by
  show W1 m ρ c (Proc.devRef .tc main_v3) _ = _
  after_reads_at

/-- The scale as one row. -/
theorem V1_v4 (k : Fin 2048) : V1 m ρ c main_v4 (ix2 0 k) = m ((c : Thread nD τ).loc main_arg6) (ix1 k) := by
  show W1 m ρ c (Proc.devRef .tc main_v4) _ = _
  after_reads_at

/-- The shift as one row. -/
theorem V1_v5 (k : Fin 2048) : V1 m ρ c main_v5 (ix2 0 k) = m ((c : Thread nD τ).loc main_arg7) (ix1 k) := by
  show W1 m ρ c (Proc.devRef .tc main_v5) _ = _
  after_reads_at

/-- The second layer's bias as one row. -/
theorem V1_v6 (k : Fin 128) : V1 m ρ c main_v6 (ix2 0 k) = m ((c : Thread nD τ).loc main_arg9) (ix1 k) := by
  show W1 m ρ c (Proc.devRef .tc main_v6) _ = _
  after_reads_at

/-- An argument is there as launched. -/
theorem V1_arg (b : Ref sig .tc) (h : b ∈ argRefs) : V1 m ρ c b = m ((c : Thread nD τ).loc b) := W1_args m ρ c b h

/-- The features of a batch, of the arguments. -/
def argFeatures (x : FVec Ideal S1024x2048 .f32) : Fin 1024 → Fin 128 → EReal :=
  Features.features (fun r k => x (ix2 r k)) (fun l k => m ((c : Thread nD τ).loc main_arg4) (ix2 l k)) (fun k => m ((c : Thread nD τ).loc main_arg5) (ix1 k))
    (fun k => m ((c : Thread nD τ).loc main_arg6) (ix1 k)) (fun k => m ((c : Thread nD τ).loc main_arg7) (ix1 k))
    (fun k d => m ((c : Thread nD τ).loc main_arg8) (ix2 k d)) (fun d => m ((c : Thread nD τ).loc main_arg9) (ix1 d))

/-- The first launch's features of the first batch. -/
theorem stackFeatures_0 : stackFeatures (V1 m ρ) c 0 = argFeatures m c (m ((c : Thread nD τ).loc main_arg0)) := by
  unfold stackFeatures argFeatures layer2 bias
  simp only [V1_arg m ρ c main_arg4 (by decide), V1_arg m ρ c main_arg8 (by decide)]
  congr 1
  · funext r k; exact V1_v2_0 m ρ c r k
  · funext k; exact V1_v3 m ρ c k
  · funext k; exact V1_v4 m ρ c k
  · funext k; exact V1_v5 m ρ c k
  · funext k; exact V1_v6 m ρ c k

/-- The first launch's features of the second batch. -/
theorem stackFeatures_1 : stackFeatures (V1 m ρ) c 1 = argFeatures m c (m ((c : Thread nD τ).loc main_arg1)) := by
  unfold stackFeatures argFeatures layer2 bias
  simp only [V1_arg m ρ c main_arg4 (by decide), V1_arg m ρ c main_arg8 (by decide)]
  congr 1
  · funext r k; exact V1_v2_1 m ρ c r k
  · funext k; exact V1_v3 m ρ c k
  · funext k; exact V1_v4 m ρ c k
  · funext k; exact V1_v5 m ρ c k
  · funext k; exact V1_v6 m ρ c k

/-- The first launch's output array. -/
theorem W2_v13 (i : Fin 2) (r : Fin 1024) (d : Fin 128) : W2 m ρ c (Proc.devRef .tc main_v13) (ix3 i r d) = stackFeatures (V1 m ρ) c i r d := by
  have h : W2 m ρ c (Proc.devRef .tc main_v13) = (fun y => stackFeatures (V1 m ρ) c (y 0) (y 1) (y 2) : FVec Ideal S2x1024x128 .f32) := by
    rw [← features_arr]
    exact W2_arr m ρ c 7
  rw [h]
  rfl

/-- The features of the first batch. -/
theorem W3_v15 (r : Fin 1024) (d : Fin 128) : W3 m ρ c (Proc.devRef .tc main_v15) (ix2 r d) = argFeatures m c (m ((c : Thread nD τ).loc main_arg0)) r d := by
  rw [← stackFeatures_0 m ρ c, ← W2_v13 m ρ c 0 r d]
  after_reads_at

/-- The features of the second batch. -/
theorem W3_v17 (r : Fin 1024) (d : Fin 128) : W3 m ρ c (Proc.devRef .tc main_v17) (ix2 r d) = argFeatures m c (m ((c : Thread nD τ).loc main_arg1)) r d := by
  rw [← stackFeatures_1 m ρ c, ← W2_v13 m ρ c 1 r d]
  after_reads_at

end Cert.KernelIdeal.Gen
-- ==== Proof.Value.Poslist.lean ====
/-
  Kernel call 2, `_poslist_body`: each row's products with its own class's columns of the positive queue.
-/
module

public import proofs.«01_k».proof.Proof.Run.Region2
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.Pipeline

namespace Cert.KernelIdeal.Gen

/-- A point's class number as a word. -/
theorem class_word (i j a : ℕ) (hi : i < 2) (hj : j < 32) (ha : a < 128) (L : BitVec 32) :
    IntOp.cmpi CmpIPredicate.eq (IntOp.addi (Scalar.muli (Scalar.addi (Scalar.muli (BitVec.ofNat 32 i) 32#32) (BitVec.ofNat 32 j)) 128#32) (BitVec.ofNat 32 a)) L
      = BitVec.ofBool (decide ((i * 32 + j) * 128 + a = L.toNat)) := by
  have h : IntOp.addi (Scalar.muli (Scalar.addi (Scalar.muli (BitVec.ofNat 32 i) 32#32) (BitVec.ofNat 32 j)) 128#32) (BitVec.ofNat 32 a)
      = BitVec.ofNat 32 ((i * 32 + j) * 128 + a) := by
    show (BitVec.ofNat 32 i * BitVec.ofNat 32 32 + BitVec.ofNat 32 j) * BitVec.ofNat 32 128 + BitVec.ofNat 32 a = _
    simp only [← BitVec.ofNat_mul, ← BitVec.ofNat_add]
  rw [h, WordCmp.cmpi_eq_eq_toNat]
  have e : (BitVec.ofNat 32 ((i * 32 + j) * 128 + a)).toNat = (i * 32 + j) * 128 + a := by
    rw [BitVec.toNat_ofNat, Nat.mod_eq_of_lt (by omega)]
  rw [e]

/-- One point's products: of its 128 classes, each row's own. -/
theorem pay2_1_at (i : grid2.Coords) (v2 : Vec Ideal S128x1024 .f32) (v3 : Vec Ideal S1024x128 .f32) (v11 : Vec Ideal S1x1024 .i32)
    (p : Fin 8) (b : Fin 1024) : k2_pay1 i v2 v3 v11 (ix2 p b) =
      ∑ a : Fin 128, if ((i 0).val * 32 + (i 1).val) * 128 + a.val = BitVec.toNat (v11 (ix2 0 b) : BitVec 32) then
        ∑ d : Fin 128, v2 (ix2 d ⟨a.val * 8 + p.val, by omega⟩) * v3 (ix2 b d) else 0 := by
  pointwise [k2_pay1]
  refine Finset.sum_congr rfl fun a _ => ?_
  rw [class_word _ _ _ (i 0).isLt (i 1).isLt a.isLt, WordCmp.select_ofBool]
  simp only [decide_eq_true_eq]

/-- The first point of a run stores its products. -/
theorem pay2_2_at (i : grid2.Coords) (v2 : Vec Ideal S128x1024 .f32) (v3 : Vec Ideal S1024x128 .f32) (v11 : Vec Ideal S1x1024 .i32)
    (p : Fin 8) (b : Fin 1024) : k2_pay2 i v2 v3 v11 (ix3 0 p b) = k2_pay1 i v2 v3 v11 (ix2 p b) := by
  pointwise [k2_pay2]

/-- A later point adds its products. -/
theorem pay2_3_at (i : grid2.Coords) (v2 : Vec Ideal S128x1024 .f32) (v3 : Vec Ideal S1024x128 .f32) (v11 : Vec Ideal S1x1024 .i32) (v27 : Vec Ideal S1x8x1024 .f32)
    (p : Fin 8) (b : Fin 1024) : k2_pay3 i v2 v3 v11 v27 (ix3 0 p b) = v27 (ix3 0 p b) + k2_pay1 i v2 v3 v11 (ix2 p b) := by
  pointwise [k2_pay3]

variable (V : (c : Dev nD) → (b : Ref sig .tc) → Buf (Elt Ideal) ((c : Thread nD τ).loc b)) (c : Dev nD)

/-- A row's label. -/
def rowLabel (b : Fin 1024) : ℕ := BitVec.toNat (V c main_v8 (ix2 0 b) : BitVec 32)

/-- The positive queue. -/
def posQueue (d : Fin 128) (q : Fin 65536) : EReal := V c main_arg13 (ix2 d q)

/-- The features of the rows. -/
def rowFeatures (b : Fin 1024) (d : Fin 128) : EReal := V c main_v15 (ix2 b d)

/-- A row's product with a column of its own class. -/
def own (p : Fin 8) (b : Fin 1024) : EReal :=
  ∑ d : Fin 128, posQueue V c d ⟨(rowLabel V c b * 8 + p.val) % 65536, Nat.mod_lt _ (by decide)⟩ * rowFeatures V c b d

/-- Where each window stands at each point. -/
theorem index2 : ∀ t : Fin cfg2.N, win2_0.index t = ![0, t.val] ∧ win2_1.index t = ![0, 0] ∧ win2_2.index t = ![0, 0]
    ∧ win2_3.index t = ![t.val / 32, 0, 0] := by decide +kernel

/-- A point's number, of its coordinates. -/
theorem point2 : ∀ t : Fin cfg2.N, (grid2.coords t 0).val * 32 + (grid2.coords t 1).val = t.val := by decide +kernel

/-- One point's products, of the arrays that the call reads. -/
theorem point_own (t : Fin cfg2.N) (p : Fin 8) (b : Fin 1024) :
    k2_pay1 (grid2.coords t) (iblk2 V c 0 t) (iblk2 V c 1 t) (iblk2 V c 2 t) (ix2 p b) = if rowLabel V c b / 128 = t.val then own V c p b else 0 := by
  have ht : t.val < 64 := t.isLt
  obtain ⟨e0, e1, e2, e3⟩ := index2 t
  rw [pay2_1_at, point2 t]
  have q2 : iblk2 V c 2 t (ix2 0 b) = V c main_v8 (ix2 0 b) := by blk_ext [iblk2, e2]
  have q0 : ∀ (d : Fin 128) (k : Fin 1024), iblk2 V c 0 t (ix2 d k) = posQueue V c d ⟨t.val * 1024 + k.val, by omega⟩ := by
    intro d k; unfold posQueue; blk_ext [iblk2, e0]
  have q1 : ∀ (d : Fin 128), iblk2 V c 1 t (ix2 b d) = rowFeatures V c b d := by
    intro d; unfold rowFeatures; blk_ext [iblk2, e1]
  simp only [q0, q1]
  have hL : BitVec.toNat (iblk2 V c 2 t (ix2 0 b) : BitVec 32) = rowLabel V c b := by rw [q2]; rfl
  rw [hL]
  by_cases h : rowLabel V c b / 128 = t.val
  · rw [if_pos h, Finset.sum_eq_single (⟨rowLabel V c b % 128, Nat.mod_lt _ (by decide)⟩ : Fin 128)]
    · have hd : t.val * 128 + rowLabel V c b % 128 = rowLabel V c b := by omega
      rw [if_pos hd]
      unfold own
      refine Finset.sum_congr rfl fun d _ => ?_
      congr 2
      apply Fin.ext
      show t.val * 1024 + (rowLabel V c b % 128 * 8 + p.val) = (rowLabel V c b * 8 + p.val) % 65536
      omega
    · intro a _ ha
      refine if_neg fun e => ha (Fin.ext ?_)
      show a.val = rowLabel V c b % 128
      omega
    · intro h'
      exact absurd (Finset.mem_univ _) h'
  · rw [if_neg h]
    refine Finset.sum_eq_zero fun a _ => if_neg fun e => h ?_
    omega

/-- A run of points so far: a row's product if its class has come up. -/
theorem outs_own (p : Fin 8) (b : Fin 1024) : ∀ (n : ℕ) (hn : n < cfg2.N),
    outsAt2 V c n hn (ix3 0 p b) = if 32 * (n / 32) ≤ rowLabel V c b / 128 ∧ rowLabel V c b / 128 ≤ n then own V c p b else 0 := by
  intro n
  induction n with
  | zero =>
    intro hn
    have hA := outsAt2_A V c ⟨0, hn⟩ (by simp) (by simp)
    rw [show outsAt2 V c 0 hn = _ from hA]
    frame_out
    rw [pay2_2_at, point_own]
    refine if_congr ?_ rfl rfl
    show _ = 0 ↔ _
    omega
  | succ n ih =>
    intro hn
    by_cases h0 : (n + 1) % 32 = 0
    · have hA := outsAt2_A V c ⟨n + 1, hn⟩ h0 (by simp [h0])
      rw [show outsAt2 V c (n + 1) hn = _ from hA]
      frame_out
      rw [pay2_2_at, point_own]
      refine if_congr ?_ rfl rfl
      show _ = n + 1 ↔ _
      omega
    · have hB := outsAt2_B V c ⟨n + 1, hn⟩ h0 (Nat.one_le_iff_ne_zero.mpr h0)
      rw [show outsAt2 V c (n + 1) hn = _ from hB]
      frame_out
      have hp := ih (by omega)
      rw [pay2_3_at, point_own]
      show outsAt2 V c n _ (ix3 0 p b) + (if _ = n + 1 then _ else _) = _
      rw [hp]
      by_cases h1 : rowLabel V c b / 128 = n + 1
      · rw [if_neg (by omega), if_pos h1, if_pos (by omega), zero_add]
      · rw [if_neg h1, add_zero]
        exact if_congr (by omega) rfl rfl

/-- The call's output array. -/
theorem poslist_arr : (dat2 V c).arrAt 3 cfg2.N = (fun y => if rowLabel V c (y 2) / 4096 = (y 0).val then own V c (y 1) (y 2) else 0 : FVec Ideal S2x8x1024 .f32) := by
  refine (dat2 V c).arrAt_eq_of_covers 3 _ (by decide +kernel) fun t hf y => ?_
  blk_simp
  rw [after2_3]
  have hm : t.val % 32 = 31 := (flush2_3 t).mp hf
  have ht : t.val < 64 := t.isLt
  obtain ⟨-, -, -, e3⟩ := index2 t
  obtain ⟨a, p, b, rfl⟩ : ∃ (a : Fin 1) (p : Fin 8) (b : Fin 1024), y = ix3 a p b := ⟨y 0, y 1, y 2, eq_ix3 y⟩
  obtain rfl : a = 0 := Subsingleton.elim _ _
  rw [outs_own V c p b t.val t.isLt]
  have q : (win2_3.blk t).view.emb (ix3 0 p b) = ix3 (⟨t.val / 32, by omega⟩ : Fin 2) p b := by
    blk_ext [e3]
  rw [q]
  show _ = if rowLabel V c b / 4096 = win2_3.index t 0 then own V c p b else 0
  refine if_congr ?_ rfl rfl
  rw [e3]
  show _ ↔ _ = t.val / 32
  omega

end Cert.KernelIdeal.Gen
-- ==== Proof.Value.Simcon.lean ====
/-
  Kernel call 4, `_simcon_body`: the contrast rows and their labels.
-/
module

public import proofs.«01_k».proof.Proof.Run.Region4
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.Pipeline

namespace Cert.KernelIdeal.Gen

/-- The similarity of two batches' rows. -/
theorem pay4_3_at (v0 v12 : Vec Ideal S1024x128 .f32) (b j : Fin 1024) :
    k4_pay3 v0 v12 (ix2 b j) = ∑ d : Fin 128, v0 (ix2 b d) * v12 (ix2 j d) := by
  pointwise [k4_pay3, k4_pay1]

/-- One where two labels agree. -/
theorem pay4_4_at (v16 : Vec Ideal S1024x1 .i32) (v18 : Vec Ideal S1x1024 .i32) (b j : Fin 1024) :
    k4_pay4 (F := Ideal) v16 v18 (ix2 b j) = if BitVec.toNat (v16 (ix2 b 0) : BitVec 32) = BitVec.toNat (v18 (ix2 0 j) : BitVec 32) then (1 : EReal) else 0 := by
  pointwise [k4_pay4]
  rw [WordCmp.cmpi_eq_eq_toNat, WordCmp.select_ofBool]
  simp only [decide_eq_true_eq]

/-- A point's column number as a word. -/
theorem col_word (i j : ℕ) : IntOp.addi (Scalar.muli (BitVec.ofNat 32 i) 1024#32) (BitVec.ofNat 32 j) = BitVec.ofNat 32 (i * 1024 + j) := by
  show BitVec.ofNat 32 i * BitVec.ofNat 32 1024 + BitVec.ofNat 32 j = _
  simp only [← BitVec.ofNat_mul, ← BitVec.ofNat_add]

/-- Where the eight columns of the own class stand. -/
theorem pay4_5_at (i : grid4.Coords) (b j : Fin 1024) :
    k4_pay5 i (ix2 b j) = BitVec.ofBool (decide (1024 ≤ (i 0).val * 1024 + j.val ∧ (i 0).val * 1024 + j.val < 1032)) := by
  have hi : (i 0).val < 34 := (i 0).isLt
  pointwise [k4_pay5, k4_pay2]
  rw [col_word, WordCmp.cmpi_sge_ofNat (by omega) (by omega), WordCmp.cmpi_slt_ofNat (by omega) (by omega)]
  by_cases h1 : 1024 ≤ (i 0).val * 1024 + j.val <;> by_cases h2 : (i 0).val * 1024 + j.val < 1032 <;> simp [h1, h2] <;> rfl

/-- Where the columns before a label's own are. -/
theorem before_word (n : ℕ) (hn : n < 65536) (L : BitVec 32) (hL : L.toNat < 8192) :
    IntOp.cmpi CmpIPredicate.slt (BitVec.ofNat 32 n) (IntOp.addi (1032#32) (IntOp.muli (4#32) L)) = BitVec.ofBool (decide (n < 1032 + 4 * L.toNat)) := by
  have h : IntOp.addi (1032#32) (IntOp.muli (4#32) L) = BitVec.ofNat 32 (1032 + 4 * L.toNat) := by
    show BitVec.ofNat 32 1032 + BitVec.ofNat 32 4 * L = _
    have hx : L = BitVec.ofNat 32 L.toNat := by simp
    conv_lhs => rw [hx]
    simp only [← BitVec.ofNat_mul, ← BitVec.ofNat_add]
  rw [h, WordCmp.cmpi_slt_ofNat (by omega) (by omega)]

/-- A later point's similarities at an index. -/
theorem pay4_6_at (i : grid4.Coords) (v0 : Vec Ideal S1024x128 .f32) (v14 : Vec Ideal S128x1152 .f32) (v19 : Vec Ideal S1024x1 .i32) (v34 : Vec Ideal S1024x8 .f32)
    (b j : Fin 1024) (hL : BitVec.toNat (v19 (ix2 b 0) : BitVec 32) < 8192) :
    k4_pay6 i v0 v14 v19 v34 (ix2 b j) =
      if 1024 ≤ (i 0).val * 1024 + j.val ∧ (i 0).val * 1024 + j.val < 1032 then v34 (ix2 b ⟨j.val % 8, Nat.mod_lt _ (by decide)⟩)
      else if (i 0).val * 1024 + j.val < 1032 + 4 * BitVec.toNat (v19 (ix2 b 0) : BitVec 32) then ∑ d : Fin 128, v0 (ix2 b d) * v14 (ix2 d ⟨j.val, by omega⟩)
      else ∑ d : Fin 128, v0 (ix2 b d) * v14 (ix2 d ⟨4 + j.val, by omega⟩) := by
  have hi : (i 0).val < 34 := (i 0).isLt
  pointwise [k4_pay6, k4_pay1, k4_pay2]
  rw [pay4_5_at, col_word, before_word _ (by omega) _ hL, WordCmp.select_ofBool, WordCmp.select_ofBool]
  simp only [decide_eq_true_eq]
  split_ifs with h1 h2
  · rw [Finset.sum_eq_single (⟨j.val % 8, Nat.mod_lt _ (by decide)⟩ : Fin 8)]
    · rw [WordCmp.cmpi_eq_ofNat (by show j.val % 8 < _; omega) (by omega), WordCmp.select_ofBool, if_pos]
      simp only [decide_eq_true_eq]
      omega
    · intro x _ hx
      rw [WordCmp.cmpi_eq_ofNat (by omega) (by omega), WordCmp.select_ofBool, if_neg]
      simp only [decide_eq_true_eq]
      intro e
      apply hx
      apply Fin.ext
      show x.val = j.val % 8
      omega
    · intro h
      exact absurd (Finset.mem_univ _) h
  · rfl
  · rfl

/-- A later point's labels at an index. -/
theorem pay4_7_at (i : grid4.Coords) (b j : Fin 1024) :
    k4_pay7 (F := Ideal) i (ix2 b j) = if 1024 ≤ (i 0).val * 1024 + j.val ∧ (i 0).val * 1024 + j.val < 1032 then (1 : EReal) else 0 := by
  pointwise [k4_pay7]
  rw [pay4_5_at, WordCmp.select_ofBool]
  simp only [decide_eq_true_eq]

variable (V : (c : Dev nD) → (b : Ref sig .tc) → Buf (Elt Ideal) ((c : Thread nD τ).loc b)) (c : Dev nD)

/-- A row's label. -/
def simLabel (b : Fin 1024) : ℕ := BitVec.toNat (V c main_v9 (ix2 b 0) : BitVec 32)

/-- A column's label. -/
def colLabel (j : Fin 1024) : ℕ := BitVec.toNat (V c main_v10 (ix2 0 j) : BitVec 32)

/-- The features of the rows. -/
def simQ (b : Fin 1024) (d : Fin 128) : EReal := V c main_v15 (ix2 b d)

/-- The features of the other batch. -/
def simK (b : Fin 1024) (d : Fin 128) : EReal := V c main_v17 (ix2 b d)

/-- The rows' products with their own class. -/
def simPos (b : Fin 1024) (p : Fin 8) : EReal := V c main_v25 (ix2 b p)

/-- The padded negative queue. -/
def simNeg (d : Fin 128) (n : ℕ) : EReal := V c main_v28 (ix2 d ⟨n % 34944, Nat.mod_lt _ (by decide)⟩)

/-- A contrast row at a column. -/
def simAt (b : Fin 1024) (n : ℕ) : EReal :=
  if h : n < 1024 then ∑ d : Fin 128, simQ V c b d * simK V c ⟨n, h⟩ d
  else if n < 1032 then simPos V c b ⟨n % 8, Nat.mod_lt _ (by decide)⟩
  else if n < 1032 + 4 * simLabel V c b then ∑ d : Fin 128, simQ V c b d * simNeg V c d n
  else ∑ d : Fin 128, simQ V c b d * simNeg V c d (4 + n)

/-- A contrast row's label at a column. -/
def labAt (b : Fin 1024) (n : ℕ) : EReal :=
  if h : n < 1024 then if simLabel V c b = colLabel V c ⟨n, h⟩ then 1 else 0
  else if n < 1032 then 1 else 0

/-- Where each window stands at each point. -/
theorem index4 : ∀ t : Fin cfg4.N, win4_0.index t = ![0, 0] ∧ win4_1.index t = ![0, 0] ∧ win4_2.index t = ![0, 0] ∧ win4_3.index t = ![0, 0] ∧ win4_4.index t = ![0, 0] ∧ win4_5.index t = ![0, 0]
    ∧ win4_6.index t = ![0, t.val] ∧ win4_7.index t = ![0, t.val] := by decide +kernel

/-- A point's coordinate is its number. -/
theorem point4 : ∀ t : Fin cfg4.N, (grid4.coords t 0).val = t.val := by decide +kernel

/-- Where a later point reads the padded queue. -/
theorem off4 : ∀ t : Fin cfg4.N, k4_off1 (grid4.coords t) = ![0, t.val * 1024] := by decide +kernel

/-- The row labels' block. -/
theorem iblk4_3_at (t : Fin cfg4.N) (b : Fin 1024) : BitVec.toNat (iblk4 V c 3 t (ix2 b 0) : BitVec 32) = simLabel V c b := by
  obtain ⟨e0, e1, e2, e3, e4, e5, e6, e7⟩ := index4 t
  have q : iblk4 V c 3 t (ix2 b 0) = V c main_v9 (ix2 b 0) := by blk_ext [iblk4, e3]
  rw [q]; rfl

/-- The column labels' block. -/
theorem iblk4_4_at (t : Fin cfg4.N) (b : Fin 1024) : BitVec.toNat (iblk4 V c 4 t (ix2 0 b) : BitVec 32) = colLabel V c b := by
  obtain ⟨e0, e1, e2, e3, e4, e5, e6, e7⟩ := index4 t
  have q : iblk4 V c 4 t (ix2 0 b) = V c main_v10 (ix2 0 b) := by blk_ext [iblk4, e4]
  rw [q]; rfl

/-- The first result's block at a point. -/
theorem outs_sim (hL : ∀ b, simLabel V c b < 8192) (t : Fin cfg4.N) (b j : Fin 1024) :
    (outsAt4 V c t.val t.isLt).1 (ix2 b j) = simAt V c b (t.val * 1024 + j.val) := by
  have ht : t.val < 34 := t.isLt
  obtain ⟨e0, e1, e2, e3, e4, e5, e6, e7⟩ := index4 t
  have q1 : ∀ (d : Fin 128), iblk4 V c 1 t (ix2 b d) = simQ V c b d := by
    intro d; unfold simQ; blk_ext [iblk4, e1]
  have q2 : ∀ (d : Fin 128), iblk4 V c 2 t (ix2 j d) = simK V c j d := by
    intro d; unfold simK; blk_ext [iblk4, e2]
  by_cases h0 : t.val % 34 = 0
  · have hA := outsAt4_A V c t h0 (by omega)
    rw [show outsAt4 V c t.val t.isLt = _ from hA]
    frame_out
    have h1 : t.val * 1024 + j.val < 1024 := by omega
    rw [pay4_3_at, simAt, dif_pos h1]
    simp only [q1, q2]
    refine Finset.sum_congr rfl fun d _ => ?_
    congr 2
    apply Fin.ext
    show j.val = t.val * 1024 + j.val
    omega
  · have hB := outsAt4_B V c t h0 (by omega)
    rw [show outsAt4 V c t.val t.isLt = _ from hB]
    frame_out
    have q5 : ∀ (p : Fin 8), iblk4 V c 5 t (ix2 b p) = simPos V c b p := by
      intro p; unfold simPos; blk_ext [iblk4, e5]
    have q0 : ∀ (d : Fin 128) (n : ℕ) (hn : n < 34944), iblk4 V c 0 t (ix2 d ⟨n, hn⟩) = simNeg V c d n := by
      intro d n hn
      unfold simNeg
      have e : n % 34944 = n := Nat.mod_eq_of_lt hn
      simp only [e]
      blk_ext [iblk4, e0]
    have ql : ∀ (d : Fin 128) (k : Fin 1152) (hinb), View.ld (iblk4 V c 0 t) (Rect.unit (s := S128x34944) (k4_off1 (grid4.coords t)) ![128, 1152] hinb) (ix2 d k)
        = simNeg V c d (t.val * 1024 + k.val) := by
      intro d k hinb
      rw [← q0 d (t.val * 1024 + k.val) (by omega)]
      refine View.ld_unit_apply_of _ _ _ _ _ _ fun a => ?_
      have o := off4 t
      fin_cases a
      · show d.val = k4_off1 (grid4.coords t) 0 + d.val
        rw [o]
        show d.val = 0 + d.val
        omega
      · show t.val * 1024 + k.val = k4_off1 (grid4.coords t) 1 + k.val
        rw [o]
        rfl
    rw [pay4_6_at _ _ _ _ _ _ _ (by rw [iblk4_3_at]; exact hL b)]
    have h1 : ¬ t.val * 1024 + j.val < 1024 := by omega
    rw [simAt, dif_neg h1, iblk4_3_at, point4 t]
    simp only [q1, q5, ql]
    refine if_congr (by omega) ?_ (if_congr Iff.rfl rfl ?_)
    · congr 1
      apply Fin.ext
      show j.val % 8 = (t.val * 1024 + j.val) % 8
      omega
    · refine Finset.sum_congr rfl fun d _ => ?_
      congr 2
      show t.val * 1024 + (4 + j.val) = 4 + (t.val * 1024 + j.val)
      omega

/-- The second result's block at a point. -/
theorem outs_lab (t : Fin cfg4.N) (b j : Fin 1024) :
    (outsAt4 V c t.val t.isLt).2 (ix2 b j) = labAt V c b (t.val * 1024 + j.val) := by
  have ht : t.val < 34 := t.isLt
  by_cases h0 : t.val % 34 = 0
  · have hA := outsAt4_A V c t h0 (by omega)
    rw [show outsAt4 V c t.val t.isLt = _ from hA]
    frame_out
    have h1 : t.val * 1024 + j.val < 1024 := by omega
    rw [pay4_4_at, labAt, dif_pos h1, iblk4_3_at, iblk4_4_at]
    have e : j = ⟨t.val * 1024 + j.val, h1⟩ := by
      apply Fin.ext
      show j.val = t.val * 1024 + j.val
      omega
    rw [← e]
  · have hB := outsAt4_B V c t h0 (by omega)
    rw [show outsAt4 V c t.val t.isLt = _ from hB]
    frame_out
    have h1 : ¬ t.val * 1024 + j.val < 1024 := by omega
    rw [pay4_7_at, labAt, dif_neg h1, point4 t]
    exact if_congr (by omega) rfl rfl

/-- The first result array. -/
theorem sim_arr (hL : ∀ b, simLabel V c b < 8192) : (dat4 V c).arrAt 6 cfg4.N = (fun y => simAt V c (y 0) (y 1).val : FVec Ideal S1024x33796 .f32) := by
  refine (dat4 V c).arrAt_eq_of_covers 6 _ (by decide +kernel) fun t hf y => ?_
  blk_simp
  rw [after4_6]
  obtain ⟨e0, e1, e2, e3, e4, e5, e6, e7⟩ := index4 t
  obtain ⟨b, j, hy⟩ : ∃ (b j : Fin 1024), (cfg4.win 6).xinj (cfg4.grid.coords t) y = ix2 b j := ⟨_, _, eq_ix2 _⟩
  have hb : (y 0).val = b.val := congrArg (fun z : S1024x1024.Idx => (z 0).val) hy
  have hj : (y 1).val = j.val := congrArg (fun z : S1024x1024.Idx => (z 1).val) hy
  rw [hy]
  refine (outs_sim V c hL t b j).trans ?_
  have a0 : b = (win4_6.blk t).view.emb y 0 := by
    apply Fin.ext
    blk_simp [e6]
    exact hb.symm
  have a1 : t.val * 1024 + j.val = win4_6.index t 1 * 1024 + (y 1).val := by
    rw [e6, hj]
    rfl
  exact congrArg₂ (simAt V c) a0 a1

/-- The second result array. -/
theorem lab_arr : (dat4 V c).arrAt 7 cfg4.N = (fun y => labAt V c (y 0) (y 1).val : FVec Ideal S1024x33796 .f32) := by
  refine (dat4 V c).arrAt_eq_of_covers 7 _ (by decide +kernel) fun t hf y => ?_
  blk_simp
  rw [after4_7]
  obtain ⟨e0, e1, e2, e3, e4, e5, e6, e7⟩ := index4 t
  obtain ⟨b, j, hy⟩ : ∃ (b j : Fin 1024), (cfg4.win 7).xinj (cfg4.grid.coords t) y = ix2 b j := ⟨_, _, eq_ix2 _⟩
  have hb : (y 0).val = b.val := congrArg (fun z : S1024x1024.Idx => (z 0).val) hy
  have hj : (y 1).val = j.val := congrArg (fun z : S1024x1024.Idx => (z 1).val) hy
  rw [hy]
  refine (outs_lab V c t b j).trans ?_
  have a0 : b = (win4_7.blk t).view.emb y 0 := by
    apply Fin.ext
    blk_simp [e7]
    exact hb.symm
  have a1 : t.val * 1024 + j.val = win4_7.index t 1 * 1024 + (y 1).val := by
    rw [e7, hj]
    rfl
  exact congrArg₂ (labAt V c) a0 a1

end Cert.KernelIdeal.Gen
-- ==== Proof.Value.ExitContrast.lean ====
/-
  The contrast rows and their labels at the kernel's end, of the arguments as launched.
-/
module

public import proofs.«01_k».proof.Proof.Value.ExitFeatures
public import proofs.«01_k».proof.Proof.Value.Poslist
public import proofs.«01_k».proof.Proof.Value.Simcon

@[expose] public section

set_option maxRecDepth 16384

noncomputable section

open Idealize.ShloMosaic Idealize.ShloMosaic.TcCoe Idealize.ShloMosaic.Pipeline

namespace Cert.KernelIdeal.Gen

variable (m : (ℓ : Loc nD τ sig) → Buf (Elt Ideal) ℓ) (ρ : Dev nD → PrngReg) (c : Dev nD)

/-- The first batch's labels as one row. -/
theorem W1_v8 (b : Fin 1024) : W1 m ρ c (Proc.devRef .tc main_v8) (ix2 0 b) = m ((c : Thread nD τ).loc main_arg2) (ix1 b) := by
  after_reads_at

/-- The first batch's labels as one column. -/
theorem W1_v9 (b : Fin 1024) : W1 m ρ c (Proc.devRef .tc main_v9) (ix2 b 0) = m ((c : Thread nD τ).loc main_arg2) (ix1 b) := by
  after_reads_at

/-- The second batch's labels as one row. -/
theorem W1_v10 (b : Fin 1024) : W1 m ρ c (Proc.devRef .tc main_v10) (ix2 0 b) = m ((c : Thread nD τ).loc main_arg3) (ix1 b) := by
  after_reads_at

/-- The label of a row, as a number. -/
def argLabel (b : Fin 1024) : ℕ := BitVec.toNat (m ((c : Thread nD τ).loc main_arg2) (ix1 b) : BitVec 32)

/-- The label of a second batch's row, as a number. -/
def argLabelK (b : Fin 1024) : ℕ := BitVec.toNat (m ((c : Thread nD τ).loc main_arg3) (ix1 b) : BitVec 32)

theorem V4_rowLabel (b : Fin 1024) : rowLabel (V4 m ρ) c b = argLabel m c b := by
  unfold rowLabel argLabel
  rw [← W1_v8 m ρ c b]
  show BitVec.toNat (W4 m ρ c (Proc.devRef .tc main_v8) (ix2 0 b)) = _
  rw [W4_of m ρ c main_v8 (by decide), W3_of m ρ c main_v8 (by decide), W2_of m ρ c main_v8 (by decide)]

theorem V9_simLabel (b : Fin 1024) : simLabel (V9 m ρ) c b = argLabel m c b := by
  unfold simLabel argLabel
  rw [← W1_v9 m ρ c b]
  show BitVec.toNat (W9 m ρ c (Proc.devRef .tc main_v9) (ix2 b 0)) = _
  rw [W9_of m ρ c main_v9 (by decide), W8_of m ρ c main_v9 (by decide), W7_of m ρ c main_v9 (by decide), W6_of m ρ c main_v9 (by decide), W5_of m ρ c main_v9 (by decide),
    W4_of m ρ c main_v9 (by decide), W3_of m ρ c main_v9 (by decide), W2_of m ρ c main_v9 (by decide)]

theorem V9_colLabel (b : Fin 1024) : colLabel (V9 m ρ) c b = argLabelK m c b := by
  unfold colLabel argLabelK
  rw [← W1_v10 m ρ c b]
  show BitVec.toNat (W9 m ρ c (Proc.devRef .tc main_v10) (ix2 0 b)) = _
  rw [W9_of m ρ c main_v10 (by decide), W8_of m ρ c main_v10 (by decide), W7_of m ρ c main_v10 (by decide), W6_of m ρ c main_v10 (by decide), W5_of m ρ c main_v10 (by decide),
    W4_of m ρ c main_v10 (by decide), W3_of m ρ c main_v10 (by decide), W2_of m ρ c main_v10 (by decide)]

theorem V9_simQ (b : Fin 1024) (d : Fin 128) : simQ (V9 m ρ) c b d = argFeatures m c (m ((c : Thread nD τ).loc main_arg0)) b d := by
  unfold simQ
  rw [← W3_v15 m ρ c b d]
  show W9 m ρ c (Proc.devRef .tc main_v15) (ix2 b d) = _
  rw [W9_of m ρ c main_v15 (by decide), W8_of m ρ c main_v15 (by decide), W7_of m ρ c main_v15 (by decide), W6_of m ρ c main_v15 (by decide), W5_of m ρ c main_v15 (by decide),
    W4_of m ρ c main_v15 (by decide)]

theorem V9_simK (b : Fin 1024) (d : Fin 128) : simK (V9 m ρ) c b d = argFeatures m c (m ((c : Thread nD τ).loc main_arg1)) b d := by
  unfold simK
  rw [← W3_v17 m ρ c b d]
  show W9 m ρ c (Proc.devRef .tc main_v17) (ix2 b d) = _
  rw [W9_of m ρ c main_v17 (by decide), W8_of m ρ c main_v17 (by decide), W7_of m ρ c main_v17 (by decide), W6_of m ρ c main_v17 (by decide), W5_of m ρ c main_v17 (by decide),
    W4_of m ρ c main_v17 (by decide)]

theorem V4_rowFeatures (b : Fin 1024) (d : Fin 128) : rowFeatures (V4 m ρ) c b d = argFeatures m c (m ((c : Thread nD τ).loc main_arg0)) b d := by
  unfold rowFeatures
  rw [← W3_v15 m ρ c b d]
  show W4 m ρ c (Proc.devRef .tc main_v15) (ix2 b d) = _
  rw [W4_of m ρ c main_v15 (by decide)]

/-- The queue of positives, an entry of it. -/
def argPos (d : Fin 128) (q : Fin 65536) : EReal := m ((c : Thread nD τ).loc main_arg13) (ix2 d q)

/-- The queue of negatives, an entry of it. -/
def argNeg (d : Fin 128) (q : Fin 32768) : EReal := m ((c : Thread nD τ).loc main_arg12) (ix2 d q)

theorem V4_posQueue (d : Fin 128) (q : Fin 65536) : posQueue (V4 m ρ) c d q = argPos m c d q := by
  unfold posQueue argPos
  show W4 m ρ c (Proc.devRef .tc main_arg13) (ix2 d q) = _
  rw [W4_args m ρ c main_arg13 (by decide)]

/-- The products with the own class, both halves together. -/
def halves (i : Fin 2) (p : Fin 8) (b : Fin 1024) : EReal := W5 m ρ c (Proc.devRef .tc main_v19) (ix3 i p b)

theorem halves_eq (i : Fin 2) (p : Fin 8) (b : Fin 1024) : halves m ρ c i p b =
    if rowLabel (V4 m ρ) c b / 4096 = i.val then own (V4 m ρ) c p b else 0 := by
  unfold halves
  have h := (W5_arr m ρ c 3).trans (poslist_arr (V4 m ρ) c)
  exact congrFun h (ix3 i p b)

theorem V9_simPos (b : Fin 1024) (p : Fin 8) : simPos (V9 m ρ) c b p = halves m ρ c 0 p b + halves m ρ c 1 p b := by
  unfold simPos halves
  show W9 m ρ c (Proc.devRef .tc main_v25) (ix2 b p) = _
  rw [W9_of m ρ c main_v25 (by decide), W8_of m ρ c main_v25 (by decide), W7_of m ρ c main_v25 (by decide)]
  after_reads_at

theorem V9_simNeg (d : Fin 128) (n : ℕ) (h : 1032 ≤ n) (h' : n < 33800) : simNeg (V9 m ρ) c d n = argNeg m c d ⟨n - 1032, by omega⟩ := by
  unfold simNeg argNeg
  rw [← W8_args m ρ c main_arg12 (by decide)]
  show W9 m ρ c (Proc.devRef .tc main_v28) (ix2 d _) = _
  after_reads_at
  have e : n % 34944 = n := Nat.mod_eq_of_lt (by omega)
  rw [dif_pos (by omega)]
  have key : ∀ k k' : Fin 32768, k.val = k'.val → W7 m ρ c (Proc.devRef .tc main_arg12) (ix2 d k) = W7 m ρ c (Proc.devRef .tc main_arg12) (ix2 d k') :=
    fun k k' hk => by rw [Fin.ext hk]
  exact key _ _ (by show n % 34944 - 1032 = n - 1032; omega)

/-- The products with the own class, of the arguments. -/
def ownClass (b : Fin 1024) (p : Fin 8) (hL : argLabel m c b < 8192) : EReal :=
  ∑ d : Fin 128, argFeatures m c (m ((c : Thread nD τ).loc main_arg0)) b d * argPos m c d ⟨argLabel m c b * 8 + p.val, by omega⟩

theorem V9_simPos' (b : Fin 1024) (p : Fin 8) (hL : argLabel m c b < 8192) : simPos (V9 m ρ) c b p = ownClass m c b p hL := by
  rw [V9_simPos, halves_eq, halves_eq, V4_rowLabel]
  have ho : own (V4 m ρ) c p b = ownClass m c b p hL := by
    unfold own ownClass
    refine Finset.sum_congr rfl fun d _ => ?_
    rw [V4_posQueue, V4_rowFeatures, mul_comm]
    congr 2
    refine Fin.ext ?_
    show (rowLabel (V4 m ρ) c b * 8 + p.val) % 65536 = argLabel m c b * 8 + p.val
    rw [V4_rowLabel]
    omega
  rw [ho]
  show (if argLabel m c b / 4096 = 0 then _ else _) + (if argLabel m c b / 4096 = 1 then _ else _) = _
  have h2 : argLabel m c b / 4096 = 0 ∨ argLabel m c b / 4096 = 1 := by omega
  rcases h2 with h2 | h2
  · rw [if_pos h2, if_neg (by rw [h2]; decide), add_zero]
  · rw [if_neg (by rw [h2]; decide), if_pos h2, zero_add]

/-- The first result at the end. -/
theorem W13_v29_0 (hL : ∀ b, argLabel m c b < 8192) (b : Fin 1024) (n : Fin 33796) : W13 m ρ c (Proc.devRef .tc main_v29_0) (ix2 b n) =
    simAt (V9 m ρ) c b n.val := by
  rw [W13_of m ρ c main_v29_0 (by decide), W12_of m ρ c main_v29_0 (by decide), W11_of m ρ c main_v29_0 (by decide)]
  have h := (W10_arr m ρ c 6).trans (sim_arr (V9 m ρ) c fun b => by rw [V9_simLabel]; exact hL b)
  exact congrFun h (ix2 b n)

/-- The second result at the end. -/
theorem W13_v29_1 (b : Fin 1024) (n : Fin 33796) : W13 m ρ c (Proc.devRef .tc main_v29_1) (ix2 b n) =
    labAt (V9 m ρ) c b n.val := by
  rw [W13_of m ρ c main_v29_1 (by decide), W12_of m ρ c main_v29_1 (by decide), W11_of m ρ c main_v29_1 (by decide)]
  have h := (W10_arr m ρ c 7).trans (lab_arr (V9 m ρ) c)
  exact congrFun h (ix2 b n)

end Cert.KernelIdeal.Gen
-- ==== Proof.Value.RefFeatures.lean ====
/-
  The features as the reference prints them, read at an index.
-/
module

public import proofs.«01_k».proof.Proof.Value.RefRun
public import proofs.«01_k».proof.Proof.Value.Features
public import Idealize.ShloMosaic.Lib.StableHlo.ReadAt
public import Idealize.ShloMosaic.Lib.StableHlo.RunRead
public import Idealize.ShloMosaic.Lib.Pointwise

@[expose] public section

set_option maxRecDepth 16384

noncomputable section

open Idealize.ShloMosaic Idealize.ShloMosaic.TcCoe Idealize.ShloMosaic.Pipeline

namespace Cert.ReferenceIdeal.Value

open Cert.ReferenceIdeal.Gen Idealize.ShloMosaic.StableHlo

variable (m : (ℓ : Loc nD τ sig) → Buf (Elt Ideal) ℓ) (c : Dev nD)

/-- The first linear layer as printed. -/
def rHidden (x : FVec Ideal S1024x2048 .f32) (W1 : FVec Ideal S2048x2048 .f32) (b1 : FVec Ideal S2048 .f32) : FVec Ideal S1024x2048 .f32 :=
  addf (Host.dotGeneral dot_S1024x2048_S2048x2048_S1024x2048_1_0_0_1_n_n none x W1)
    (broadcastInDim S1024x2048 ![0, 1] bcast_S1x2048_S1024x2048_0_1 (broadcastInDim S1x2048 ![1] bcast_S2048_S1x2048_1 b1))

/-- At an index. -/
theorem rHidden_at (x : FVec Ideal S1024x2048 .f32) (W1 : FVec Ideal S2048x2048 .f32) (b1 : FVec Ideal S2048 .f32) (r : Fin 1024) (k : Fin 2048) :
    rHidden x W1 b1 (ix2 r k) = Features.hidden (fun r k => x (ix2 r k)) (fun l => W1 (ix2 l k)) (b1 (ix1 k)) r := by
  pointwise [rHidden, Features.hidden]

/-- The variance as printed. -/
def rVar (h : FVec Ideal S1024x2048 .f32) : FVec Ideal S2048 .f32 :=
  select (broadcastInDim S2048 ![] bcast_S_S2048 (cmpf .ogt (subf (constant (F := Ideal) S_ FTy.f32 1149239296#32) (sitofp FTy.f32 (constantI S_ 32 0#32))) (constant S_ FTy.f32 0#32)))
    (Host.divf (Host.reduceAdd (mulf (subf h (broadcastInDim S1024x2048 ![0, 1] bcast_S1x2048_S1024x2048_0_1 (Host.divf
                                                (broadcastInDim S1x2048 ![1] bcast_S2048_S1x2048_1
                                                  (Host.reduceAdd h (constant S_ FTy.f32 0#32) reducesTo_S1024x2048_S2048_d0 h_S_))
                                                (broadcastInDim S1x2048 ![] bcast_S_S1x2048
                                                  (constant S_ FTy.f32 1149239296#32)))))
       (subf h (broadcastInDim S1024x2048 ![0, 1] bcast_S1x2048_S1024x2048_0_1 (Host.divf
                                                (broadcastInDim S1x2048 ![1] bcast_S2048_S1x2048_1
                                                  (Host.reduceAdd h (constant S_ FTy.f32 0#32) reducesTo_S1024x2048_S2048_d0 h_S_))
                                                (broadcastInDim S1x2048 ![] bcast_S_S1x2048
                                                  (constant S_ FTy.f32 1149239296#32)))))) (constant S_ FTy.f32 0#32) reducesTo_S1024x2048_S2048_d0 h_S_)
                                      (broadcastInDim S2048 ![] bcast_S_S2048
                                        (subf (constant S_ FTy.f32 1149239296#32)
                                          (sitofp FTy.f32 (constantI S_ 32 0#32)))))
                                    (broadcastInDim S2048 ![] bcast_S_S2048 (id (constant S_ FTy.f32 2143289344#32)))

/-- The count of rows as a real number. -/
theorem rows_eq : Ideal.ofBits .f32 1149239296#32 = ((1024 : ℝ) : EReal) := by
  simp [Ideal.ofBits, Ideal.ieee, -EReal.coe_mul]
  norm_num

/-- Nothing is taken off the count of rows. -/
theorem rows_sub : Ideal.ofBits .f32 1149239296#32 - (FloatOps.sitofp (F := Ideal) FTy.f32 0#32 : Ideal .f32) = Ideal.ofBits .f32 1149239296#32 := by
  have h : (FloatOps.sitofp (F := Ideal) FTy.f32 0#32 : Ideal .f32) = 0 := by
    show (((0#32 : BitVec 32).toInt : ℝ) : EReal) = 0
    simp
  rw [h, sub_zero]

/-- At an index. -/
theorem rVar_at (h : FVec Ideal S1024x2048 .f32) (k : Fin 2048) : rVar h (ix1 k) = Features.var (fun r => h (ix2 r k)) := by
  pointwise [rVar, Features.var, Features.mean]
  rw [rows_sub, if_pos]
  rw [rows_eq]
  exact_mod_cast (by norm_num : (0 : ℝ) < 1024)

/-- Batch norm and relu as printed. -/
def rAct (h : FVec Ideal S1024x2048 .f32) (g be : FVec Ideal S2048 .f32) : FVec Ideal S1024x2048 .f32 :=
  maximumf
    (addf
      (mulf
        (mulf
          (subf h
            (broadcastInDim S1024x2048 ![0, 1] bcast_S1x2048_S1024x2048_0_1
              (broadcastInDim S1x2048 ![1] bcast_S2048_S1x2048_1
                (Host.divf (Host.reduceAdd h (constant S_ FTy.f32 0#32) reducesTo_S1024x2048_S2048_d0 h_S_)
                  (broadcastInDim S2048 ![] bcast_S_S2048 (constant S_ FTy.f32 1149239296#32))))))
          (broadcastInDim S1024x2048 ![0, 1] bcast_S1x2048_S1024x2048_0_1
            (broadcastInDim S1x2048 ![1] bcast_S2048_S1x2048_1
              (rsqrt (addf (rVar h) (broadcastInDim S2048 ![] bcast_S_S2048 (constant S_ FTy.f32 925353388#32)))))))
        (broadcastInDim S1024x2048 ![0, 1] bcast_S1x2048_S1024x2048_0_1 (broadcastInDim S1x2048 ![1] bcast_S2048_S1x2048_1 g)))
      (broadcastInDim S1024x2048 ![0, 1] bcast_S1x2048_S1024x2048_0_1 (broadcastInDim S1x2048 ![1] bcast_S2048_S1x2048_1 be)))
    (broadcastInDim S1024x2048 ![] bcast_S_S1024x2048 (constant S_ FTy.f32 0#32))

/-- At an index. -/
theorem rAct_at (h : FVec Ideal S1024x2048 .f32) (g be : FVec Ideal S2048 .f32) (r : Fin 1024) (k : Fin 2048) :
    rAct h g be (ix2 r k) = Features.act (fun r => h (ix2 r k)) (g (ix1 k)) (be (ix1 k)) r := by
  pointwise [rAct, Features.act, Features.mean]
  rw [rVar_at]

/-- The second linear layer as printed. -/
def rOut (a : FVec Ideal S1024x2048 .f32) (W2 : FVec Ideal S2048x128 .f32) (b2 : FVec Ideal S128 .f32) : FVec Ideal S1024x128 .f32 :=
  addf (Host.dotGeneral dot_S1024x2048_S2048x128_S1024x128_1_0_0_1_n_n none a W2)
    (broadcastInDim S1024x128 ![0, 1] bcast_S1x128_S1024x128_0_1 (broadcastInDim S1x128 ![1] bcast_S128_S1x128_1 b2))

/-- At an index. -/
theorem rOut_at (a : FVec Ideal S1024x2048 .f32) (W2 : FVec Ideal S2048x128 .f32) (b2 : FVec Ideal S128 .f32) (r : Fin 1024) (d : Fin 128) :
    rOut a W2 b2 (ix2 r d) = (∑ k : Fin 2048, a (ix2 r k) * W2 (ix2 k d)) + b2 (ix1 d) := by
  pointwise [rOut]

/-- Rows scaled to length one as printed. -/
def rUnit (y : FVec Ideal S1024x128 .f32) : FVec Ideal S1024x128 .f32 :=
  Host.divf y (broadcastInDim S1024x128 ![0, 1] bcast_S1024x1_S1024x128_0_1
    (maximumf (Host.sqrt (broadcastInDim S1024x1 ![0] bcast_S1024_S1024x1_0
        (Host.reduceAdd (mulf y y) (constant S_ FTy.f32 0#32) reducesTo_S1024x128_S1024_d1 h_S_)))
      (broadcastInDim S1024x1 ![] bcast_S_S1024x1 (constant S_ FTy.f32 730643660#32))))

/-- At an index. -/
theorem rUnit_at (y : FVec Ideal S1024x128 .f32) (r : Fin 1024) (d : Fin 128) :
    rUnit y (ix2 r d) = Features.unit (fun d => y (ix2 r d)) d := by
  pointwise [rUnit, Features.unit]

/-- The features of the first batch where the loop starts. -/
theorem entry_v35 : entryContents preI m c (Proc.devRef .tc main_v35) =
    rUnit (rOut (rAct (rHidden (launchContents m c (Proc.tc.devRef main_arg0)) (launchContents m c (Proc.tc.devRef main_arg4)) (launchContents m c (Proc.tc.devRef main_arg5)))
      (launchContents m c (Proc.tc.devRef main_arg6)) (launchContents m c (Proc.tc.devRef main_arg7)))
      (launchContents m c (Proc.tc.devRef main_arg8)) (launchContents m c (Proc.tc.devRef main_arg9))) := by
  simp only [entryContents, afterL_cons, afterL_nil]
  after_reads_simp
  rfl

/-- The same at an index. -/
theorem entry_v35_at (r : Fin 1024) (d : Fin 128) : entryContents preI m c (Proc.devRef .tc main_v35) (ix2 r d) =
    Features.features (fun r k => m ((c.tc : Thread nD τ).loc main_arg0) (ix2 r k)) (fun l k => m ((c.tc : Thread nD τ).loc main_arg4) (ix2 l k))
      (fun k => m ((c.tc : Thread nD τ).loc main_arg5) (ix1 k)) (fun k => m ((c.tc : Thread nD τ).loc main_arg6) (ix1 k))
      (fun k => m ((c.tc : Thread nD τ).loc main_arg7) (ix1 k)) (fun k d => m ((c.tc : Thread nD τ).loc main_arg8) (ix2 k d))
      (fun d => m ((c.tc : Thread nD τ).loc main_arg9) (ix1 d)) r d := by
  rw [entry_v35, rUnit_at]
  simp only [rOut_at, rAct_at, rHidden_at]
  rfl

/-- The features of the second batch where the loop starts. -/
theorem entry_v71 : entryContents preI m c (Proc.devRef .tc main_v71) =
    rUnit (rOut (rAct (rHidden (launchContents m c (Proc.tc.devRef main_arg1)) (launchContents m c (Proc.tc.devRef main_arg4)) (launchContents m c (Proc.tc.devRef main_arg5)))
      (launchContents m c (Proc.tc.devRef main_arg6)) (launchContents m c (Proc.tc.devRef main_arg7)))
      (launchContents m c (Proc.tc.devRef main_arg8)) (launchContents m c (Proc.tc.devRef main_arg9))) := by
  simp only [entryContents, afterL_cons, afterL_nil]
  after_reads_simp
  rfl

/-- The same at an index. -/
theorem entry_v71_at (r : Fin 1024) (d : Fin 128) : entryContents preI m c (Proc.devRef .tc main_v71) (ix2 r d) =
    Features.features (fun r k => m ((c.tc : Thread nD τ).loc main_arg1) (ix2 r k)) (fun l k => m ((c.tc : Thread nD τ).loc main_arg4) (ix2 l k))
      (fun k => m ((c.tc : Thread nD τ).loc main_arg5) (ix1 k)) (fun k => m ((c.tc : Thread nD τ).loc main_arg6) (ix1 k))
      (fun k => m ((c.tc : Thread nD τ).loc main_arg7) (ix1 k)) (fun k d => m ((c.tc : Thread nD τ).loc main_arg8) (ix2 k d))
      (fun d => m ((c.tc : Thread nD τ).loc main_arg9) (ix1 d)) r d := by
  rw [entry_v71, rUnit_at]
  simp only [rOut_at, rAct_at, rHidden_at]
  rfl

end Cert.ReferenceIdeal.Value
-- ==== Proof.Value.RefContrast.lean ====
/-
  The contrast rows and their labels as the reference prints them, read at an index.
-/
module

public import proofs.«01_k».proof.Proof.Value.RefFeatures
public import Idealize.ShloMosaic.Lib.WordCmp

@[expose] public section

set_option maxRecDepth 16384

noncomputable section

open Idealize.ShloMosaic Idealize.ShloMosaic.TcCoe Idealize.ShloMosaic.Pipeline

namespace Cert.ReferenceIdeal.Value

open Cert.ReferenceIdeal.Gen Idealize.ShloMosaic.StableHlo

variable (m : (ℓ : Loc nD τ sig) → Buf (Elt Ideal) ℓ) (c : Dev nD)

/-- Labels below zero counted from the end, as printed. -/
def rWrap (l : IVec S1024 32) : IVec S1024 32 :=
  select (cmpi .slt l (broadcastInDim S1024 ![] bcast_S_S1024 (constantI S_ 32 0#32)))
    (addi l (broadcastInDim S1024 ![] bcast_S_S1024 (constantI S_ 32 8192#32))) l

/-- The products with the own class as printed. -/
def rPos (fq : FVec Ideal S1024x128 .f32) (pq : FVec Ideal S128x65536 .f32) (l : IVec S1024 32) : FVec Ideal S1024x8 .f32 :=
  Host.dotGeneral dot_S1024x128_S128x1024x8_S1024x8_1_0_n_2_0_1 none fq
    (Host.gather gather_S128x8192x8_S1024x1_S128x1024x8_02_1_n_n_1_1_12818 (shapeCast S128x8192x8 pq shapeCasts_S128x65536_S128x8192x8)
      (broadcastInDim S1024x1 ![0] bcast_S1024_S1024x1_0 (rWrap l)))

/-- The columns outside the own class as printed. -/
def rCols (l : IVec S1024 32) : IVec S1024x32764 32 :=
  addi (broadcastInDim S1024x32764 ![0, 1] bcast_S1x32764_S1024x32764_0_1 (broadcastInDim S1x32764 ![1] bcast_S32764_S1x32764_1 (iotaInDim S32764 32 0)))
    (muli (broadcastInDim S1024x32764 ![] bcast_S_S1024x32764 (constantI S_ 32 4#32))
      (extui 32 (cmpi .sge
        (broadcastInDim S1024x32764 ![0, 1] bcast_S1x32764_S1024x32764_0_1 (broadcastInDim S1x32764 ![1] bcast_S32764_S1x32764_1 (iotaInDim S32764 32 0)))
        (broadcastInDim S1024x32764 ![0, 1] bcast_S1024x1_S1024x32764_0_1
          (muli (broadcastInDim S1024x1 ![0] bcast_S1024_S1024x1_0 l) (broadcastInDim S1024x1 ![] bcast_S_S1024x1 (constantI S_ 32 4#32))))) natLt_1_32))

/-- Columns below zero counted from the end, under a unit axis, as printed. -/
def rColsBox (i : IVec S1024x32764 32) : IVec S1024x32764x1 32 :=
  shapeCast S1024x32764x1 (select (cmpi .slt i (broadcastInDim S1024x32764 ![] bcast_S_S1024x32764 (constantI S_ 32 0#32)))
    (addi i (broadcastInDim S1024x32764 ![] bcast_S_S1024x32764 (constantI S_ 32 32768#32))) i) shapeCasts_S1024x32764_S1024x32764x1

/-- The columns taken as printed. -/
def rTake (x : FVec Ideal S1024x32768 .f32) (i : IVec S1024x32764 32) : FVec Ideal S1024x32764 .f32 :=
  select (Host.reduce IntOp.andi
      (andi (cmpi .sge (rColsBox i) (broadcastInDim S1024x32764x1 ![] bcast_S_S1024x32764x1 (constantI S_ 32 0#32)))
        (cmpi .sle (rColsBox i) (broadcastInDim S1024x32764x1 ![0, 1, 2] bcast_S1x1x1_S1024x32764x1_0_1_2
          (broadcastInDim S1x1x1 ![2] bcast_S1_S1x1x1_2 (constantI S1 32 32767#32)))))
      (constantI S_ 1 1#1) reducesTo_S1024x32764x1_S1024x32764_d2 h_S_)
    (Host.gather gather_S1024x32768_S1024x32764x1_S1024x32764_n_1_0_0_1_2_11 x (rColsBox i))
    (broadcastInDim S1024x32764 ![] bcast_S_S1024x32764 (constant (F := Ideal) S_ FTy.f32 0x7FC00000#32))

/-- The contrast rows as printed. -/
def rContrast (fq fk : FVec Ideal S1024x128 .f32) (pq : FVec Ideal S128x65536 .f32) (nq : FVec Ideal S128x32768 .f32) (l : IVec S1024 32) : FVec Ideal S1024x33796 .f32 :=
  concatenate S1024x33796 1
    [⟨S1024x1024, Host.dotGeneral dot_S1024x128_S128x1024_S1024x1024_1_0_0_1_n_n none fq (transpose S128x1024 [1, 0] fk transposes_S1024x128_S128x1024_1_0)⟩,
     ⟨S1024x8, rPos fq pq l⟩,
     ⟨S1024x32764, rTake (Host.dotGeneral dot_S1024x128_S128x32768_S1024x32768_1_0_0_1_n_n none fq nq) (rCols l)⟩]
    concatenates_S1024x1024_S1024x8_S1024x32764_S1024x33796_d1

/-- A small word read signed. -/
theorem ofNat_toInt_toNat (k : ℕ) (h : k < 2 ^ 31) : (BitVec.ofNat 32 k).toInt.toNat = k := by
  rw [BitVec.toInt_ofNat']
  have : ((k : ℤ)).bmod (2 ^ 32) = k := by
    rw [Int.bmod_eq_of_le] <;> omega
  omega

/-- The gather of a class's columns at an index. -/
theorem gather_pos (x : FVec Ideal S128x8192x8 .f32) (idx : IVec S1024x1 32) (d : Fin 128) (b : Fin 1024) (p : Fin 8) (k : Fin 8192)
    (h : idx (ix2 b 0) = BitVec.ofNat 32 k.val) :
    Host.gather gather_S128x8192x8_S1024x1_S128x1024x8_02_1_n_n_1_1_12818 x idx (ix3 d b p) = x (ix3 d k p) := by
  unfold Host.gather
  refine congrArg x (funext fun a => Fin.ext ?_)
  have hi : gather_S128x8192x8_S1024x1_S128x1024x8_02_1_n_n_1_1_12818.siIdx (ix3 d b p) ⟨0, by decide⟩ = ix2 b 0 := by
    funext a
    fin_cases a <;> rfl
  fin_cases a
  · show 0 + 0 + d.val = d.val
    omega
  · show min (idx (gather_S128x8192x8_S1024x1_S128x1024x8_02_1_n_n_1_1_12818.siIdx (ix3 d b p) ⟨0, by decide⟩)).toInt.toNat (8192 - 1) + 0 + 0 = k.val
    rw [hi, h, ofNat_toInt_toNat _ (by omega)]
    omega
  · show 0 + 0 + p.val = p.val
    omega

/-- The gather of columns row by row at an index. -/
theorem gather_row (x : FVec Ideal S1024x32768 .f32) (idx : IVec S1024x32764x1 32) (b : Fin 1024) (n : Fin 32764) (k : Fin 32768)
    (h : idx (ix3 b n 0) = BitVec.ofNat 32 k.val) :
    Host.gather gather_S1024x32768_S1024x32764x1_S1024x32764_n_1_0_0_1_2_11 x idx (ix2 b n) = x (ix2 b k) := by
  unfold Host.gather
  refine congrArg x (funext fun a => Fin.ext ?_)
  have hi : gather_S1024x32768_S1024x32764x1_S1024x32764_n_1_0_0_1_2_11.siIdx (ix2 b n) ⟨0, by decide⟩ = ix3 b n 0 := by
    funext a
    fin_cases a <;> rfl
  fin_cases a
  · show 0 + b.val + 0 = b.val
    omega
  · show min (idx (gather_S1024x32768_S1024x32764x1_S1024x32764_n_1_0_0_1_2_11.siIdx (ix2 b n) ⟨0, by decide⟩)).toInt.toNat (32768 - 1) + 0 + 0 = k.val
    rw [hi, h, ofNat_toInt_toNat _ (by omega)]
    omega

/-- A label in range is not below zero. -/
theorem wrap_word (L : BitVec 32) (hL : L.toNat < 8192) :
    Scalar.select (IntOp.cmpi CmpIPredicate.slt L 0#32) (IntOp.addi L 8192#32) L = BitVec.ofNat 32 L.toNat := by
  rw [Idealize.ShloMosaic.WordCmp.cmpi_slt_zero, Idealize.ShloMosaic.WordCmp.select_ofBool, if_neg (by simp; omega)]
  simp

/-- The products with the own class at an index. -/
theorem rPos_at (fq : FVec Ideal S1024x128 .f32) (pq : FVec Ideal S128x65536 .f32) (l : IVec S1024 32) (b : Fin 1024) (p : Fin 8)
    (hL : (l (ix1 b)).toNat < 8192) :
    rPos fq pq l (ix2 b p) = ∑ d : Fin 128, fq (ix2 b d) * pq (ix2 d ⟨(l (ix1 b)).toNat * 8 + p.val, by omega⟩) := by
  pointwise [rPos]
  refine Finset.sum_congr rfl fun d _ => ?_
  rw [gather_pos _ _ d b p ⟨(l (ix1 b)).toNat, hL⟩ (by pointwise [rWrap]; exact wrap_word _ hL)]
  pointwise

/-- A column of a row's negatives, past its own class. -/
def skip (L n : ℕ) : ℕ := if 4 * L ≤ n then n + 4 else n

/-- The columns at an index. -/
theorem rCols_at (l : IVec S1024 32) (b : Fin 1024) (n : Fin 32764) (hL : (l (ix1 b)).toNat < 8192) :
    rCols l (ix2 b n) = BitVec.ofNat 32 (skip (l (ix1 b)).toNat n.val) := by
  pointwise [rCols]
  generalize l (ix1 b) = L at hL ⊢
  have h : IntOp.muli L 4#32 = BitVec.ofNat 32 (4 * L.toNat) := by
    show L * BitVec.ofNat 32 4 = _
    have hx : L = BitVec.ofNat 32 L.toNat := by simp
    conv_lhs => rw [hx]
    rw [← BitVec.ofNat_mul, Nat.mul_comm]
  rw [h, Idealize.ShloMosaic.WordCmp.cmpi_sge_ofNat (by omega) (by omega)]
  unfold skip
  by_cases h1 : 4 * L.toNat ≤ n.val
  · rw [if_pos h1, decide_eq_true h1]
    show BitVec.ofNat 32 n.val + 4#32 * 1#32 = _
    rw [BitVec.ofNat_add]
    rfl
  · rw [if_neg h1, decide_eq_false h1]
    show BitVec.ofNat 32 n.val + 4#32 * 0#32 = _
    simp

/-- The columns taken at an index in range. -/
theorem rTake_at (x : FVec Ideal S1024x32768 .f32) (i : IVec S1024x32764 32) (b : Fin 1024) (n : Fin 32764) (k : Fin 32768)
    (h : i (ix2 b n) = BitVec.ofNat 32 k.val) : rTake x i (ix2 b n) = x (ix2 b k) := by
  have hw : Scalar.select (IntOp.cmpi CmpIPredicate.slt (BitVec.ofNat 32 k.val) 0#32) (IntOp.addi (BitVec.ofNat 32 k.val) 32768#32) (BitVec.ofNat 32 k.val)
      = BitVec.ofNat 32 k.val := by
    have e : (BitVec.ofNat 32 k.val).toNat = k.val := by simp; omega
    rw [Idealize.ShloMosaic.WordCmp.cmpi_slt_zero, Idealize.ShloMosaic.WordCmp.select_ofBool, if_neg (by rw [e]; simp; omega)]
  have hg := gather_row x (rColsBox i) b n k (by pointwise [rColsBox]; rw [h]; exact hw)
  pointwise [rTake]
  rw [hg]
  pointwise [rColsBox]
  rw [h, hw]
  have e : Finset.fold IntOp.andi (1#1) (fun _ => IntOp.andi (IntOp.cmpi CmpIPredicate.sge (BitVec.ofNat 32 k.val) 0#32)
      (IntOp.cmpi CmpIPredicate.sle (BitVec.ofNat 32 k.val) 32767#32)) (Finset.univ : Finset (Fin 1)) = 1#1 := by
    rw [Finset.univ_unique, Finset.fold_singleton, Idealize.ShloMosaic.WordCmp.cmpi_sge_zero, Idealize.ShloMosaic.WordCmp.cmpi_sle_ofNat (by omega) (by omega),
      decide_eq_true (by simp; omega), decide_eq_true (by omega)]
    rfl
  exact (congrArg (fun z => Scalar.select z (x (ix2 b k)) (Ideal.ofBits FTy.f32 2143289344#32)) e).trans rfl

/-- The contrast rows at an index. -/
theorem rContrast_at (fq fk : FVec Ideal S1024x128 .f32) (pq : FVec Ideal S128x65536 .f32) (nq : FVec Ideal S128x32768 .f32) (l : IVec S1024 32) (b : Fin 1024) (n : Fin 33796)
    (hL : (l (ix1 b)).toNat < 8192) :
    rContrast fq fk pq nq l (ix2 b n) =
      if h : n.val < 1024 then ∑ d : Fin 128, fq (ix2 b d) * fk (ix2 ⟨n.val, h⟩ d)
      else if h : n.val < 1032 then ∑ d : Fin 128, fq (ix2 b d) * pq (ix2 d ⟨(l (ix1 b)).toNat * 8 + (n.val - 1024), by omega⟩)
      else ∑ d : Fin 128, fq (ix2 b d) * nq (ix2 d ⟨skip (l (ix1 b)).toNat (n.val - 1032), by unfold skip; split <;> omega⟩) := by
  pointwise [rContrast]
  by_cases h1 : n.val < 1024
  · rw [dif_pos h1, dif_pos h1]
  by_cases h2 : n.val < 1032
  · rw [dif_neg h1, dif_neg h1, dif_pos (show n.val - 1024 < 8 by omega), dif_pos h2, rPos_at _ _ _ _ _ hL]
  · rw [dif_neg h1, dif_neg h1, dif_neg (show ¬ n.val - 1024 < 8 by omega), dif_neg h2,
      rTake_at _ _ _ _ ⟨skip (l (ix1 b)).toNat (n.val - 1032), by unfold skip; split <;> omega⟩ (by
      rw [rCols_at _ _ _ hL]
      congr 2)]
    pointwise

/-- The label at a column of a row, as printed. -/
def rLabels (lq lk : IVec S1024 32) : FVec Ideal S1024x33796 .f32 :=
  concatenate S1024x33796 1
    [⟨S1024x1024, uitofp .f32 (cmpi .eq
        (broadcastInDim S1024x1024 ![0, 1] bcast_S1024x1_S1024x1024_0_1 (broadcastInDim S1024x1 ![0] bcast_S1024_S1024x1_0 lq))
        (broadcastInDim S1024x1024 ![0, 1] bcast_S1x1024_S1024x1024_0_1 (broadcastInDim S1x1024 ![1] bcast_S1024_S1x1024_1 lk)))⟩,
     ⟨S1024x8, broadcastInDim S1024x8 ![] bcast_S_S1024x8 (constant (F := Ideal) S_ FTy.f32 0x3F800000#32)⟩,
     ⟨S1024x32764, broadcastInDim S1024x32764 ![] bcast_S_S1024x32764 (constant (F := Ideal) S_ FTy.f32 0x00000000#32)⟩]
    concatenates_S1024x1024_S1024x8_S1024x32764_S1024x33796_d1

/-- The labels at an index. -/
theorem rLabels_at (lq lk : IVec S1024 32) (b : Fin 1024) (n : Fin 33796) : rLabels lq lk (ix2 b n) =
    if h : n.val < 1024 then if (lq (ix1 b)).toNat = (lk (ix1 ⟨n.val, h⟩)).toNat then (1 : EReal) else 0
    else if n.val < 1032 then 1 else 0 := by
  pointwise [rLabels]
  by_cases h1 : n.val < 1024
  · rw [dif_pos h1, dif_pos h1, Idealize.ShloMosaic.WordCmp.cmpi_eq_eq_toNat]
    by_cases h2 : (lq (ix1 b)).toNat = (lk (ix1 ⟨n.val, h1⟩)).toNat
    · rw [if_pos h2, decide_eq_true h2]
      show (((1#1 : BitVec 1).toNat : ℝ) : EReal) = 1
      simp
    · rw [if_neg h2, decide_eq_false h2]
      show (((0#1 : BitVec 1).toNat : ℝ) : EReal) = 0
      simp
  by_cases h2 : n.val < 1032
  · rw [dif_neg h1, dif_neg h1, dif_pos (show n.val - 1024 < 8 by omega), if_pos h2]
  · rw [dif_neg h1, dif_neg h1, dif_neg (show ¬ n.val - 1024 < 8 by omega), if_neg h2]

/-- Three pieces side by side. -/
theorem pieces_congr {A A' : FVec Ideal S1024x1024 .f32} {B B' : FVec Ideal S1024x8 .f32} {C C' : FVec Ideal S1024x32764 .f32}
    (hA : A = A') (hB : B = B') (hC : C = C') :
    concatenate S1024x33796 1 [⟨S1024x1024, A⟩, ⟨S1024x8, B⟩, ⟨S1024x32764, C⟩] concatenates_S1024x1024_S1024x8_S1024x32764_S1024x33796_d1 =
    concatenate S1024x33796 1 [⟨S1024x1024, A'⟩, ⟨S1024x8, B'⟩, ⟨S1024x32764, C'⟩] concatenates_S1024x1024_S1024x8_S1024x32764_S1024x33796_d1 := by
  subst hA hB hC; rfl

/-- The contrast rows where the loop starts. -/
theorem entry_v105 : entryContents preI m c (Proc.devRef .tc main_v105) =
    rContrast (entryContents preI m c (Proc.devRef .tc main_v35)) (entryContents preI m c (Proc.devRef .tc main_v71)) (launchContents m c (Proc.tc.devRef main_arg13))
      (launchContents m c (Proc.tc.devRef main_arg12)) (launchContents m c (Proc.tc.devRef main_arg2)) := by
  rw [entry_v35, entry_v71]
  simp only [entryContents, afterL_cons, afterL_nil]
  after_reads_simp
  refine pieces_congr ?_ ?_ ?_
  · change upto _ _ _ (Proc.tc.devRef main_v98) = _
    after_reads_simp
    rfl
  · change upto _ _ _ (Proc.tc.devRef main_v80) = _
    after_reads_simp
    rfl
  · change upto _ _ _ (Proc.tc.devRef main_v96) = _
    after_reads_simp
    simp only [TRef.ofBuf_toBuf]
    have hc : ∀ a, (TRef.of main_v95 hostOps0_9._proof_7 hostOps0_9._proof_8 hostOps0_9._proof_9 : TRef sig ⟨S1024x32764, .i32⟩).ofBuf (Val := Elt Ideal) a = a := fun _ => rfl
    have hd : ∀ a, (TRef.of main_call4_v5 hostOps0_9._proof_25 hostOps0_9._proof_26 hostOps0_9._proof_27 : TRef sig ⟨S1024x32764x1, .i32⟩).ofBuf (Val := Elt Ideal) a = a := fun _ => rfl
    have he : ∀ a, (TRef.of main_v81 hostOps0_9._proof_58 hostOps0_9._proof_59 hostOps0_9._proof_60 : TRef sig ⟨S1024x32768, .f32⟩).ofBuf (Val := Elt Ideal) a = a := fun _ => rfl
    have hf : ∀ a, (TRef.of main_v96 hostOps0_9._proof_70 hostOps0_9._proof_71 hostOps0_9._proof_72 : TRef sig ⟨S1024x32764, .f32⟩).toBuf (Val := Elt Ideal) a = a := fun _ => rfl
    simp only [hc, hd, he, hf]
    rfl

/-- The labels where the loop starts. -/
theorem entry_v108 : entryContents preI m c (Proc.devRef .tc main_v108) =
    rLabels (launchContents m c (Proc.tc.devRef main_arg2)) (launchContents m c (Proc.tc.devRef main_arg3)) := by
  simp only [entryContents, afterL_cons, afterL_nil]
  after_reads_simp
  refine pieces_congr ?_ ?_ ?_
  · change upto _ _ _ (Proc.tc.devRef main_v104) = _
    after_reads_simp
  · change upto _ _ _ (Proc.tc.devRef main_v106) = _
    after_reads_simp
  · change upto _ _ _ (Proc.tc.devRef main_v107) = _
    after_reads_simp

/-- The features the loop starts from are the first result's rows. -/
theorem final_v105 : final m c main_v105 =
    rContrast (entryContents preI m c (Proc.devRef .tc main_v35)) (entryContents preI m c (Proc.devRef .tc main_v71)) (launchContents m c (Proc.tc.devRef main_arg13))
      (launchContents m c (Proc.tc.devRef main_arg12)) (launchContents m c (Proc.tc.devRef main_arg2)) :=
  (final_entry m c main_v105 (by decide)).trans (entry_v105 m c)

/-- The second result is the labels' rows. -/
theorem final_v108 : final m c main_v108 =
    rLabels (launchContents m c (Proc.tc.devRef main_arg2)) (launchContents m c (Proc.tc.devRef main_arg3)) :=
  (final_entry m c main_v108 (by decide)).trans (entry_v108 m c)

end Cert.ReferenceIdeal.Value
-- ==== Proof.Value.Range.lean ====
/-
  What the precondition says of the integer arguments, entry by entry.
-/
module

public import proofs.«01_k».proof.Defs
public import Idealize.ShloMosaic.Lib.Pointwise
public import Idealize.ShloMosaic.Lib.WordCmp
public import Idealize.ShloMosaic.Lib.Claim

@[expose] public section

set_option maxRecDepth 16384

noncomputable section

namespace Cert

open Idealize.ShloMosaic Idealize.SL.Sem Idealize.ShloMosaic.TcCoe

/-- A word between zero and a small bound, as a number. -/
theorem word_in_range (x : BitVec 32) (n : ℕ) (hn : n < 2 ^ 31) (h : IntOp.andi (IntOp.cmpi .sge x 0#32) (IntOp.cmpi .slt x (BitVec.ofNat 32 n)) = 1#1) : x.toNat < n := by
  have h1 : (BitVec.ofNat 32 n).toNat = n := by simp; omega
  rw [WordCmp.cmpi_sge_zero, WordCmp.cmpi_slt_eq] at h
  by_cases ha : x.toNat < 2 ^ (32 - 1)
  · by_cases hb : x.toInt < (BitVec.ofNat 32 n).toInt
    · rw [BitVec.toInt_eq_toNat_of_lt (by omega), BitVec.toInt_eq_toNat_of_lt (by omega), h1] at hb
      omega
    · rw [decide_eq_false hb] at h
      exfalso
      revert h
      generalize BitVec.ofBool (decide (x.toNat < _)) = z
      revert z
      decide
  · rw [decide_eq_false ha] at h
    exfalso
    revert h
    generalize BitVec.ofBool (decide (x.toInt < _)) = z
    revert z
    decide

variable {m : (ℓ : Loc Cert.KernelIdeal.nD Cert.KernelIdeal.τ Cert.KernelIdeal.sig) → Buf (Elt Ideal) ℓ}

section
variable [Cert.Pre_integers_in_range.Facts] (h : Pre_KernelIdeal_integers_in_range m) (c : Dev Cert.KernelIdeal.nD)
include h

/-- The first batch's labels name a class. -/
theorem labels_q_in_range (b : Fin 1024) : BitVec.toNat (m ((c.tc : Thread Cert.KernelIdeal.nD Cert.KernelIdeal.τ).loc Cert.KernelIdeal.main_arg2) (ix1 b) : BitVec 32) < 8192 := by
  have e := congrFun (h c) (ix1 ⟨b.val, by omega⟩)
  refine word_in_range _ _ (by norm_num) (Eq.trans (Eq.symm ?_) e)
  pointwise [Cert.Pre_integers_in_range.fn, Cert.Pre_integers_in_range.fn_part1]

/-- The second batch's labels name a class. -/
theorem labels_k_in_range (b : Fin 1024) : BitVec.toNat (m ((c.tc : Thread Cert.KernelIdeal.nD Cert.KernelIdeal.τ).loc Cert.KernelIdeal.main_arg3) (ix1 b) : BitVec 32) < 8192 := by
  have e := congrFun (h c) (ix1 ⟨1024 + b.val, by omega⟩)
  refine word_in_range _ _ (by norm_num) (Eq.trans (Eq.symm ?_) e)
  pointwise [Cert.Pre_integers_in_range.fn, Cert.Pre_integers_in_range.fn_part1]

/-- The pointers into the queue of negatives name a slot. -/
theorem neg_ptr_in_range (k : Fin 8192) : BitVec.toNat (m ((c.tc : Thread Cert.KernelIdeal.nD Cert.KernelIdeal.τ).loc Cert.KernelIdeal.main_arg14) (ix1 k) : BitVec 32) < 4 := by
  have e := congrFun (h c) (ix1 ⟨2048 + k.val, by omega⟩)
  refine word_in_range _ _ (by norm_num) (Eq.trans (Eq.symm ?_) e)
  pointwise [Cert.Pre_integers_in_range.fn, Cert.Pre_integers_in_range.fn_part1]
  rw [dif_neg (by omega), dif_neg (by omega), dif_pos (by omega)]
  have e1 : 2048 + k.val - 1024 - 1024 = k.val := by omega
  simp only [e1]

/-- The pointers into the queue of positives name a slot. -/
theorem pos_ptr_in_range (k : Fin 8192) : BitVec.toNat (m ((c.tc : Thread Cert.KernelIdeal.nD Cert.KernelIdeal.τ).loc Cert.KernelIdeal.main_arg15) (ix1 k) : BitVec 32) < 8 := by
  have e := congrFun (h c) (ix1 ⟨10240 + k.val, by omega⟩)
  refine word_in_range _ _ (by norm_num) (Eq.trans (Eq.symm ?_) e)
  pointwise [Cert.Pre_integers_in_range.fn, Cert.Pre_integers_in_range.fn_part1]
  rw [dif_neg (by omega), dif_neg (by omega), dif_neg (by omega)]
  have e1 : 10240 + k.val - 1024 - 1024 - 8192 = k.val := by omega
  simp only [e1]

end

end Cert

end
-- ==== Proof.Value.Agree.lean ====
/-
  Kernel and reference end equal, result by result, from memories that agree on the arguments.
-/
module

public import proofs.«01_k».proof.Defs
public import proofs.«01_k».proof.Proof.Value.ExitLogits
public import proofs.«01_k».proof.Proof.Value.ExitContrast
public import proofs.«01_k».proof.Proof.Value.RefContrast
public import proofs.«01_k».proof.Proof.Value.Range

@[expose] public section

set_option maxRecDepth 16384

noncomputable section

namespace Cert

open Idealize.ShloMosaic Idealize.SL.Sem Idealize.ShloMosaic.TcCoe

/-- The two memories hold the same arguments. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)

namespace Agree

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

/-- The logits of the first batch. -/
theorem result3 (h : Agree m m' c) (ρ : Dev Cert.KernelIdeal.nD → PrngReg) [Cert.Pre_integers_in_range.Facts] (_ : Pre_KernelIdeal_integers_in_range m) :
    Cert.KernelIdeal.Gen.W13 m ρ c (Proc.devRef .tc Cert.KernelIdeal.main_v18_0) = Cert.ReferenceIdeal.Value.final m' c Cert.ReferenceIdeal.main_v112 := by
  obtain ⟨h0, -, -, -, -, -, -, -, -, -, h10, h11, -⟩ := h
  rw [Cert.KernelIdeal.Gen.W13_v18_0, Cert.ReferenceIdeal.Value.final_v112, h0, h10, h11]
  funext i
  exact congrArg (_ + ·) (Cert.KernelIdeal.Gen.V3_v7 m ρ c (i 1))

/-- The logits of the second batch. -/
theorem result4 (h : Agree m m' c) (ρ : Dev Cert.KernelIdeal.nD → PrngReg) [Cert.Pre_integers_in_range.Facts] (_ : Pre_KernelIdeal_integers_in_range m) :
    Cert.KernelIdeal.Gen.W13 m ρ c (Proc.devRef .tc Cert.KernelIdeal.main_v18_1) = Cert.ReferenceIdeal.Value.final m' c Cert.ReferenceIdeal.main_v116 := by
  obtain ⟨-, h1, -, -, -, -, -, -, -, -, h10, h11, -⟩ := h
  rw [Cert.KernelIdeal.Gen.W13_v18_1, Cert.ReferenceIdeal.Value.final_v116, h1, h10, h11]
  funext i
  exact congrArg (_ + ·) (Cert.KernelIdeal.Gen.V3_v7 m ρ c (i 1))

/-- Equal factors give equal products. -/
theorem mul_right_eq (a : EReal) {x y : EReal} (h : x = y) : a * x = a * y := by rw [h]

/-- The features of the first batch. -/
theorem features_q (h : Agree m m' c) (r : Fin 1024) (d : Fin 128) :
    StableHlo.entryContents Cert.ReferenceIdeal.Value.preI m' c (Proc.devRef .tc Cert.ReferenceIdeal.main_v35) (ix2 r d) =
      Cert.KernelIdeal.Gen.argFeatures m c (m ((c.tc : Thread Cert.KernelIdeal.nD Cert.KernelIdeal.τ).loc Cert.KernelIdeal.main_arg0)) r d := by
  obtain ⟨h0, -, -, -, h4, h5, h6, h7, h8, h9, -⟩ := h
  rw [Cert.ReferenceIdeal.Value.entry_v35_at, h0, h4, h5, h6, h7, h8, h9]
  rfl

/-- The features of the second batch. -/
theorem features_k (h : Agree m m' c) (r : Fin 1024) (d : Fin 128) :
    StableHlo.entryContents Cert.ReferenceIdeal.Value.preI m' c (Proc.devRef .tc Cert.ReferenceIdeal.main_v71) (ix2 r d) =
      Cert.KernelIdeal.Gen.argFeatures m c (m ((c.tc : Thread Cert.KernelIdeal.nD Cert.KernelIdeal.τ).loc Cert.KernelIdeal.main_arg1)) r d := by
  obtain ⟨-, h1, -, -, h4, h5, h6, h7, h8, h9, -⟩ := h
  rw [Cert.ReferenceIdeal.Value.entry_v71_at, h1, h4, h5, h6, h7, h8, h9]
  rfl

/-- The contrast rows. -/
theorem result1 (h : Agree m m' c) (ρ : Dev Cert.KernelIdeal.nD → PrngReg) [Cert.Pre_integers_in_range.Facts] (hp : Pre_KernelIdeal_integers_in_range m) :
    Cert.KernelIdeal.Gen.W13 m ρ c (Proc.devRef .tc Cert.KernelIdeal.main_v29_0) = Cert.ReferenceIdeal.Value.final m' c Cert.ReferenceIdeal.main_v105 := by
  have hq := h.features_q
  have hk := h.features_k
  have hL : ∀ b, Cert.KernelIdeal.Gen.argLabel m c b < 8192 := labels_q_in_range hp c
  obtain ⟨-, -, h2, -, -, -, -, -, -, -, -, -, h12, h13, -⟩ := h
  have e2 : StableHlo.launchContents m' c (Proc.tc.devRef Cert.ReferenceIdeal.main_arg2) = m ((c.tc : Thread Cert.KernelIdeal.nD Cert.KernelIdeal.τ).loc Cert.KernelIdeal.main_arg2) := h2
  have e12 : StableHlo.launchContents m' c (Proc.tc.devRef Cert.ReferenceIdeal.main_arg12) = m ((c.tc : Thread Cert.KernelIdeal.nD Cert.KernelIdeal.τ).loc Cert.KernelIdeal.main_arg12) := h12
  have e13 : StableHlo.launchContents m' c (Proc.tc.devRef Cert.ReferenceIdeal.main_arg13) = m ((c.tc : Thread Cert.KernelIdeal.nD Cert.KernelIdeal.τ).loc Cert.KernelIdeal.main_arg13) := h13
  have hr := Cert.ReferenceIdeal.Value.final_v105 m' c
  rw [e2, e12, e13] at hr
  suffices key : ∀ (b : Fin 1024) (n : Fin 33796), Cert.KernelIdeal.Gen.simAt (Cert.KernelIdeal.Gen.V9 m ρ) c b n.val =
      Cert.ReferenceIdeal.Value.rContrast (StableHlo.entryContents Cert.ReferenceIdeal.Value.preI m' c (Proc.devRef .tc Cert.ReferenceIdeal.main_v35))
        (StableHlo.entryContents Cert.ReferenceIdeal.Value.preI m' c (Proc.devRef .tc Cert.ReferenceIdeal.main_v71))
        (m ((c.tc : Thread Cert.KernelIdeal.nD Cert.KernelIdeal.τ).loc Cert.KernelIdeal.main_arg13)) (m ((c.tc : Thread Cert.KernelIdeal.nD Cert.KernelIdeal.τ).loc Cert.KernelIdeal.main_arg12))
        (m ((c.tc : Thread Cert.KernelIdeal.nD Cert.KernelIdeal.τ).loc Cert.KernelIdeal.main_arg2)) (ix2 b n) by
    rw [hr]
    funext i
    rw [eq_ix2 i]
    exact (Cert.KernelIdeal.Gen.W13_v29_0 m ρ c hL (i 0) (i 1)).trans (key (i 0) (i 1))
  intro b n
  rw [Cert.ReferenceIdeal.Value.rContrast_at _ _ _ _ _ b n (hL b)]
  unfold Cert.KernelIdeal.Gen.simAt
  simp only [hq, hk, Cert.KernelIdeal.Gen.V9_simQ, Cert.KernelIdeal.Gen.V9_simK, Cert.KernelIdeal.Gen.V9_simLabel]
  by_cases h1 : n.val < 1024
  · rw [dif_pos h1, dif_pos h1]
  rw [dif_neg h1, dif_neg h1]
  have hLb := hL b
  by_cases h3 : n.val < 1032
  · rw [if_pos h3, dif_pos h3, Cert.KernelIdeal.Gen.V9_simPos' m ρ c b _ (hL b)]
    unfold Cert.KernelIdeal.Gen.ownClass
    refine Finset.sum_congr rfl fun d _ => mul_right_eq _ ?_
    refine congrArg (Cert.KernelIdeal.Gen.argPos m c d) (Fin.ext ?_)
    show Cert.KernelIdeal.Gen.argLabel m c b * 8 + n.val % 8 = Cert.KernelIdeal.Gen.argLabel m c b * 8 + (n.val - 1024)
    omega
  rw [if_neg h3, dif_neg h3]
  by_cases h4 : n.val < 1032 + 4 * Cert.KernelIdeal.Gen.argLabel m c b
  · rw [if_pos h4]
    refine Finset.sum_congr rfl fun d _ => mul_right_eq _ ?_
    rw [Cert.KernelIdeal.Gen.V9_simNeg m ρ c d n.val (by omega) (by omega)]
    refine congrArg (Cert.KernelIdeal.Gen.argNeg m c d) (Fin.ext ?_)
    show n.val - 1032 = Cert.ReferenceIdeal.Value.skip (Cert.KernelIdeal.Gen.argLabel m c b) (n.val - 1032)
    unfold Cert.ReferenceIdeal.Value.skip
    rw [if_neg (by omega)]
  · rw [if_neg h4]
    refine Finset.sum_congr rfl fun d _ => mul_right_eq _ ?_
    rw [Cert.KernelIdeal.Gen.V9_simNeg m ρ c d (4 + n.val) (by omega) (by omega)]
    refine congrArg (Cert.KernelIdeal.Gen.argNeg m c d) (Fin.ext ?_)
    show 4 + n.val - 1032 = Cert.ReferenceIdeal.Value.skip (Cert.KernelIdeal.Gen.argLabel m c b) (n.val - 1032)
    unfold Cert.ReferenceIdeal.Value.skip
    rw [if_pos (by omega)]
    omega

/-- The contrast rows' labels. -/
theorem result2 (h : Agree m m' c) (ρ : Dev Cert.KernelIdeal.nD → PrngReg) [Cert.Pre_integers_in_range.Facts] (_ : Pre_KernelIdeal_integers_in_range m) :
    Cert.KernelIdeal.Gen.W13 m ρ c (Proc.devRef .tc Cert.KernelIdeal.main_v29_1) = Cert.ReferenceIdeal.Value.final m' c Cert.ReferenceIdeal.main_v108 := by
  obtain ⟨-, -, h2, h3, -⟩ := h
  have e2 : StableHlo.launchContents m' c (Proc.tc.devRef Cert.ReferenceIdeal.main_arg2) = m ((c.tc : Thread Cert.KernelIdeal.nD Cert.KernelIdeal.τ).loc Cert.KernelIdeal.main_arg2) := h2
  have e3 : StableHlo.launchContents m' c (Proc.tc.devRef Cert.ReferenceIdeal.main_arg3) = m ((c.tc : Thread Cert.KernelIdeal.nD Cert.KernelIdeal.τ).loc Cert.KernelIdeal.main_arg3) := h3
  have hr := Cert.ReferenceIdeal.Value.final_v108 m' c
  rw [e2, e3] at hr
  suffices key : ∀ (b : Fin 1024) (n : Fin 33796), Cert.KernelIdeal.Gen.labAt (Cert.KernelIdeal.Gen.V9 m ρ) c b n.val =
      Cert.ReferenceIdeal.Value.rLabels (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (ix2 b n) by
    rw [hr]
    funext i
    rw [eq_ix2 i]
    exact (Cert.KernelIdeal.Gen.W13_v29_1 m ρ c (i 0) (i 1)).trans (key (i 0) (i 1))
  intro b n
  rw [Cert.ReferenceIdeal.Value.rLabels_at]
  unfold Cert.KernelIdeal.Gen.labAt
  simp only [Cert.KernelIdeal.Gen.V9_simLabel, Cert.KernelIdeal.Gen.V9_colLabel]
  rfl

end Agree

end Cert

end
-- ==== Proof.Value.Scan.lean ====
/-
  Rows written one after another into rings of slots: row `i` goes to ring `l i`, at the place where that ring's pointer stands,
  and the pointer moves on by one round the ring. Which row a slot ends with, told from how often each ring is written.
-/
module

public import Idealize.ShloMosaic.Lib.Pipeline.ValueKit
public import Idealize.ShloMosaic.Lib.Routing.Count
public import Idealize.ShloMosaic.Lib.LaneScatter.Pure

@[expose] public section

namespace Cert

open Idealize.ShloMosaic.LaneScatter

/-- How many of the first `t` rows go to ring `c`. -/
def seen (l : ℕ → ℕ) (t c : ℕ) : ℕ := Nat.count (fun i => l i = c) t

/-- The slot that row `i` goes to, of rings of `N` slots whose pointers start at `p`. -/
def slot (l p : ℕ → ℕ) (N i : ℕ) : ℕ := l i * N + (p (l i) + seen l i (l i)) % N

/-- A row among the last `N` rows of its ring. -/
def Live (l : ℕ → ℕ) (N T i : ℕ) : Prop := seen l T (l i) ≤ seen l i (l i) + N

theorem seen_zero (l : ℕ → ℕ) (c : ℕ) : seen l 0 c = 0 := rfl

theorem seen_succ (l : ℕ → ℕ) (t c : ℕ) : seen l (t + 1) c = seen l t c + if l t = c then 1 else 0 :=
  Nat.count_succ _ _

theorem seen_mono (l : ℕ → ℕ) (c : ℕ) {s t : ℕ} (h : s ≤ t) : seen l s c ≤ seen l t c := Nat.count_monotone _ h

theorem seen_le (l : ℕ → ℕ) (t c : ℕ) : seen l t c ≤ t := Nat.count_le _

/-- The row at which a ring has been written `r` times. -/
theorem exists_seen (l : ℕ → ℕ) (c r : ℕ) : ∀ T, r < seen l T c → ∃ j, j < T ∧ l j = c ∧ seen l j c = r
  | 0, h => by rw [seen_zero] at h; omega
  | T + 1, h => by
    by_cases h' : r < seen l T c
    · obtain ⟨j, h1, h2, h3⟩ := exists_seen l c r T h'
      exact ⟨j, by omega, h2, h3⟩
    · rw [seen_succ] at h
      by_cases hc : l T = c
      · rw [if_pos hc] at h
        exact ⟨T, by omega, hc, by omega⟩
      · rw [if_neg hc] at h
        omega

/-- Two rows with one slot go to one ring. -/
theorem ring_of_slot (l p : ℕ → ℕ) {N i j : ℕ} (hN : 0 < N) (h : slot l p N i = slot l p N j) : l i = l j := by
  have h1 : slot l p N i / N = l i := by
    unfold slot
    rw [Nat.mul_comm, Nat.mul_add_div hN, Nat.div_eq_of_lt (Nat.mod_lt _ hN), Nat.add_zero]
  have h2 : slot l p N j / N = l j := by
    unfold slot
    rw [Nat.mul_comm, Nat.mul_add_div hN, Nat.div_eq_of_lt (Nat.mod_lt _ hN), Nat.add_zero]
  rw [← h1, ← h2, h]

/-- Two rows with one slot are a whole number of rounds apart. -/
theorem rounds_of_slot (l p : ℕ → ℕ) {N i j : ℕ} (hN : 0 < N) (h : slot l p N i = slot l p N j) (hij : i < j) :
    seen l i (l i) + N ≤ seen l j (l j) := by
  have hl := ring_of_slot l p hN h
  have hlt : seen l i (l i) + 1 ≤ seen l j (l j) := by
    have h1 := seen_mono l (l i) (show i + 1 ≤ j from hij)
    rw [seen_succ, if_pos rfl] at h1
    rw [← hl]
    exact h1
  have hm : (p (l i) + seen l i (l i)) % N = (p (l i) + seen l j (l j)) % N := by
    unfold slot at h
    rw [← hl] at h ⊢
    omega
  have hd : N ∣ (p (l i) + seen l j (l j)) - (p (l i) + seen l i (l i)) := (Nat.modEq_iff_dvd' (by omega)).1 hm
  have := Nat.le_of_dvd (by omega) hd
  omega

/-- A row is the last of its slot exactly when it is among the last `N` of its ring. -/
theorem live_iff (l p : ℕ → ℕ) {N T j : ℕ} (hN : 0 < N) :
    Live l N T j ↔ ∀ i, j < i → i < T → slot l p N i ≠ slot l p N j := by
  constructor
  · intro hL i hji hiT he
    have h1 := rounds_of_slot l p hN he.symm hji
    have h2 := ring_of_slot l p hN he
    have h3 := seen_mono l (l i) (show i + 1 ≤ T from hiT)
    rw [seen_succ, if_pos rfl] at h3
    unfold Live at hL
    rw [← h2] at hL h1
    omega
  · intro h
    by_contra hL
    unfold Live at hL
    obtain ⟨i, h1, h2, h3⟩ := exists_seen l (l j) (seen l j (l j) + N) T (by omega)
    have hji : j < i := by
      by_contra hc
      have := seen_mono l (l j) (show i ≤ j by omega)
      omega
    refine h i hji h1 ?_
    unfold slot
    rw [h2, h3, ← Nat.add_assoc, Nat.add_mod_right]

/-- Ones summed where a condition holds at one row only. -/
theorem sum_pick {T : ℕ} (P : Fin T → Prop) [DecidablePred P] (f : Fin T → EReal) (k : Fin T) (hk : P k) (hu : ∀ i, P i → i = k) :
    ∑ i : Fin T, f i * (if P i then (1 : EReal) else 0) = f k := by
  rw [Finset.sum_eq_single k]
  · rw [if_pos hk, mul_one]
  · intro i _ hi
    rw [if_neg fun h => hi (hu i h), mul_zero]
  · intro h; exact absurd (Finset.mem_univ k) h

/-- Zeros summed. -/
theorem sum_none {T : ℕ} (P : Fin T → Prop) [DecidablePred P] (f : Fin T → EReal) (h : ∀ i, ¬ P i) :
    ∑ i : Fin T, f i * (if P i then (1 : EReal) else 0) = 0 :=
  Finset.sum_eq_zero fun i _ => by rw [if_neg (h i), mul_zero]

open scoped Classical in
/-- The last row written to a slot, found by a sum over the rows that are the last of their slots. -/
theorem pick_last (l p : ℕ → ℕ) {N T : ℕ} (hN : 0 < N) (q : ℕ) (f : ℕ → EReal) (g half : EReal) (h0 : 0 ≤ half) (h1 : half < 1) :
    (if half < ∑ i : Fin T, (1 : EReal) * (if slot l p N i = q ∧ Live l N T i then (1 : EReal) else 0)
      then ∑ i : Fin T, f i * (if slot l p N i = q ∧ Live l N T i then (1 : EReal) else 0) else g)
    = lastHit (fun i => slot l p N i = q) f g T := by
  rcases lastHit_cases (fun i => slot l p N i = q) f g T with ⟨k, hk, hh, hl, hv⟩ | ⟨hn, hv⟩
  · have hkL : slot l p N k = q ∧ Live l N T k := ⟨hh, (live_iff l p hN).2 fun i h1 h2 => by rw [hh]; exact hl i h1 h2⟩
    have hu : ∀ i : Fin T, slot l p N i = q ∧ Live l N T i → i = ⟨k, hk⟩ := by
      rintro i ⟨hi, hL⟩
      rcases Nat.lt_trichotomy i.val k with h | h | h
      · exact absurd (hh.trans hi.symm) ((live_iff l p hN).1 hL k h hk)
      · exact Fin.ext h
      · exact absurd hi (hl i.val h i.isLt)
    rw [sum_pick (fun i : Fin T => slot l p N i = q ∧ Live l N T i) (fun _ => 1) ⟨k, hk⟩ hkL hu,
      sum_pick (fun i : Fin T => slot l p N i = q ∧ Live l N T i) (fun i => f i) ⟨k, hk⟩ hkL hu, if_pos h1, hv]
  · rw [sum_none (fun i : Fin T => slot l p N i = q ∧ Live l N T i) (fun _ => 1) (fun i h => hn i i.isLt h.1), if_neg (not_lt.2 h0), hv]

/-- The count of a condition's rows as a sum. -/
theorem sum_ones (P : ℕ → Prop) [DecidablePred P] : ∀ T, ∑ i : Fin T, (if P i then (1 : EReal) else 0) = ((Nat.count P T : ℕ) : EReal)
  | 0 => by simp
  | T + 1 => by
    rw [Fin.sum_univ_castSucc, Nat.count_succ, Nat.cast_add]
    congr 1
    · exact sum_ones P T
    · show (if P T then (1 : EReal) else 0) = _
      split <;> simp

/-- The count of a condition's rows below a row, as a sum over all. -/
theorem sum_ones_below (P : ℕ → Prop) [DecidablePred P] (j : ℕ) : ∀ T, j ≤ T →
    ∑ i : Fin T, (if i.val < j then (if P i then (1 : EReal) else 0) else 0) = ((Nat.count P j : ℕ) : EReal) := by
  intro T h
  obtain ⟨d, rfl⟩ := Nat.exists_eq_add_of_le h
  rw [Fin.sum_univ_add, ← sum_ones P j]
  have hz : ∑ i : Fin d, (if (Fin.natAdd j i).val < j then (if P (Fin.natAdd j i) then (1 : EReal) else 0) else 0) = 0 :=
    Finset.sum_eq_zero fun i _ => by rw [if_neg (by simp)]
  rw [hz, add_zero]
  exact Finset.sum_congr rfl fun i _ => by rw [if_pos (by simp)]; simp

end Cert
-- ==== Proof.Value.Prep.lean ====
/-
  Kernel call 3, `_prep_body`: each row's rank and count within its class, the slots they go to, and the pointers moved on.
-/
module

public import proofs.«01_k».proof.Proof.Run.Region3
public import proofs.«01_k».proof.Proof.Value.Scan
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.ShloMosaic.Pipeline

namespace Cert.KernelIdeal.Gen

/-- A whole number kept by the conversion to a word. -/
theorem fptosi_nat (n : ℕ) (h : n < 2 ^ 31) : Ideal.fptosi 32 ((n : ℕ) : EReal) = BitVec.ofNat 32 n := by
  rw [show ((n : ℕ) : EReal) = (((n : ℕ) : ℝ) : EReal) by simp, Ideal.fptosi, Ideal.toIntClamped_coe, if_pos (by positivity), Int.floor_natCast,
    min_eq_right (by norm_num; omega), max_eq_right (by norm_num)]
  rfl

/-- Equality of two small words chooses one or zero. -/
theorem pick_eq (m n : ℕ) (hm : m < 2 ^ 31) (hn : n < 2 ^ 31) :
    Scalar.select (IntOp.cmpi CmpIPredicate.eq (BitVec.ofNat 32 m) (BitVec.ofNat 32 n)) (1 : EReal) 0 = if m = n then (1 : EReal) else 0 := by
  rw [WordCmp.cmpi_eq_ofNat (by omega) (by omega), WordCmp.select_ofBool]
  simp only [decide_eq_true_eq]

/-- A sum of two small words. -/
theorem word_add (a b : ℕ) : IntOp.addi (BitVec.ofNat 32 a) (BitVec.ofNat 32 b) = BitVec.ofNat 32 (a + b) := by
  show BitVec.ofNat 32 a + BitVec.ofNat 32 b = _
  rw [← BitVec.ofNat_add]

section Rows

variable (v0 : Vec Ideal S1x1024 .i32) (v4 : Vec Ideal S1024x1 .i32) (l : ℕ → ℕ) (hl : ∀ i, l i < 8192)
  (h0 : ∀ b : Fin 1024, v0 (ix2 0 b) = BitVec.ofNat 32 (l b)) (h4 : ∀ b : Fin 1024, v4 (ix2 b 0) = BitVec.ofNat 32 (l b))

include hl h0 h4 in
/-- Which rows are of one class. -/
theorem pay5_at (i j : Fin 1024) : k3_pay5 (F := Ideal) v0 v4 (ix2 i j) = if l i = l j then (1 : EReal) else 0 := by
  pointwise [k3_pay5, k3_pay4]
  rw [h0, h4, pick_eq _ _ (by have := hl i; omega) (by have := hl j; omega)]

include hl h0 h4 in
/-- A row's rank. -/
theorem pay6_at (j : Fin 1024) : k3_pay6 (F := Ideal) v0 v4 (ix2 0 j) = BitVec.ofNat 32 (seen l j (l j)) := by
  pointwise [k3_pay6]
  have h := sum_ones_below (fun i => l i = l j) j.val 1024 (by omega)
  refine Eq.trans ?_ (fptosi_nat _ (show seen l j (l j) < 2 ^ 31 by have := seen_le l j (l j); omega))
  refine congrArg (Ideal.fptosi 32) (Eq.trans (Finset.sum_congr rfl fun i _ => ?_) h)
  rw [pay5_at v0 v4 l hl h0 h4, WordCmp.cmpi_slt_ofNat (by omega) (by omega), WordCmp.select_ofBool]
  simp only [decide_eq_true_eq]

include hl h0 h4 in
/-- A row's class's count. -/
theorem pay7_at (j : Fin 1024) : k3_pay7 (F := Ideal) v0 v4 (ix2 0 j) = BitVec.ofNat 32 (seen l 1024 (l j)) := by
  pointwise [k3_pay7]
  have h := sum_ones (fun i => l i = l j) 1024
  refine Eq.trans ?_ (fptosi_nat _ (show seen l 1024 (l j) < 2 ^ 31 by have := seen_le l 1024 (l j); omega))
  refine congrArg (Ideal.fptosi 32) (Eq.trans (Finset.sum_congr rfl fun i _ => ?_) h)
  rw [pay5_at v0 v4 l hl h0 h4]

include hl h0 in
/-- Which class of the block of classes a row is of. -/
theorem pay10_at (r j : Fin 1024) : k3_pay10 (F := Ideal) v0 (ix2 r j) = if 0 + r.val = l j then (1 : EReal) else 0 := by
  pointwise [k3_pay10, k3_pay4]
  rw [h0, word_add, pick_eq _ _ (by omega) (by have := hl j; omega), Nat.zero_add]

end Rows

section Classes

variable (v1 : IVec S1x1024 32) (l : ℕ → ℕ) (hl : ∀ i, l i < 8192) (h1 : ∀ b : Fin 1024, v1 (ix2 0 b) = BitVec.ofNat 32 (l b))

include hl h1 in
/-- Which class of the block of classes a row is of. -/
theorem pay18_at (r j : Fin 1024) : k3_pay18 (F := Ideal) v1 (ix2 r j) = if 1024 + r.val = l j then (1 : EReal) else 0 := by
  pointwise [k3_pay18]
  rw [h1, word_add, pick_eq _ _ (by omega) (by have := hl j; omega)]

include hl h1 in
/-- Which class of the block of classes a row is of. -/
theorem pay26_at (r j : Fin 1024) : k3_pay26 (F := Ideal) v1 (ix2 r j) = if 2048 + r.val = l j then (1 : EReal) else 0 := by
  pointwise [k3_pay26]
  rw [h1, word_add, pick_eq _ _ (by omega) (by have := hl j; omega)]

include hl h1 in
/-- Which class of the block of classes a row is of. -/
theorem pay34_at (r j : Fin 1024) : k3_pay34 (F := Ideal) v1 (ix2 r j) = if 3072 + r.val = l j then (1 : EReal) else 0 := by
  pointwise [k3_pay34]
  rw [h1, word_add, pick_eq _ _ (by omega) (by have := hl j; omega)]

include hl h1 in
/-- Which class of the block of classes a row is of. -/
theorem pay42_at (r j : Fin 1024) : k3_pay42 (F := Ideal) v1 (ix2 r j) = if 4096 + r.val = l j then (1 : EReal) else 0 := by
  pointwise [k3_pay42]
  rw [h1, word_add, pick_eq _ _ (by omega) (by have := hl j; omega)]

include hl h1 in
/-- Which class of the block of classes a row is of. -/
theorem pay50_at (r j : Fin 1024) : k3_pay50 (F := Ideal) v1 (ix2 r j) = if 5120 + r.val = l j then (1 : EReal) else 0 := by
  pointwise [k3_pay50]
  rw [h1, word_add, pick_eq _ _ (by omega) (by have := hl j; omega)]

include hl h1 in
/-- Which class of the block of classes a row is of. -/
theorem pay58_at (r j : Fin 1024) : k3_pay58 (F := Ideal) v1 (ix2 r j) = if 6144 + r.val = l j then (1 : EReal) else 0 := by
  pointwise [k3_pay58]
  rw [h1, word_add, pick_eq _ _ (by omega) (by have := hl j; omega)]

include hl h1 in
/-- Which class of the block of classes a row is of. -/
theorem pay65_at (r j : Fin 1024) : k3_pay65 (F := Ideal) v1 (ix2 r j) = if 7168 + r.val = l j then (1 : EReal) else 0 := by
  pointwise [k3_pay65]
  rw [h1, word_add, pick_eq _ _ (by omega) (by have := hl j; omega)]

end Classes

/-- One block's part of a row's pointer. -/
theorem block_pick (o k L : ℕ) (ho : o = k * 1024) (P : ℕ → EReal) (A B : Fin 1024 → EReal)
    (hA : ∀ r, A r = if o + r.val = L then (1 : EReal) else 0) (hB : ∀ r, B r = P (o + r.val)) :
    ∑ r : Fin 1024, A r * B r = if L / 1024 = k then P L else 0 := by
  subst ho
  simp only [hA, hB]
  by_cases h : L / 1024 = k
  · rw [if_pos h, Finset.sum_eq_single (⟨L % 1024, Nat.mod_lt _ (by decide)⟩ : Fin 1024)]
    · have e : k * 1024 + L % 1024 = L := by omega
      show (if k * 1024 + L % 1024 = L then (1 : EReal) else 0) * P (k * 1024 + L % 1024) = _
      rw [e, if_pos rfl, one_mul]
    · intro r _ hr
      rw [if_neg fun e => hr (Fin.ext (by show r.val = L % 1024; omega)), zero_mul]
    · intro h; exact absurd (Finset.mem_univ _) h
  · rw [if_neg h]
    exact Finset.sum_eq_zero fun r _ => by rw [if_neg (by omega), zero_mul]

/-- The eight blocks' parts together. -/
theorem blocks_pick (L : ℕ) (hL : L < 8192) (P : ℕ → EReal) :
    (((((((if L / 1024 = 0 then P L else 0) + if L / 1024 = 1 then P L else 0) + if L / 1024 = 2 then P L else 0)
      + if L / 1024 = 3 then P L else 0) + if L / 1024 = 4 then P L else 0) + if L / 1024 = 5 then P L else 0)
      + if L / 1024 = 6 then P L else 0) + (if L / 1024 = 7 then P L else 0) = P L := by
  have h : L / 1024 < 8 := by omega
  generalize L / 1024 = k at h
  interval_cases k <;> simp

/-- A small word read as a real number. -/
theorem sitofp_nat (n : ℕ) (h : n < 2 ^ 31) : (FloatOps.sitofp (F := Ideal) FTy.f32 (BitVec.ofNat 32 n) : EReal) = ((n : ℕ) : EReal) := by
  show (((BitVec.ofNat 32 n).toInt : ℝ) : EReal) = _
  rw [show (BitVec.ofNat 32 n).toInt = (n : ℤ) from ?_]
  · simp
  · rw [BitVec.toInt_ofNat', Int.bmod_eq_of_le] <;> omega

/-- The last two bits of a word. -/
theorem word_and3 (n : ℕ) : IntOp.andi (BitVec.ofNat 32 n) 3#32 = BitVec.ofNat 32 (n % 4) := by
  apply BitVec.eq_of_toNat_eq
  show ((BitVec.ofNat 32 n) &&& 3#32).toNat = _
  rw [BitVec.toNat_and, BitVec.toNat_ofNat, BitVec.toNat_ofNat, BitVec.toNat_ofNat, show 3 % 2 ^ 32 = 2 ^ 2 - 1 from rfl, Nat.and_two_pow_sub_one_eq_mod]
  omega

/-- The last three bits of a word. -/
theorem word_and7 (n : ℕ) : IntOp.andi (BitVec.ofNat 32 n) 7#32 = BitVec.ofNat 32 (n % 8) := by
  apply BitVec.eq_of_toNat_eq
  show ((BitVec.ofNat 32 n) &&& 7#32).toNat = _
  rw [BitVec.toNat_and, BitVec.toNat_ofNat, BitVec.toNat_ofNat, BitVec.toNat_ofNat, show 7 % 2 ^ 32 = 2 ^ 3 - 1 from rfl, Nat.and_two_pow_sub_one_eq_mod]
  omega

/-- A small word times a constant. -/
theorem word_mul (a b : ℕ) : IntOp.muli (BitVec.ofNat 32 a) (BitVec.ofNat 32 b) = BitVec.ofNat 32 (a * b) := by
  show BitVec.ofNat 32 a * BitVec.ofNat 32 b = _
  rw [← BitVec.ofNat_mul]

section Whole

variable (x0 : Vec Ideal S1x1024 .i32) (x1 : Vec Ideal S1024x1 .i32) (x2 x3 : Vec Ideal S8192x1 .i32)
  (l p q : ℕ → ℕ) (hl : ∀ i, l i < 8192) (hp : ∀ i, p i < 4) (hq : ∀ i, q i < 8)
  (h0 : ∀ b : Fin 1024, x0 (ix2 0 b) = BitVec.ofNat 32 (l b)) (h1 : ∀ b : Fin 1024, x1 (ix2 b 0) = BitVec.ofNat 32 (l b))
  (h2 : ∀ k : Fin 8192, x2 (ix2 k 0) = BitVec.ofNat 32 (p k)) (h3 : ∀ k : Fin 8192, x3 (ix2 k 0) = BitVec.ofNat 32 (q k))

include hl h0 in
/-- The labels as each block of classes meets them. -/
theorem pay73_at (j : Fin 1024) : k3_pay73 (F := Ideal) x0 x1 x2 x3 (ix2 0 j) = BitVec.ofNat 32 (l j) := by
  pointwise [k3_pay73, k3_pay4]
  exact h0 j

include hl h0 h1 in
theorem pay74_at (j : Fin 1024) : k3_pay74 (F := Ideal) x0 x1 x2 x3 (ix2 0 j) = BitVec.ofNat 32 (seen l j (l j)) := by
  unfold k3_pay74
  exact pay6_at _ _ l hl (fun b => by pointwise; exact h0 b) (fun b => by pointwise; exact h1 b) j

include hl h0 h1 in
theorem pay75_at (j : Fin 1024) : k3_pay75 (F := Ideal) x0 x1 x2 x3 (ix2 0 j) = BitVec.ofNat 32 (seen l 1024 (l j)) := by
  unfold k3_pay75
  exact pay7_at _ _ l hl (fun b => by pointwise; exact h0 b) (fun b => by pointwise; exact h1 b) j

include hl hp h0 h1 h2 in
theorem out3_4_at (j : Fin 1024) : out3_4 (F := Ideal) x0 x1 x2 x3 (ix2 0 j) = BitVec.ofNat 32 (slot l p 4 j) := by
  unfold out3_4
  frame_out
  pointwise [k3_pay71, k3_pay60, k3_pay53, k3_pay45, k3_pay37, k3_pay29, k3_pay21, k3_pay13, k3_pay8, k3_pay12, k3_pay20, k3_pay28, k3_pay36, k3_pay43, k3_pay51, k3_pay59, k3_pay66]
  have h73 := pay73_at x0 x1 x2 x3 l hl h0
  have h0' : ∀ b : Fin 1024, View.ld x0 r3_0 (ix2 0 b) = BitVec.ofNat 32 (l b) := fun b => by pointwise; exact h0 b
  have hB : ∀ (n : ℕ) (h : n < 8192), (FloatOps.sitofp (F := Ideal) FTy.f32 (x2 (ix2 ⟨n, h⟩ 0) : BitVec 32) : EReal) = ((p n : ℕ) : EReal) := fun n h => by
    rw [h2]; exact sitofp_nat _ (lt_of_lt_of_le (hp _) (by norm_num))
  refine Eq.trans (congrArg (fun z : EReal => IntOp.addi (IntOp.muli (k3_pay73 x0 x1 x2 x3 (ix2 0 j)) 4#32)
    (IntOp.andi (IntOp.addi (Ideal.fptosi 32 z) (k3_pay74 x0 x1 x2 x3 (ix2 0 j))) 3#32)) (?_ : _ = ((p (l j) : ℕ) : EReal))) ?_
  · refine Eq.trans ?_ (blocks_pick (l j) (hl j) (fun n => ((p n : ℕ) : EReal)))
    refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
    · exact block_pick 0 0 (l j) rfl (fun n => ((p n : ℕ) : EReal)) _ _ (fun r => (pay10_at x0 l hl h0 r j)) (fun r => (hB r.val (by omega)).trans (by rw [Nat.zero_add]))
    · exact block_pick 1024 1 (l j) rfl (fun n => ((p n : ℕ) : EReal)) _ _ (fun r => pay18_at _ l hl h73 r j) (fun r => hB (1024 + r.val) (by omega))
    · exact block_pick 2048 2 (l j) rfl (fun n => ((p n : ℕ) : EReal)) _ _ (fun r => pay26_at _ l hl h73 r j) (fun r => hB (2048 + r.val) (by omega))
    · exact block_pick 3072 3 (l j) rfl (fun n => ((p n : ℕ) : EReal)) _ _ (fun r => pay34_at _ l hl h73 r j) (fun r => hB (3072 + r.val) (by omega))
    · exact block_pick 4096 4 (l j) rfl (fun n => ((p n : ℕ) : EReal)) _ _ (fun r => pay42_at _ l hl h73 r j) (fun r => hB (4096 + r.val) (by omega))
    · exact block_pick 5120 5 (l j) rfl (fun n => ((p n : ℕ) : EReal)) _ _ (fun r => pay50_at _ l hl h73 r j) (fun r => hB (5120 + r.val) (by omega))
    · exact block_pick 6144 6 (l j) rfl (fun n => ((p n : ℕ) : EReal)) _ _ (fun r => pay58_at _ l hl h73 r j) (fun r => hB (6144 + r.val) (by omega))
    · exact block_pick 7168 7 (l j) rfl (fun n => ((p n : ℕ) : EReal)) _ _ (fun r => pay65_at _ l hl h73 r j) (fun r => hB (7168 + r.val) (by omega))
  · show IntOp.addi (IntOp.muli _ _) (IntOp.andi (IntOp.addi (Ideal.fptosi 32 ((p (l j) : ℕ) : EReal)) _) _) = _
    rw [fptosi_nat _ (lt_of_lt_of_le (hp _) (by norm_num)), pay74_at x0 x1 x2 x3 l hl h0 h1, h73, word_add, word_and3, word_mul, word_add]
    rfl

include hl hq h0 h1 h3 in
theorem out3_6_at (j : Fin 1024) : out3_6 (F := Ideal) x0 x1 x2 x3 (ix2 0 j) = BitVec.ofNat 32 (slot l q 8 j) := by
  unfold out3_6
  frame_out
  pointwise [k3_pay2, k3_pay70, k3_pay61, k3_pay54, k3_pay46, k3_pay38, k3_pay30, k3_pay22, k3_pay14, k3_pay9, k3_pay11, k3_pay19, k3_pay27, k3_pay35, k3_pay44, k3_pay52]
  have h73 := pay73_at x0 x1 x2 x3 l hl h0
  have h0' : ∀ b : Fin 1024, View.ld x0 r3_0 (ix2 0 b) = BitVec.ofNat 32 (l b) := fun b => by pointwise; exact h0 b
  have hB : ∀ (n : ℕ) (h : n < 8192), (FloatOps.sitofp (F := Ideal) FTy.f32 (x3 (ix2 ⟨n, h⟩ 0) : BitVec 32) : EReal) = ((q n : ℕ) : EReal) := fun n h => by
    rw [h3]; exact sitofp_nat _ (lt_of_lt_of_le (hq _) (by norm_num))
  refine Eq.trans (congrArg (fun z : EReal => IntOp.addi (IntOp.muli (k3_pay73 x0 x1 x2 x3 (ix2 0 j)) 8#32)
    (IntOp.andi (IntOp.addi (Ideal.fptosi 32 z) (k3_pay74 x0 x1 x2 x3 (ix2 0 j))) 7#32)) (?_ : _ = ((q (l j) : ℕ) : EReal))) ?_
  · refine Eq.trans ?_ (blocks_pick (l j) (hl j) (fun n => ((q n : ℕ) : EReal)))
    refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
    · exact block_pick 0 0 (l j) rfl (fun n => ((q n : ℕ) : EReal)) _ _ (fun r => (pay10_at _ l hl h0' r j)) (fun r => (hB r.val (by omega)).trans (by rw [Nat.zero_add]))
    · exact block_pick 1024 1 (l j) rfl (fun n => ((q n : ℕ) : EReal)) _ _ (fun r => pay18_at _ l hl h73 r j) (fun r => hB (1024 + r.val) (by omega))
    · exact block_pick 2048 2 (l j) rfl (fun n => ((q n : ℕ) : EReal)) _ _ (fun r => pay26_at _ l hl h73 r j) (fun r => hB (2048 + r.val) (by omega))
    · exact block_pick 3072 3 (l j) rfl (fun n => ((q n : ℕ) : EReal)) _ _ (fun r => pay34_at _ l hl h73 r j) (fun r => hB (3072 + r.val) (by omega))
    · exact block_pick 4096 4 (l j) rfl (fun n => ((q n : ℕ) : EReal)) _ _ (fun r => pay42_at _ l hl h73 r j) (fun r => hB (4096 + r.val) (by omega))
    · exact block_pick 5120 5 (l j) rfl (fun n => ((q n : ℕ) : EReal)) _ _ (fun r => pay50_at _ l hl h73 r j) (fun r => hB (5120 + r.val) (by omega))
    · exact block_pick 6144 6 (l j) rfl (fun n => ((q n : ℕ) : EReal)) _ _ (fun r => pay58_at _ l hl h73 r j) (fun r => hB (6144 + r.val) (by omega))
    · exact block_pick 7168 7 (l j) rfl (fun n => ((q n : ℕ) : EReal)) _ _ (fun r => pay65_at _ l hl h73 r j) (fun r => hB (7168 + r.val) (by omega))
  · show IntOp.addi (IntOp.muli _ _) (IntOp.andi (IntOp.addi (Ideal.fptosi 32 ((q (l j) : ℕ) : EReal)) _) _) = _
    rw [fptosi_nat _ (lt_of_lt_of_le (hq _) (by norm_num)), pay74_at x0 x1 x2 x3 l hl h0 h1, h73, word_add, word_and7, word_mul, word_add]
    rfl

open scoped Classical in
include hl h0 h1 in
theorem out3_5_at (j : Fin 1024) : out3_5 (F := Ideal) x0 x1 x2 x3 (ix2 0 j) = if Live l 4 1024 j then 1#32 else 0#32 := by
  unfold out3_5
  frame_out
  pointwise [k3_pay1, k3_pay72]
  rw [pay74_at x0 x1 x2 x3 l hl h0 h1, pay75_at x0 x1 x2 x3 l hl h0 h1, word_add, WordCmp.cmpi_sge_ofNat (by have := seen_le l j (l j); omega) (by have := seen_le l 1024 (l j); omega),
    WordCmp.select_ofBool]
  simp only [decide_eq_true_eq]
  exact if_congr Iff.rfl rfl rfl

open scoped Classical in
include hl h0 h1 in
theorem out3_7_at (j : Fin 1024) : out3_7 (F := Ideal) x0 x1 x2 x3 (ix2 0 j) = if Live l 8 1024 j then 1#32 else 0#32 := by
  unfold out3_7
  frame_out
  pointwise [k3_pay3]
  rw [pay74_at x0 x1 x2 x3 l hl h0 h1, pay75_at x0 x1 x2 x3 l hl h0 h1, word_add, WordCmp.cmpi_sge_ofNat (by have := seen_le l j (l j); omega) (by have := seen_le l 1024 (l j); omega),
    WordCmp.select_ofBool]
  simp only [decide_eq_true_eq]
  exact if_congr Iff.rfl rfl rfl

/-- A class's count. -/
theorem count_at (n : ℕ) (A : Fin 1024 → EReal) (hA : ∀ j, A j = if n = l j then (1 : EReal) else 0) :
    Ideal.fptosi 32 (∑ j, A j) = BitVec.ofNat 32 (seen l 1024 n) := by
  have h := sum_ones (fun i => l i = n) 1024
  refine Eq.trans ?_ (fptosi_nat _ (show seen l 1024 n < 2 ^ 31 by have := seen_le l 1024 n; omega))
  refine congrArg (Ideal.fptosi 32) (Eq.trans (Finset.sum_congr rfl fun i _ => ?_) h)
  rw [hA]
  simp only [eq_comm]

include hl h0 h2 in
theorem out3_8_at (k : Fin 8192) : out3_8 (F := Ideal) x0 x1 x2 x3 (ix2 k 0) = BitVec.ofNat 32 ((p k + seen l 1024 k) % 4) := by
  have h73 := pay73_at x0 x1 x2 x3 l hl h0
  have h0' : ∀ b : Fin 1024, View.ld x0 r3_0 (ix2 0 b) = BitVec.ofNat 32 (l b) := fun b => by pointwise; exact h0 b
  unfold out3_8
  canon_tiles x hh using cover3_8 ..
  all_goals
    obtain ⟨r, hx⟩ : ∃ r : Fin 1024, x = ix2 r 0 := ⟨x 0, by rw [eq_ix2 x]; exact congrArg (ix2 (x 0)) (Subsingleton.elim _ _)⟩
    subst hx
  · have e : k.val = 7168 + r.val := hh0
    pointwise [k3_pay68, k3_pay67]
    rw [show FloatOps.fptosi (F := Ideal) 32 (∑ j, k3_pay83 x0 x1 x2 x3 (ix2 r j) : EReal) = _ from count_at l (7168 + r.val) _ fun j => pay65_at _ l hl h73 r j,
      h2, word_add, word_and3, e]
  · have e : k.val = 6144 + r.val := hh0
    pointwise [k3_pay63, k3_pay62]
    rw [show FloatOps.fptosi (F := Ideal) 32 (∑ j, k3_pay82 x0 x1 x2 x3 (ix2 r j) : EReal) = _ from count_at l (6144 + r.val) _ fun j => pay58_at _ l hl h73 r j,
      h2, word_add, word_and3, e]
  · have e : k.val = 5120 + r.val := hh0
    pointwise [k3_pay56, k3_pay55]
    rw [show FloatOps.fptosi (F := Ideal) 32 (∑ j, k3_pay81 x0 x1 x2 x3 (ix2 r j) : EReal) = _ from count_at l (5120 + r.val) _ fun j => pay50_at _ l hl h73 r j,
      h2, word_add, word_and3, e]
  · have e : k.val = 4096 + r.val := hh0
    pointwise [k3_pay48, k3_pay47]
    rw [show FloatOps.fptosi (F := Ideal) 32 (∑ j, k3_pay80 x0 x1 x2 x3 (ix2 r j) : EReal) = _ from count_at l (4096 + r.val) _ fun j => pay42_at _ l hl h73 r j,
      h2, word_add, word_and3, e]
  · have e : k.val = 3072 + r.val := hh0
    pointwise [k3_pay40, k3_pay39]
    rw [show FloatOps.fptosi (F := Ideal) 32 (∑ j, k3_pay79 x0 x1 x2 x3 (ix2 r j) : EReal) = _ from count_at l (3072 + r.val) _ fun j => pay34_at _ l hl h73 r j,
      h2, word_add, word_and3, e]
  · have e : k.val = 2048 + r.val := hh0
    pointwise [k3_pay32, k3_pay31]
    rw [show FloatOps.fptosi (F := Ideal) 32 (∑ j, k3_pay78 x0 x1 x2 x3 (ix2 r j) : EReal) = _ from count_at l (2048 + r.val) _ fun j => pay26_at _ l hl h73 r j,
      h2, word_add, word_and3, e]
  · have e : k.val = 1024 + r.val := hh0
    pointwise [k3_pay24, k3_pay23]
    rw [show FloatOps.fptosi (F := Ideal) 32 (∑ j, k3_pay77 x0 x1 x2 x3 (ix2 r j) : EReal) = _ from count_at l (1024 + r.val) _ fun j => pay18_at _ l hl h73 r j,
      h2, word_add, word_and3, e]
  · have e : k.val = r.val := hh0
    pointwise [k3_pay16, k3_pay15]
    rw [show FloatOps.fptosi (F := Ideal) 32 (∑ j, k3_pay76 x0 x1 x2 x3 (ix2 r j) : EReal) = _ from count_at l r.val _ fun j => (pay10_at _ l hl h0' r j).trans (by rw [Nat.zero_add]),
      h2, word_add, word_and3, e]

include hl h0 h3 in
theorem out3_9_at (k : Fin 8192) : out3_9 (F := Ideal) x0 x1 x2 x3 (ix2 k 0) = BitVec.ofNat 32 ((q k + seen l 1024 k) % 8) := by
  have h73 := pay73_at x0 x1 x2 x3 l hl h0
  have h0' : ∀ b : Fin 1024, View.ld x0 r3_0 (ix2 0 b) = BitVec.ofNat 32 (l b) := fun b => by pointwise; exact h0 b
  unfold out3_9
  canon_tiles x hh using cover3_9 ..
  all_goals
    obtain ⟨r, hx⟩ : ∃ r : Fin 1024, x = ix2 r 0 := ⟨x 0, by rw [eq_ix2 x]; exact congrArg (ix2 (x 0)) (Subsingleton.elim _ _)⟩
    subst hx
  · have e : k.val = 7168 + r.val := hh0
    pointwise [k3_pay69, k3_pay67]
    rw [show FloatOps.fptosi (F := Ideal) 32 (∑ j, k3_pay83 x0 x1 x2 x3 (ix2 r j) : EReal) = _ from count_at l (7168 + r.val) _ fun j => pay65_at _ l hl h73 r j,
      h3, word_add, word_and7, e]
  · have e : k.val = 6144 + r.val := hh0
    pointwise [k3_pay64, k3_pay62]
    rw [show FloatOps.fptosi (F := Ideal) 32 (∑ j, k3_pay82 x0 x1 x2 x3 (ix2 r j) : EReal) = _ from count_at l (6144 + r.val) _ fun j => pay58_at _ l hl h73 r j,
      h3, word_add, word_and7, e]
  · have e : k.val = 5120 + r.val := hh0
    pointwise [k3_pay57, k3_pay55]
    rw [show FloatOps.fptosi (F := Ideal) 32 (∑ j, k3_pay81 x0 x1 x2 x3 (ix2 r j) : EReal) = _ from count_at l (5120 + r.val) _ fun j => pay50_at _ l hl h73 r j,
      h3, word_add, word_and7, e]
  · have e : k.val = 4096 + r.val := hh0
    pointwise [k3_pay49, k3_pay47]
    rw [show FloatOps.fptosi (F := Ideal) 32 (∑ j, k3_pay80 x0 x1 x2 x3 (ix2 r j) : EReal) = _ from count_at l (4096 + r.val) _ fun j => pay42_at _ l hl h73 r j,
      h3, word_add, word_and7, e]
  · have e : k.val = 3072 + r.val := hh0
    pointwise [k3_pay41, k3_pay39]
    rw [show FloatOps.fptosi (F := Ideal) 32 (∑ j, k3_pay79 x0 x1 x2 x3 (ix2 r j) : EReal) = _ from count_at l (3072 + r.val) _ fun j => pay34_at _ l hl h73 r j,
      h3, word_add, word_and7, e]
  · have e : k.val = 2048 + r.val := hh0
    pointwise [k3_pay33, k3_pay31]
    rw [show FloatOps.fptosi (F := Ideal) 32 (∑ j, k3_pay78 x0 x1 x2 x3 (ix2 r j) : EReal) = _ from count_at l (2048 + r.val) _ fun j => pay26_at _ l hl h73 r j,
      h3, word_add, word_and7, e]
  · have e : k.val = 1024 + r.val := hh0
    pointwise [k3_pay25, k3_pay23]
    rw [show FloatOps.fptosi (F := Ideal) 32 (∑ j, k3_pay77 x0 x1 x2 x3 (ix2 r j) : EReal) = _ from count_at l (1024 + r.val) _ fun j => pay18_at _ l hl h73 r j,
      h3, word_add, word_and7, e]
  · have e : k.val = r.val := hh0
    pointwise [k3_pay17, k3_pay15]
    rw [show FloatOps.fptosi (F := Ideal) 32 (∑ j, k3_pay76 x0 x1 x2 x3 (ix2 r j) : EReal) = _ from count_at l r.val _ fun j => (pay10_at _ l hl h0' r j).trans (by rw [Nat.zero_add]),
      h3, word_add, word_and7, e]

end Whole

/-- Where each window stands. -/
theorem index3 : ∀ t : Fin cfg3.N, win3_0.index t = ![0, 0] ∧ win3_1.index t = ![0, 0] ∧ win3_2.index t = ![0, 0] ∧ win3_3.index t = ![0, 0]
    ∧ win3_4.index t = ![0, 0] ∧ win3_5.index t = ![0, 0] ∧ win3_6.index t = ![0, 0] ∧ win3_7.index t = ![0, 0] ∧ win3_8.index t = ![0, 0] ∧ win3_9.index t = ![0, 0] := by decide +kernel

section Arrays

variable (V : (c : Dev nD) → (b : Ref sig .tc) → Buf (Elt Ideal) ((c : Thread nD τ).loc b)) (c : Dev nD)
  (l p q : ℕ → ℕ) (hl : ∀ i, l i < 8192) (hp : ∀ i, p i < 4) (hq : ∀ i, q i < 8)
  (h0 : ∀ b : Fin 1024, V c main_v10 (ix2 0 b) = BitVec.ofNat 32 (l b)) (h1 : ∀ b : Fin 1024, V c main_v26 (ix2 b 0) = BitVec.ofNat 32 (l b))
  (h2 : ∀ k : Fin 8192, V c main_v11 (ix2 k 0) = BitVec.ofNat 32 (p k)) (h3 : ∀ k : Fin 8192, V c main_v12 (ix2 k 0) = BitVec.ofNat 32 (q k))

theorem blk3_0 (t : Fin cfg3.N) (b : Fin 1024) : iblk3 V c 0 t (ix2 0 b) = V c main_v10 (ix2 0 b) := by
  obtain ⟨e, -⟩ := index3 t
  blk_ext [iblk3, e]

theorem blk3_1 (t : Fin cfg3.N) (b : Fin 1024) : iblk3 V c 1 t (ix2 b 0) = V c main_v26 (ix2 b 0) := by
  obtain ⟨-, e, -⟩ := index3 t
  blk_ext [iblk3, e]

theorem blk3_2 (t : Fin cfg3.N) (k : Fin 8192) : iblk3 V c 2 t (ix2 k 0) = V c main_v11 (ix2 k 0) := by
  obtain ⟨-, -, e, -⟩ := index3 t
  blk_ext [iblk3, e]

theorem blk3_3 (t : Fin cfg3.N) (k : Fin 8192) : iblk3 V c 3 t (ix2 k 0) = V c main_v12 (ix2 k 0) := by
  obtain ⟨-, -, -, e, -⟩ := index3 t
  blk_ext [iblk3, e]

include hl hp h0 h1 h2 in
/-- The slots of the queue of negatives that the rows go to. -/
theorem prep_arr4 : (dat3 V c).arrAt 4 cfg3.N = (fun y => BitVec.ofNat 32 (slot l p 4 (y 1).val) : IVec S1x1024 32) := by
  refine (dat3 V c).arrAt_eq_of_covers 4 _ (by decide +kernel) fun t hf y => ?_
  blk_simp
  rw [after3_4]
  have e : win3_4.index t = ![0, 0] := by
    revert t
    decide +kernel
  obtain ⟨a, b, rfl⟩ : ∃ (a : Fin 1) (b : Fin 1024), y = ix2 a b := ⟨y 0, y 1, eq_ix2 y⟩
  obtain rfl : a = 0 := Subsingleton.elim _ _
  rw [out3_4_at _ _ _ _ l p hl hp (fun b => (blk3_0 V c t b).trans (h0 b)) (fun b => (blk3_1 V c t b).trans (h1 b)) (fun k => (blk3_2 V c t k).trans (h2 k)), e]
  show _ = BitVec.ofNat 32 (slot l p 4 (0 * 1024 + b.val))
  rw [Nat.zero_mul, Nat.zero_add]

open scoped Classical in
include hl h0 h1 in
/-- The rows that are the last of their slots in the queue of negatives. -/
theorem prep_arr5 : (dat3 V c).arrAt 5 cfg3.N = (fun y => if Live l 4 1024 (y 1).val then 1#32 else 0#32 : IVec S1x1024 32) := by
  refine (dat3 V c).arrAt_eq_of_covers 5 _ (by decide +kernel) fun t hf y => ?_
  blk_simp
  rw [after3_5]
  have e : win3_5.index t = ![0, 0] := by
    revert t
    decide +kernel
  obtain ⟨a, b, rfl⟩ : ∃ (a : Fin 1) (b : Fin 1024), y = ix2 a b := ⟨y 0, y 1, eq_ix2 y⟩
  obtain rfl : a = 0 := Subsingleton.elim _ _
  rw [out3_5_at _ _ _ _ l hl (fun b => (blk3_0 V c t b).trans (h0 b)) (fun b => (blk3_1 V c t b).trans (h1 b)), e]
  show _ = if Live l 4 1024 (0 * 1024 + b.val) then 1#32 else 0#32
  rw [Nat.zero_mul, Nat.zero_add]

include hl hq h0 h1 h3 in
/-- The slots of the queue of positives that the rows go to. -/
theorem prep_arr6 : (dat3 V c).arrAt 6 cfg3.N = (fun y => BitVec.ofNat 32 (slot l q 8 (y 1).val) : IVec S1x1024 32) := by
  refine (dat3 V c).arrAt_eq_of_covers 6 _ (by decide +kernel) fun t hf y => ?_
  blk_simp
  rw [after3_6]
  have e : win3_6.index t = ![0, 0] := by
    revert t
    decide +kernel
  obtain ⟨a, b, rfl⟩ : ∃ (a : Fin 1) (b : Fin 1024), y = ix2 a b := ⟨y 0, y 1, eq_ix2 y⟩
  obtain rfl : a = 0 := Subsingleton.elim _ _
  rw [out3_6_at _ _ _ _ l q hl hq (fun b => (blk3_0 V c t b).trans (h0 b)) (fun b => (blk3_1 V c t b).trans (h1 b)) (fun k => (blk3_3 V c t k).trans (h3 k)), e]
  show _ = BitVec.ofNat 32 (slot l q 8 (0 * 1024 + b.val))
  rw [Nat.zero_mul, Nat.zero_add]

open scoped Classical in
include hl h0 h1 in
/-- The rows that are the last of their slots in the queue of positives. -/
theorem prep_arr7 : (dat3 V c).arrAt 7 cfg3.N = (fun y => if Live l 8 1024 (y 1).val then 1#32 else 0#32 : IVec S1x1024 32) := by
  refine (dat3 V c).arrAt_eq_of_covers 7 _ (by decide +kernel) fun t hf y => ?_
  blk_simp
  rw [after3_7]
  have e : win3_7.index t = ![0, 0] := by
    revert t
    decide +kernel
  obtain ⟨a, b, rfl⟩ : ∃ (a : Fin 1) (b : Fin 1024), y = ix2 a b := ⟨y 0, y 1, eq_ix2 y⟩
  obtain rfl : a = 0 := Subsingleton.elim _ _
  rw [out3_7_at _ _ _ _ l hl (fun b => (blk3_0 V c t b).trans (h0 b)) (fun b => (blk3_1 V c t b).trans (h1 b)), e]
  show _ = if Live l 8 1024 (0 * 1024 + b.val) then 1#32 else 0#32
  rw [Nat.zero_mul, Nat.zero_add]

include hl h0 h2 in
/-- The negatives' pointers after all rows. -/
theorem prep_arr8 : (dat3 V c).arrAt 8 cfg3.N = (fun y => BitVec.ofNat 32 ((p (y 0).val + seen l 1024 (y 0).val) % 4) : IVec S8192x1 32) := by
  refine (dat3 V c).arrAt_eq_of_covers 8 _ (by decide +kernel) fun t hf y => ?_
  blk_simp
  rw [after3_8]
  have e : win3_8.index t = ![0, 0] := by
    revert t
    decide +kernel
  obtain ⟨b, a, rfl⟩ : ∃ (b : Fin 8192) (a : Fin 1), y = ix2 b a := ⟨y 0, y 1, eq_ix2 y⟩
  obtain rfl : a = 0 := Subsingleton.elim _ _
  rw [out3_8_at _ _ _ _ l p hl (fun b => (blk3_0 V c t b).trans (h0 b)) (fun k => (blk3_2 V c t k).trans (h2 k)), e]
  show _ = BitVec.ofNat 32 ((p (0 * 8192 + b.val) + seen l 1024 (0 * 8192 + b.val)) % 4)
  rw [Nat.zero_mul, Nat.zero_add]

include hl h0 h3 in
/-- The positives' pointers after all rows. -/
theorem prep_arr9 : (dat3 V c).arrAt 9 cfg3.N = (fun y => BitVec.ofNat 32 ((q (y 0).val + seen l 1024 (y 0).val) % 8) : IVec S8192x1 32) := by
  refine (dat3 V c).arrAt_eq_of_covers 9 _ (by decide +kernel) fun t hf y => ?_
  blk_simp
  rw [after3_9]
  have e : win3_9.index t = ![0, 0] := by
    revert t
    decide +kernel
  obtain ⟨b, a, rfl⟩ : ∃ (b : Fin 8192) (a : Fin 1), y = ix2 b a := ⟨y 0, y 1, eq_ix2 y⟩
  obtain rfl : a = 0 := Subsingleton.elim _ _
  rw [out3_9_at _ _ _ _ l q hl (fun b => (blk3_0 V c t b).trans (h0 b)) (fun k => (blk3_3 V c t k).trans (h3 k)), e]
  show _ = BitVec.ofNat 32 ((q (0 * 8192 + b.val) + seen l 1024 (0 * 8192 + b.val)) % 8)
  rw [Nat.zero_mul, Nat.zero_add]

end Arrays

end Cert.KernelIdeal.Gen
-- ==== Proof.Value.Scatter5.lean ====
/-
  Kernel call 5, `_scatter_body` over the queue of negatives: the rows that are the last of their slots, put there.
-/
module

public import proofs.«01_k».proof.Proof.Run.Region5
public import proofs.«01_k».proof.Proof.Value.Prep
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.ShloMosaic.Pipeline

namespace Cert.KernelIdeal.Gen

/-- A row counts in a slot when it goes there and is the last to. -/
theorem pick_row (t q s : ℕ) (A : Prop) [Decidable A] (ht : t < 64) (hq : q < 1024) (hs : s < 2 ^ 31) (x : EReal) :
    Scalar.select
      (IntOp.andi (IntOp.cmpi CmpIPredicate.eq (IntOp.addi (Scalar.muli (BitVec.ofNat 32 t) 1024#32) (BitVec.ofNat 32 q)) (BitVec.ofNat 32 s))
        (IntOp.cmpi CmpIPredicate.sgt (if A then 1#32 else 0#32) 0#32)) x 0 = x * (if s = t * 1024 + q ∧ A then (1 : EReal) else 0) := by
  rw [show IntOp.addi (Scalar.muli (BitVec.ofNat 32 t) 1024#32) (BitVec.ofNat 32 q) = BitVec.ofNat 32 (t * 1024 + q) from
    (congrArg (fun z => IntOp.addi z (BitVec.ofNat 32 q)) (word_mul t 1024)).trans (word_add _ _), WordCmp.cmpi_eq_ofNat (by omega) (by omega)]
  by_cases hA : A
  · by_cases hh : t * 1024 + q = s
    · rw [if_pos hA, if_pos ⟨hh.symm, hA⟩, mul_one, decide_eq_true hh]
      rfl
    · rw [if_pos hA, if_neg (fun h => hh h.1.symm), mul_zero, decide_eq_false hh]
      rfl
  · by_cases hh : t * 1024 + q = s
    · rw [if_neg hA, if_neg (fun h => hA h.2), mul_zero, decide_eq_true hh]
      rfl
    · rw [if_neg hA, if_neg (fun h => hA h.2), mul_zero, decide_eq_false hh]
      rfl

open scoped Classical in
/-- One block of columns after the rows are put there. -/
theorem pay5_1_at (i : grid5.Coords) (v4 v8 : Vec Ideal S1x1024 .i32) (v17 : Vec Ideal S1024x128 .f32) (v24 : Vec Ideal S128x1024 .f32)
    (s : ℕ → ℕ) (A : ℕ → Prop) (hs : ∀ j : Fin 1024, s j < 2 ^ 31) (h4 : ∀ j : Fin 1024, v4 (ix2 0 j) = BitVec.ofNat 32 (s j))
    (h8 : ∀ j : Fin 1024, v8 (ix2 0 j) = if A j then 1#32 else 0#32) (d : Fin 128) (q : Fin 1024) :
    k5_pay1 i v4 v8 v17 v24 (ix2 d q) =
      if Ideal.ofBits FTy.f32 0x3F000000#32 < ∑ j : Fin 1024, (1 : EReal) * (if s j = (i 0).val * 1024 + q.val ∧ A j then (1 : EReal) else 0)
      then ∑ j : Fin 1024, v17 (ix2 j d) * (if s j = (i 0).val * 1024 + q.val ∧ A j then (1 : EReal) else 0) else v24 (ix2 d q) := by
  pointwise [k5_pay1]
  have hi : (i 0).val < 64 := lt_of_lt_of_le (i 0).isLt (by decide)
  have hw : ∀ (j : Fin 1024) (x : EReal), Scalar.select
      (IntOp.andi (IntOp.cmpi CmpIPredicate.eq (IntOp.addi (Scalar.muli (BitVec.ofNat 32 (i 0).val) 1024#32) (BitVec.ofNat 32 q.val)) (v4 (ix2 0 j)))
        (IntOp.cmpi CmpIPredicate.sgt (v8 (ix2 0 j)) 0#32)) x 0 = x * (if s j = (i 0).val * 1024 + q.val ∧ A j then (1 : EReal) else 0) := by
    intro j x
    rw [h4, h8]
    exact pick_row _ _ _ _ hi q.isLt (hs j) x
  have h1 : ∑ j : Fin 1024, Scalar.select
      (IntOp.andi (IntOp.cmpi CmpIPredicate.eq (IntOp.addi (Scalar.muli (BitVec.ofNat 32 (i 0).val) 1024#32) (BitVec.ofNat 32 q.val)) (v4 (ix2 0 j)))
        (IntOp.cmpi CmpIPredicate.sgt (v8 (ix2 0 j)) 0#32)) (1 : EReal) 0 = ∑ j : Fin 1024, (if s j = (i 0).val * 1024 + q.val ∧ A j then (1 : EReal) else 0) :=
    Finset.sum_congr rfl fun j _ => (hw j 1).trans (one_mul _)
  have h2 := Finset.sum_congr rfl fun (j : Fin 1024) (_ : j ∈ Finset.univ) => hw j (v17 (ix2 j d))
  refine Eq.trans (if_congr (iff_of_eq (congrArg (fun z => Ideal.ofBits FTy.f32 1056964608#32 < z) h1)) h2 rfl) ?_
  exact if_congr Iff.rfl rfl rfl

theorem half_nonneg : (0 : EReal) ≤ Ideal.ofBits FTy.f32 0x3F000000#32 := by
  simp [Ideal.ofBits, Ideal.ieee, -EReal.coe_mul]

theorem half_lt_one : Ideal.ofBits FTy.f32 0x3F000000#32 < (1 : EReal) := by
  simp [Ideal.ofBits, Ideal.ieee, -EReal.coe_mul]
  norm_num
  rw [← EReal.coe_one, EReal.coe_lt_coe_iff]
  norm_num

/-- Where each window stands. -/
theorem index5 : ∀ t : Fin cfg5.N, win5_0.index t = ![0, t.val] ∧ win5_1.index t = ![0, 0] ∧ win5_2.index t = ![0, 0] ∧ win5_3.index t = ![0, 0]
    ∧ win5_4.index t = ![0, t.val] := by decide +kernel

theorem point5 : ∀ t : Fin cfg5.N, (grid5.coords t 0).val = t.val := by decide +kernel

section Arrays

variable (V : (c : Dev nD) → (b : Ref sig .tc) → Buf (Elt Ideal) ((c : Thread nD τ).loc b)) (c : Dev nD)
  (l p : ℕ → ℕ) (hl : ∀ i, l i < 8192)
  (h0 : V c main_v27_0 = (fun y => BitVec.ofNat 32 (slot l p 4 (y 1).val) : IVec S1x1024 32))

/-- The second batch's features, as they stand when the call starts. -/
def rowK5 (j : ℕ) (d : Fin 128) : EReal := V c main_v17 (ix2 (⟨j % 1024, Nat.mod_lt _ (by norm_num)⟩ : Fin 1024) d)

/-- The queue, as it stands when the call starts. -/
def queue5 (d : Fin 128) (q : Fin 32768) : EReal := V c main_arg12 (ix2 d q)

open scoped Classical in
include hl h0 in
/-- The queue after the call: the last row of each slot that some row goes to. -/
theorem scatter_arr5 (h1 : V c main_v27_1 = (fun y => if Live l 4 1024 (y 1).val then 1#32 else 0#32 : IVec S1x1024 32)) :
    (dat5 V c).arrAt 4 cfg5.N = (fun y => LaneScatter.lastHit (fun i => slot l p 4 i = (y 1).val) (fun i => rowK5 V c i (y 0)) (queue5 V c (y 0) (y 1)) 1024
      : Vec Ideal S128x32768 .f32) := by
  refine (dat5 V c).arrAt_eq_of_covers 4 _ (by decide +kernel) fun t hf y => ?_
  blk_simp
  rw [after5_4]
  obtain ⟨e0, e1, e2, e3, e4⟩ := index5 t
  have ep := point5 t
  obtain ⟨d, q, rfl⟩ : ∃ (d : Fin 128) (q : Fin 1024), y = ix2 d q := ⟨y 0, y 1, eq_ix2 y⟩
  have q1 : ∀ (j : Fin 1024) (d : Fin 128), iblk5 V c 1 t (ix2 j d) = V c main_v17 (ix2 j d) := fun j d => by blk_ext [iblk5, e1]
  have q2 : ∀ j : Fin 1024, iblk5 V c 2 t (ix2 0 j) = V c main_v27_0 (ix2 0 j) := fun j => by blk_ext [iblk5, e2]
  have q3 : ∀ j : Fin 1024, iblk5 V c 3 t (ix2 0 j) = V c main_v27_1 (ix2 0 j) := fun j => by blk_ext [iblk5, e3]
  have ht : t.val < 32 := t.isLt
  have q0 : iblk5 V c 0 t (ix2 d q) = queue5 V c d ⟨t.val * 1024 + q.val, by omega⟩ := by unfold queue5; blk_ext [iblk5, e0]
  have qe : (win5_4.blk t).view.emb (ix2 d q) = ix2 d (⟨t.val * 1024 + q.val, by omega⟩ : Fin 32768) := by blk_ext [e4]
  have hs : ∀ j : Fin 1024, slot l p 4 j < 2 ^ 31 := fun j => by
    unfold slot
    have h1 := hl j
    have h2 := Nat.mod_lt (p (l j) + seen l j (l j)) (show 0 < 4 by norm_num)
    omega
  rw [qe]
  show _ = LaneScatter.lastHit (fun i => slot l p 4 i = win5_4.index t 1 * 1024 + q.val) (fun i => rowK5 V c i d)
      (queue5 V c d (⟨t.val * 1024 + q.val, by omega⟩ : Fin 32768)) 1024
  rw [e4]
  show _ = LaneScatter.lastHit (fun i => slot l p 4 i = t.val * 1024 + q.val) (fun i => rowK5 V c i d)
      (queue5 V c d (⟨t.val * 1024 + q.val, by omega⟩ : Fin 32768)) 1024
  unfold out5_4
  frame_out
  rw [pay5_1_at _ _ _ _ _ (slot l p 4) (Live l 4 1024) hs (fun j => (q2 j).trans (congrFun h0 (ix2 0 j))) (fun j => (q3 j).trans (congrFun h1 (ix2 0 j))), ep, q0,
    ← pick_last l p (by norm_num) (t.val * 1024 + q.val) (fun i => rowK5 V c i d) _ _ half_nonneg half_lt_one]
  have hr : ∀ j : Fin 1024, iblk5 V c 1 t (ix2 j d) = rowK5 V c j d := fun j => by
    rw [q1]
    unfold rowK5
    have : (⟨j.val % 1024, Nat.mod_lt _ (by norm_num)⟩ : Fin 1024) = j := Fin.ext (Nat.mod_eq_of_lt j.isLt)
    rw [this]
  simp only [hr]

end Arrays

end Cert.KernelIdeal.Gen
-- ==== Proof.Value.Scatter6.lean ====
/-
  Kernel call 6, `_scatter_body` over the queue of positives: the rows that are the last of their slots, put there.
-/
module

public import proofs.«01_k».proof.Proof.Run.Region6
public import proofs.«01_k».proof.Proof.Value.Scatter5
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.ShloMosaic.Pipeline

namespace Cert.KernelIdeal.Gen

open scoped Classical in
/-- One block of columns after the rows are put there. -/
theorem pay6_1_at (i : grid6.Coords) (v4 v8 : Vec Ideal S1x1024 .i32) (v17 : Vec Ideal S1024x128 .f32) (v24 : Vec Ideal S128x1024 .f32)
    (s : ℕ → ℕ) (A : ℕ → Prop) (hs : ∀ j : Fin 1024, s j < 2 ^ 31) (h4 : ∀ j : Fin 1024, v4 (ix2 0 j) = BitVec.ofNat 32 (s j))
    (h8 : ∀ j : Fin 1024, v8 (ix2 0 j) = if A j then 1#32 else 0#32) (d : Fin 128) (q : Fin 1024) :
    k6_pay1 i v4 v8 v17 v24 (ix2 d q) =
      if Ideal.ofBits FTy.f32 0x3F000000#32 < ∑ j : Fin 1024, (1 : EReal) * (if s j = (i 0).val * 1024 + q.val ∧ A j then (1 : EReal) else 0)
      then ∑ j : Fin 1024, v17 (ix2 j d) * (if s j = (i 0).val * 1024 + q.val ∧ A j then (1 : EReal) else 0) else v24 (ix2 d q) := by
  pointwise [k6_pay1]
  have hi : (i 0).val < 64 := lt_of_lt_of_le (i 0).isLt (by decide)
  have hw : ∀ (j : Fin 1024) (x : EReal), Scalar.select
      (IntOp.andi (IntOp.cmpi CmpIPredicate.eq (IntOp.addi (Scalar.muli (BitVec.ofNat 32 (i 0).val) 1024#32) (BitVec.ofNat 32 q.val)) (v4 (ix2 0 j)))
        (IntOp.cmpi CmpIPredicate.sgt (v8 (ix2 0 j)) 0#32)) x 0 = x * (if s j = (i 0).val * 1024 + q.val ∧ A j then (1 : EReal) else 0) := by
    intro j x
    rw [h4, h8]
    exact pick_row _ _ _ _ hi q.isLt (hs j) x
  have h1 : ∑ j : Fin 1024, Scalar.select
      (IntOp.andi (IntOp.cmpi CmpIPredicate.eq (IntOp.addi (Scalar.muli (BitVec.ofNat 32 (i 0).val) 1024#32) (BitVec.ofNat 32 q.val)) (v4 (ix2 0 j)))
        (IntOp.cmpi CmpIPredicate.sgt (v8 (ix2 0 j)) 0#32)) (1 : EReal) 0 = ∑ j : Fin 1024, (if s j = (i 0).val * 1024 + q.val ∧ A j then (1 : EReal) else 0) :=
    Finset.sum_congr rfl fun j _ => (hw j 1).trans (one_mul _)
  have h2 := Finset.sum_congr rfl fun (j : Fin 1024) (_ : j ∈ Finset.univ) => hw j (v17 (ix2 j d))
  refine Eq.trans (if_congr (iff_of_eq (congrArg (fun z => Ideal.ofBits FTy.f32 1056964608#32 < z) h1)) h2 rfl) ?_
  exact if_congr Iff.rfl rfl rfl

/-- Where each window stands. -/
theorem index6 : ∀ t : Fin cfg6.N, win6_0.index t = ![0, t.val] ∧ win6_1.index t = ![0, 0] ∧ win6_2.index t = ![0, 0] ∧ win6_3.index t = ![0, 0]
    ∧ win6_4.index t = ![0, t.val] := by decide +kernel

theorem point6 : ∀ t : Fin cfg6.N, (grid6.coords t 0).val = t.val := by decide +kernel

section Arrays

variable (V : (c : Dev nD) → (b : Ref sig .tc) → Buf (Elt Ideal) ((c : Thread nD τ).loc b)) (c : Dev nD)
  (l p : ℕ → ℕ) (hl : ∀ i, l i < 8192)
  (h0 : V c main_v27_2 = (fun y => BitVec.ofNat 32 (slot l p 8 (y 1).val) : IVec S1x1024 32))

/-- The second batch's features, as they stand when the call starts. -/
def rowK6 (j : ℕ) (d : Fin 128) : EReal := V c main_v17 (ix2 (⟨j % 1024, Nat.mod_lt _ (by norm_num)⟩ : Fin 1024) d)

/-- The queue, as it stands when the call starts. -/
def queue6 (d : Fin 128) (q : Fin 65536) : EReal := V c main_arg13 (ix2 d q)

open scoped Classical in
include hl h0 in
/-- The queue after the call: the last row of each slot that some row goes to. -/
theorem scatter_arr6 (h1 : V c main_v27_3 = (fun y => if Live l 8 1024 (y 1).val then 1#32 else 0#32 : IVec S1x1024 32)) :
    (dat6 V c).arrAt 4 cfg6.N = (fun y => LaneScatter.lastHit (fun i => slot l p 8 i = (y 1).val) (fun i => rowK6 V c i (y 0)) (queue6 V c (y 0) (y 1)) 1024
      : Vec Ideal S128x65536 .f32) := by
  refine (dat6 V c).arrAt_eq_of_covers 4 _ (by decide +kernel) fun t hf y => ?_
  blk_simp
  rw [after6_4]
  obtain ⟨e0, e1, e2, e3, e4⟩ := index6 t
  have ep := point6 t
  obtain ⟨d, q, rfl⟩ : ∃ (d : Fin 128) (q : Fin 1024), y = ix2 d q := ⟨y 0, y 1, eq_ix2 y⟩
  have q1 : ∀ (j : Fin 1024) (d : Fin 128), iblk6 V c 1 t (ix2 j d) = V c main_v17 (ix2 j d) := fun j d => by blk_ext [iblk6, e1]
  have q2 : ∀ j : Fin 1024, iblk6 V c 2 t (ix2 0 j) = V c main_v27_2 (ix2 0 j) := fun j => by blk_ext [iblk6, e2]
  have q3 : ∀ j : Fin 1024, iblk6 V c 3 t (ix2 0 j) = V c main_v27_3 (ix2 0 j) := fun j => by blk_ext [iblk6, e3]
  have ht : t.val < 64 := t.isLt
  have q0 : iblk6 V c 0 t (ix2 d q) = queue6 V c d ⟨t.val * 1024 + q.val, by omega⟩ := by unfold queue6; blk_ext [iblk6, e0]
  have qe : (win6_4.blk t).view.emb (ix2 d q) = ix2 d (⟨t.val * 1024 + q.val, by omega⟩ : Fin 65536) := by blk_ext [e4]
  have hs : ∀ j : Fin 1024, slot l p 8 j < 2 ^ 31 := fun j => by
    unfold slot
    have h1 := hl j
    have h2 := Nat.mod_lt (p (l j) + seen l j (l j)) (show 0 < 8 by norm_num)
    omega
  rw [qe]
  show _ = LaneScatter.lastHit (fun i => slot l p 8 i = win6_4.index t 1 * 1024 + q.val) (fun i => rowK6 V c i d)
      (queue6 V c d (⟨t.val * 1024 + q.val, by omega⟩ : Fin 65536)) 1024
  rw [e4]
  show _ = LaneScatter.lastHit (fun i => slot l p 8 i = t.val * 1024 + q.val) (fun i => rowK6 V c i d)
      (queue6 V c d (⟨t.val * 1024 + q.val, by omega⟩ : Fin 65536)) 1024
  unfold out6_4
  frame_out
  rw [pay6_1_at _ _ _ _ _ (slot l p 8) (Live l 8 1024) hs (fun j => (q2 j).trans (congrFun h0 (ix2 0 j))) (fun j => (q3 j).trans (congrFun h1 (ix2 0 j))), ep, q0,
    ← pick_last l p (by norm_num) (t.val * 1024 + q.val) (fun i => rowK6 V c i d) _ _ half_nonneg half_lt_one]
  have hr : ∀ j : Fin 1024, iblk6 V c 1 t (ix2 j d) = rowK6 V c j d := fun j => by
    rw [q1]
    unfold rowK6
    have : (⟨j.val % 1024, Nat.mod_lt _ (by norm_num)⟩ : Fin 1024) = j := Fin.ext (Nat.mod_eq_of_lt j.isLt)
    rw [this]
  simp only [hr]

end Arrays

end Cert.KernelIdeal.Gen
-- ==== Proof.Value.ExitQueues.lean ====
/-
  The queues and the pointers at the kernel's end, of the arguments as launched.
-/
module

public import proofs.«01_k».proof.Proof.Value.ExitContrast
public import proofs.«01_k».proof.Proof.Value.Scatter6

@[expose] public section

set_option maxRecDepth 16384

noncomputable section

open Idealize.ShloMosaic Idealize.ShloMosaic.TcCoe Idealize.ShloMosaic.Pipeline

namespace Cert.KernelIdeal.Gen

variable (m : (ℓ : Loc nD τ sig) → Buf (Elt Ideal) ℓ) (ρ : Dev nD → PrngReg) (c : Dev nD)

/-- The class that a second batch's row goes to. -/
def ringLabel (i : ℕ) : ℕ := argLabelK m c ⟨i % 1024, Nat.mod_lt _ (by norm_num)⟩

/-- A class's pointer into the queue of negatives, as launched. -/
def negStart (k : ℕ) : ℕ := BitVec.toNat (m ((c : Thread nD τ).loc main_arg14) (ix1 (⟨k % 8192, Nat.mod_lt _ (by norm_num)⟩ : Fin 8192)) : BitVec 32)

/-- A class's pointer into the queue of positives, as launched. -/
def posStart (k : ℕ) : ℕ := BitVec.toNat (m ((c : Thread nD τ).loc main_arg15) (ix1 (⟨k % 8192, Nat.mod_lt _ (by norm_num)⟩ : Fin 8192)) : BitVec 32)

/-- A word is the word of its number. -/
theorem word_self (w : BitVec 32) : w = BitVec.ofNat 32 w.toNat := by simp

theorem arg3_word (b : Fin 1024) : m ((c : Thread nD τ).loc main_arg3) (ix1 b) = BitVec.ofNat 32 (ringLabel m c b) := by
  unfold ringLabel argLabelK
  rw [show (⟨b.val % 1024, Nat.mod_lt _ (by norm_num)⟩ : Fin 1024) = b from Fin.ext (Nat.mod_eq_of_lt b.isLt)]
  exact word_self _

theorem arg14_word (k : Fin 8192) : m ((c : Thread nD τ).loc main_arg14) (ix1 k) = BitVec.ofNat 32 (negStart m c k) := by
  unfold negStart
  rw [show (⟨k.val % 8192, Nat.mod_lt _ (by norm_num)⟩ : Fin 8192) = k from Fin.ext (Nat.mod_eq_of_lt k.isLt)]
  exact word_self _

theorem arg15_word (k : Fin 8192) : m ((c : Thread nD τ).loc main_arg15) (ix1 k) = BitVec.ofNat 32 (posStart m c k) := by
  unfold posStart
  rw [show (⟨k.val % 8192, Nat.mod_lt _ (by norm_num)⟩ : Fin 8192) = k from Fin.ext (Nat.mod_eq_of_lt k.isLt)]
  exact word_self _

theorem W1_v11 (k : Fin 8192) : W1 m ρ c (Proc.devRef .tc main_v11) (ix2 k 0) = m ((c : Thread nD τ).loc main_arg14) (ix1 k) := by
  after_reads_at

theorem W1_v12 (k : Fin 8192) : W1 m ρ c (Proc.devRef .tc main_v12) (ix2 k 0) = m ((c : Thread nD τ).loc main_arg15) (ix1 k) := by
  after_reads_at

theorem V6_v10 (b : Fin 1024) : V6 m ρ c main_v10 (ix2 0 b) = BitVec.ofNat 32 (ringLabel m c b) := by
  rw [← arg3_word, ← W1_v10 m ρ c b]
  show W6 m ρ c (Proc.devRef .tc main_v10) (ix2 0 b) = _
  rw [W6_of m ρ c main_v10 (by decide), W5_of m ρ c main_v10 (by decide), W4_of m ρ c main_v10 (by decide), W3_of m ρ c main_v10 (by decide), W2_of m ρ c main_v10 (by decide)]

theorem V6_v11 (k : Fin 8192) : V6 m ρ c main_v11 (ix2 k 0) = BitVec.ofNat 32 (negStart m c k) := by
  rw [← arg14_word, ← W1_v11 m ρ c k]
  show W6 m ρ c (Proc.devRef .tc main_v11) (ix2 k 0) = _
  rw [W6_of m ρ c main_v11 (by decide), W5_of m ρ c main_v11 (by decide), W4_of m ρ c main_v11 (by decide), W3_of m ρ c main_v11 (by decide), W2_of m ρ c main_v11 (by decide)]

theorem V6_v12 (k : Fin 8192) : V6 m ρ c main_v12 (ix2 k 0) = BitVec.ofNat 32 (posStart m c k) := by
  rw [← arg15_word, ← W1_v12 m ρ c k]
  show W6 m ρ c (Proc.devRef .tc main_v12) (ix2 k 0) = _
  rw [W6_of m ρ c main_v12 (by decide), W5_of m ρ c main_v12 (by decide), W4_of m ρ c main_v12 (by decide), W3_of m ρ c main_v12 (by decide), W2_of m ρ c main_v12 (by decide)]

theorem V6_v26 (b : Fin 1024) : V6 m ρ c main_v26 (ix2 b 0) = BitVec.ofNat 32 (ringLabel m c b) := by
  rw [← arg3_word, ← W5_args m ρ c main_arg3 (by decide)]
  show W6 m ρ c (Proc.devRef .tc main_v26) (ix2 b 0) = _
  after_reads_at

section

variable (hl : ∀ i, ringLabel m c i < 8192) (hp : ∀ i, negStart m c i < 4) (hq : ∀ i, posStart m c i < 8)

include hl hp in
theorem W7_v27_0 : W7 m ρ c (Proc.devRef .tc main_v27_0) = (fun y => BitVec.ofNat 32 (slot (ringLabel m c) (negStart m c) 4 (y 1).val) : IVec S1x1024 32) :=
  (W7_arr m ρ c 4).trans (prep_arr4 (V6 m ρ) c _ _ hl hp (V6_v10 m ρ c) (V6_v26 m ρ c) (V6_v11 m ρ c))

open scoped Classical in
include hl in
theorem W7_v27_1 : W7 m ρ c (Proc.devRef .tc main_v27_1) = (fun y => if Live (ringLabel m c) 4 1024 (y 1).val then 1#32 else 0#32 : IVec S1x1024 32) :=
  (W7_arr m ρ c 5).trans (prep_arr5 (V6 m ρ) c _ hl (V6_v10 m ρ c) (V6_v26 m ρ c))

include hl hq in
theorem W7_v27_2 : W7 m ρ c (Proc.devRef .tc main_v27_2) = (fun y => BitVec.ofNat 32 (slot (ringLabel m c) (posStart m c) 8 (y 1).val) : IVec S1x1024 32) :=
  (W7_arr m ρ c 6).trans (prep_arr6 (V6 m ρ) c _ _ hl hq (V6_v10 m ρ c) (V6_v26 m ρ c) (V6_v12 m ρ c))

open scoped Classical in
include hl in
theorem W7_v27_3 : W7 m ρ c (Proc.devRef .tc main_v27_3) = (fun y => if Live (ringLabel m c) 8 1024 (y 1).val then 1#32 else 0#32 : IVec S1x1024 32) :=
  (W7_arr m ρ c 7).trans (prep_arr7 (V6 m ρ) c _ hl (V6_v10 m ρ c) (V6_v26 m ρ c))

include hl in
theorem W7_v27_4 : W7 m ρ c (Proc.devRef .tc main_v27_4) = (fun y => BitVec.ofNat 32 ((negStart m c (y 0).val + seen (ringLabel m c) 1024 (y 0).val) % 4) : IVec S8192x1 32) :=
  (W7_arr m ρ c 8).trans (prep_arr8 (V6 m ρ) c _ _ hl (V6_v10 m ρ c) (V6_v11 m ρ c))

include hl in
theorem W7_v27_5 : W7 m ρ c (Proc.devRef .tc main_v27_5) = (fun y => BitVec.ofNat 32 ((posStart m c (y 0).val + seen (ringLabel m c) 1024 (y 0).val) % 8) : IVec S8192x1 32) :=
  (W7_arr m ρ c 9).trans (prep_arr9 (V6 m ρ) c _ _ hl (V6_v10 m ρ c) (V6_v12 m ρ c))

include hl in
/-- The negatives' pointers at the end. -/
theorem W13_v32 (k : Fin 8192) : W13 m ρ c (Proc.devRef .tc main_v32) (ix1 k) = BitVec.ofNat 32 ((negStart m c k + seen (ringLabel m c) 1024 k) % 4) := by
  have h : W12 m ρ c (Proc.devRef .tc main_v27_4) = W7 m ρ c (Proc.devRef .tc main_v27_4) := by
    rw [W12_of m ρ c main_v27_4 (by decide), W11_of m ρ c main_v27_4 (by decide), W10_of m ρ c main_v27_4 (by decide), W9_of m ρ c main_v27_4 (by decide), W8_of m ρ c main_v27_4 (by decide)]
  have h2 : W13 m ρ c (Proc.devRef .tc main_v32) (ix1 k) = W12 m ρ c (Proc.devRef .tc main_v27_4) (ix2 k 0) := by
    after_reads_at
  rw [h2, h, W7_v27_4 m ρ c hl]
  rfl

include hl in
/-- The positives' pointers at the end. -/
theorem W13_v33 (k : Fin 8192) : W13 m ρ c (Proc.devRef .tc main_v33) (ix1 k) = BitVec.ofNat 32 ((posStart m c k + seen (ringLabel m c) 1024 k) % 8) := by
  have h : W12 m ρ c (Proc.devRef .tc main_v27_5) = W7 m ρ c (Proc.devRef .tc main_v27_5) := by
    rw [W12_of m ρ c main_v27_5 (by decide), W11_of m ρ c main_v27_5 (by decide), W10_of m ρ c main_v27_5 (by decide), W9_of m ρ c main_v27_5 (by decide), W8_of m ρ c main_v27_5 (by decide)]
  have h2 : W13 m ρ c (Proc.devRef .tc main_v33) (ix1 k) = W12 m ρ c (Proc.devRef .tc main_v27_5) (ix2 k 0) := by
    after_reads_at
  rw [h2, h, W7_v27_5 m ρ c hl]
  rfl

/-- A second batch's features, row by row. -/
def ringRow (i : ℕ) (d : Fin 128) : EReal := argFeatures m c (m ((c : Thread nD τ).loc main_arg1)) ⟨i % 1024, Nat.mod_lt _ (by norm_num)⟩ d

theorem V10_rowK : rowK5 (V10 m ρ) c = ringRow m c := by
  funext i d
  unfold rowK5 ringRow
  rw [← W3_v17 m ρ c]
  show W10 m ρ c (Proc.devRef .tc main_v17) _ = _
  rw [W10_of m ρ c main_v17 (by decide), W9_of m ρ c main_v17 (by decide), W8_of m ρ c main_v17 (by decide), W7_of m ρ c main_v17 (by decide), W6_of m ρ c main_v17 (by decide),
    W5_of m ρ c main_v17 (by decide), W4_of m ρ c main_v17 (by decide)]

theorem V11_rowK : rowK6 (V11 m ρ) c = ringRow m c := by
  rw [← V10_rowK m ρ c]
  funext i d
  unfold rowK6 rowK5
  show W11 m ρ c (Proc.devRef .tc main_v17) _ = W10 m ρ c (Proc.devRef .tc main_v17) _
  rw [W11_of m ρ c main_v17 (by decide)]

open scoped Classical in
include hl hp in
/-- The queue of negatives at the end. -/
theorem W13_v30 (d : Fin 128) (s : Fin 32768) : W13 m ρ c (Proc.devRef .tc main_v30) (ix2 d s) =
    LaneScatter.lastHit (fun i => slot (ringLabel m c) (negStart m c) 4 i = s.val) (fun i => ringRow m c i d) (argNeg m c d s) 1024 := by
  have h0 : V10 m ρ c main_v27_0 = W7 m ρ c (Proc.devRef .tc main_v27_0) := by
    show W10 m ρ c (Proc.devRef .tc main_v27_0) = _
    rw [W10_of m ρ c main_v27_0 (by decide), W9_of m ρ c main_v27_0 (by decide), W8_of m ρ c main_v27_0 (by decide)]
  have h1 : V10 m ρ c main_v27_1 = W7 m ρ c (Proc.devRef .tc main_v27_1) := by
    show W10 m ρ c (Proc.devRef .tc main_v27_1) = _
    rw [W10_of m ρ c main_v27_1 (by decide), W9_of m ρ c main_v27_1 (by decide), W8_of m ρ c main_v27_1 (by decide)]
  have hx : queue5 (V10 m ρ) c d s = argNeg m c d s := by
    unfold queue5 argNeg
    exact congrFun (W10_args m ρ c main_arg12 (by decide)) _
  rw [W13_of m ρ c main_v30 (by decide), W12_of m ρ c main_v30 (by decide)]
  have h := (W11_arr m ρ c 4).trans (scatter_arr5 (V10 m ρ) c (ringLabel m c) (negStart m c) hl (h0.trans (W7_v27_0 m ρ c hl hp)) (h1.trans (W7_v27_1 m ρ c hl)))
  refine (congrFun h (ix2 d s)).trans ?_
  rw [V10_rowK]
  exact congrArg (fun z => LaneScatter.lastHit (fun i => slot (ringLabel m c) (negStart m c) 4 i = s.val) (fun i => ringRow m c i d) z 1024) hx

open scoped Classical in
include hl hq in
/-- The queue of positives at the end. -/
theorem W13_v31 (d : Fin 128) (s : Fin 65536) : W13 m ρ c (Proc.devRef .tc main_v31) (ix2 d s) =
    LaneScatter.lastHit (fun i => slot (ringLabel m c) (posStart m c) 8 i = s.val) (fun i => ringRow m c i d) (argPos m c d s) 1024 := by
  have h0 : V11 m ρ c main_v27_2 = W7 m ρ c (Proc.devRef .tc main_v27_2) := by
    show W11 m ρ c (Proc.devRef .tc main_v27_2) = _
    rw [W11_of m ρ c main_v27_2 (by decide), W10_of m ρ c main_v27_2 (by decide), W9_of m ρ c main_v27_2 (by decide), W8_of m ρ c main_v27_2 (by decide)]
  have h1 : V11 m ρ c main_v27_3 = W7 m ρ c (Proc.devRef .tc main_v27_3) := by
    show W11 m ρ c (Proc.devRef .tc main_v27_3) = _
    rw [W11_of m ρ c main_v27_3 (by decide), W10_of m ρ c main_v27_3 (by decide), W9_of m ρ c main_v27_3 (by decide), W8_of m ρ c main_v27_3 (by decide)]
  have hx : queue6 (V11 m ρ) c d s = argPos m c d s := by
    unfold queue6 argPos
    exact congrFun (W11_args m ρ c main_arg13 (by decide)) _
  rw [W13_of m ρ c main_v31 (by decide)]
  have h := (W12_arr m ρ c 4).trans (scatter_arr6 (V11 m ρ) c (ringLabel m c) (posStart m c) hl (h0.trans (W7_v27_2 m ρ c hl hq)) (h1.trans (W7_v27_3 m ρ c hl)))
  refine (congrFun h (ix2 d s)).trans ?_
  rw [V11_rowK]
  exact congrArg (fun z => LaneScatter.lastHit (fun i => slot (ringLabel m c) (posStart m c) 8 i = s.val) (fun i => ringRow m c i d) z 1024) hx

end

end Cert.KernelIdeal.Gen
-- ==== Proof.Value.RefTrip.lean ====
/-
  One trip of the reference's loop over the batch, as printed: what it leaves in the queues and in the pointers.
-/
module

public import proofs.«01_k».proof.Proof.Value.RefContrast

@[expose] public section

set_option maxRecDepth 16384

noncomputable section

open Idealize.ShloMosaic Idealize.ShloMosaic.TcCoe Idealize.ShloMosaic.Pipeline

namespace Cert.ReferenceIdeal.Value

open Cert.ReferenceIdeal.Gen Idealize.ShloMosaic.StableHlo

/-- A row of the features, as printed. -/
def tRow (fk : FVec Ideal S1024x128 .f32) (i : IVec S_ 32) : FVec Ideal S128 .f32 :=
  shapeCast S128 (Host.dynamicSlice S1x128 fk (fun k => ((![i, constantI S_ 32 0#32] : Fin 2 → IVec S_ 32) k (Shape.Idx.first h_S_)).toInt) sliceFits_S1024x128_S1x128) shapeCasts_S1x128_S128

/-- A row's label, as printed. -/
def tLabel (l : IVec S1024 32) (i : IVec S_ 32) : IVec S_ 32 :=
  shapeCast S_ (Host.dynamicSlice S1 l (fun k => ((![i] : Fin 1 → IVec S_ 32) k (Shape.Idx.first h_S_)).toInt) sliceFits_S1024_S1) shapeCasts_S1_S_

/-- A word below zero counted from the end of an axis, as printed. -/
def tWrap (L : IVec S_ 32) (n : BitVec 32) : IVec S_ 32 := select (cmpi .slt L (constantI S_ 32 0#32)) (addi L (constantI S_ 32 n)) L

/-- A class's pointer, as printed. -/
def tPtr (p : IVec S8192 32) (L : IVec S_ 32) : IVec S_ 32 :=
  shapeCast S_ (Host.dynamicSlice S1 p (fun k => ((![tWrap L 8192#32] : Fin 1 → IVec S_ 32) k (Shape.Idx.first h_S_)).toInt) sliceFits_S8192_S1) shapeCasts_S1_S_

/-- The remainder that is never below zero, as printed. -/
def tRem (a n : IVec S_ 32) : IVec S_ 32 :=
  let b : IVec S_ 32 := select (cmpi .eq n (constantI S_ 32 0#32)) (constantI S_ 32 1#32) n
  let r : IVec S_ 32 := Host.remsi a b
  select (andi (cmpi .ne (cmpi .slt r (constantI S_ 32 0#32)) (cmpi .slt b (constantI S_ 32 0#32))) (cmpi .ne r (constantI S_ 32 0#32))) (addi r b) r

/-- The pointer one further round its ring, as printed. -/
def tNext (P : IVec S_ 32) (n : BitVec 32) : IVec S_ 32 := tRem (addi P (constantI S_ 32 1#32)) (constantI S_ 32 n)

/-- A pointer put back, as printed. -/
def tPutPtr (p : IVec S8192 32) (L v : IVec S_ 32) : IVec S8192 32 :=
  Host.scatter scatter_S8192_S1_S__n_0_0_0 (fun _ b => b) p (broadcastInDim S1 ![] bcast_S_S1 (tWrap L 8192#32)) v

/-- A row put into the queue of negatives, as printed. -/
def tPutNeg (x : FVec Ideal S128x32768 .f32) (s : IVec S_ 32) (r : FVec Ideal S128 .f32) : FVec Ideal S128x32768 .f32 :=
  Host.scatter scatter_S128x32768_S1_S128_0_1_1_0 (fun _ b => b) x (broadcastInDim S1 ![] bcast_S_S1 (tWrap s 32768#32)) r

/-- A row put into the queue of positives, as printed. -/
def tPutPos (x : FVec Ideal S128x65536 .f32) (s : IVec S_ 32) (r : FVec Ideal S128 .f32) : FVec Ideal S128x65536 .f32 :=
  Host.scatter scatter_S128x65536_S1_S128_0_1_1_0 (fun _ b => b) x (broadcastInDim S1 ![] bcast_S_S1 (tWrap s 65536#32)) r

/-- A slot's number, as printed. -/
def tSlot (L P : IVec S_ 32) (n : BitVec 32) : IVec S_ 32 := addi (muli L (constantI S_ 32 n)) P

variable (V : Valuation τ sig (Elt Ideal))

theorem s0_v118 : after while0Ops0 V (Proc.devRef .tc main_while0b_v118) = tRow (V (Proc.devRef .tc main_v117_0)) (V (Proc.devRef .tc main_v117_2)) := by
  after_reads_simp [unaryIndexed_result_read, indexContents_tref_cons, indexContents_tref_empty]
  rfl

theorem s1_v119 : after while0Ops0_1 V (Proc.devRef .tc main_while0b_v119) = tLabel (V (Proc.devRef .tc main_v117_1)) (V (Proc.devRef .tc main_v117_2)) := by
  after_reads_simp [unaryIndexed_result_read, indexContents_tref_cons, indexContents_tref_empty]
  rfl

theorem s2_v131 : after while0Ops0_2 V (Proc.devRef .tc main_while0b_v131) = tPutNeg (V (Proc.devRef .tc main_v117_3))
    (tSlot (V (Proc.devRef .tc main_while0b_v119)) (tPtr (V (Proc.devRef .tc main_v117_4)) (V (Proc.devRef .tc main_while0b_v119))) 4#32) (V (Proc.devRef .tc main_while0b_v118)) := by
  after_reads_simp [unaryIndexed_result_read, indexContents_cons, indexContents_empty]
  rfl

theorem s2_v132 : after while0Ops0_2 V (Proc.devRef .tc main_while0b_v132) =
    (addi (tPtr (V (Proc.devRef .tc main_v117_4)) (V (Proc.devRef .tc main_while0b_v119))) (constantI S_ 32 1#32) : IVec S_ 32) := by
  after_reads_simp [unaryIndexed_result_read, indexContents_cons, indexContents_empty]
  rfl

theorem s2_c29 : after while0Ops0_2 V (Proc.devRef .tc main_while0b_c_29) = (constantI S_ 32 4#32 : IVec S_ 32) := by
  after_reads_simp

theorem s3_v133 : after while0Ops0_3 V (Proc.devRef .tc main_while0b_v133) = tRem (V (Proc.devRef .tc main_while0b_v132)) (V (Proc.devRef .tc main_while0b_c_29)) := by
  after_reads_simp
  simp only [TRef.ofBuf_toBuf]
  have hc : ∀ a, (TRef.of main_while0b_v132 while0Ops0_3._proof_19 while0Ops0_3._proof_20 while0Ops0_3._proof_21 : TRef sig ⟨S_, .i32⟩).ofBuf (Val := Elt Ideal) a = a := fun _ => rfl
  have hd : ∀ a, (TRef.of main_while0b_c_29 while0Ops0_3._proof_1 while0Ops0_3._proof_2 while0Ops0_3._proof_3 : TRef sig ⟨S_, .i32⟩).ofBuf (Val := Elt Ideal) a = a := fun _ => rfl
  have he : ∀ a, (TRef.of main_while0b_v133 while0Ops0_3._proof_52 while0Ops0_3._proof_53 while0Ops0_3._proof_54 : TRef sig ⟨S_, .i32⟩).toBuf (Val := Elt Ideal) a = a := fun _ => rfl
  simp only [hc, hd, he]
  rfl

theorem s4_v138 : after while0Ops0_4 V (Proc.devRef .tc main_while0b_v138) =
    tPutPtr (V (Proc.devRef .tc main_v117_4)) (V (Proc.devRef .tc main_while0b_v119)) (V (Proc.devRef .tc main_while0b_v133)) := by
  after_reads_simp
  rfl

theorem s4_v150 : after while0Ops0_4 V (Proc.devRef .tc main_while0b_v150) = tPutPos (V (Proc.devRef .tc main_v117_5))
    (tSlot (V (Proc.devRef .tc main_while0b_v119)) (tPtr (V (Proc.devRef .tc main_v117_6)) (V (Proc.devRef .tc main_while0b_v119))) 8#32) (V (Proc.devRef .tc main_while0b_v118)) := by
  after_reads_simp [unaryIndexed_result_read, indexContents_cons, indexContents_empty]
  rfl

theorem s4_v151 : after while0Ops0_4 V (Proc.devRef .tc main_while0b_v151) =
    (addi (tPtr (V (Proc.devRef .tc main_v117_6)) (V (Proc.devRef .tc main_while0b_v119))) (constantI S_ 32 1#32) : IVec S_ 32) := by
  after_reads_simp [unaryIndexed_result_read, indexContents_cons, indexContents_empty]
  rfl

theorem s4_c38 : after while0Ops0_4 V (Proc.devRef .tc main_while0b_c_38) = (constantI S_ 32 8#32 : IVec S_ 32) := by
  after_reads_simp

theorem s5_v152 : after while0Ops0_5 V (Proc.devRef .tc main_while0b_v152) = tRem (V (Proc.devRef .tc main_while0b_v151)) (V (Proc.devRef .tc main_while0b_c_38)) := by
  after_reads_simp
  simp only [TRef.ofBuf_toBuf]
  have hc : ∀ a, (TRef.of main_while0b_v151 while0Ops0_5._proof_19 while0Ops0_5._proof_20 while0Ops0_5._proof_21 : TRef sig ⟨S_, .i32⟩).ofBuf (Val := Elt Ideal) a = a := fun _ => rfl
  have hd : ∀ a, (TRef.of main_while0b_c_38 while0Ops0_5._proof_1 while0Ops0_5._proof_2 while0Ops0_5._proof_3 : TRef sig ⟨S_, .i32⟩).ofBuf (Val := Elt Ideal) a = a := fun _ => rfl
  have he : ∀ a, (TRef.of main_while0b_v152 while0Ops0_5._proof_52 while0Ops0_5._proof_53 while0Ops0_5._proof_54 : TRef sig ⟨S_, .i32⟩).toBuf (Val := Elt Ideal) a = a := fun _ => rfl
  simp only [hc, hd, he]
  rfl

theorem s6_v117_3 : after while0Ops0_6 V (Proc.devRef .tc main_v117_3) = V (Proc.devRef .tc main_while0b_v131) := by
  after_reads_simp
  rfl

theorem s6_v117_4 : after while0Ops0_6 V (Proc.devRef .tc main_v117_4) = V (Proc.devRef .tc main_while0b_v138) := by
  after_reads_simp
  rfl

theorem s6_v117_5 : after while0Ops0_6 V (Proc.devRef .tc main_v117_5) = V (Proc.devRef .tc main_while0b_v150) := by
  after_reads_simp
  rfl

theorem s6_v117_6 : after while0Ops0_6 V (Proc.devRef .tc main_v117_6) =
    tPutPtr (V (Proc.devRef .tc main_v117_6)) (V (Proc.devRef .tc main_while0b_v119)) (V (Proc.devRef .tc main_while0b_v152)) := by
  after_reads_simp
  rfl

/-- A stretch keeps what it does not write. -/
theorem keep {ops : List (HloOp τ sig (Elt Ideal))} {w : List (Ref sig .tc)}
    (hw : ops.Forall fun op => op.writes ⊆ (w.map (Proc.devRef (τ := τ) .tc)).toFinset) (U : Valuation τ sig (Elt Ideal)) (b : Ref sig .tc) (h : b ∉ w) :
    after ops U (Proc.devRef .tc b) = U (Proc.devRef .tc b) := after_of_writes_sub ops U hw h

/-- The label that a trip reads. -/
abbrev tripLabel : IVec S_ 32 := tLabel (V (Proc.devRef .tc main_v117_1)) (V (Proc.devRef .tc main_v117_2))

/-- The contents after the row and its label are read. -/
abbrev mid2 : Valuation τ sig (Elt Ideal) := after while0Ops0_1 (after while0Ops0 (after condOps V))

theorem mid2_of (b : Ref sig .tc) (h : b ∉ condOps_W ++ while0Ops0_W ++ while0Ops0_1_W) : mid2 V (Proc.devRef .tc b) = V (Proc.devRef .tc b) := by
  simp only [List.mem_append, not_or] at h
  rw [mid2, keep while0Ops0_1_writes _ b h.2, keep while0Ops0_writes _ b h.1.2, keep condOps_writes _ b h.1.1]

theorem mid2_v118 : mid2 V (Proc.devRef .tc main_while0b_v118) = tRow (V (Proc.devRef .tc main_v117_0)) (V (Proc.devRef .tc main_v117_2)) := by
  rw [mid2, keep while0Ops0_1_writes _ _ (by decide), s0_v118, keep condOps_writes _ _ (by decide), keep condOps_writes _ _ (by decide)]

theorem mid2_v119 : mid2 V (Proc.devRef .tc main_while0b_v119) = tripLabel V := by
  rw [mid2, s1_v119, keep while0Ops0_writes _ _ (by decide), keep while0Ops0_writes _ _ (by decide), keep condOps_writes _ _ (by decide), keep condOps_writes _ _ (by decide)]

/-- The contents after the negatives' slot and pointer. -/
abbrev mid4 : Valuation τ sig (Elt Ideal) := after while0Ops0_3 (after while0Ops0_2 (mid2 V))

theorem mid4_of (b : Ref sig .tc) (h : b ∉ while0Ops0_2_W ++ while0Ops0_3_W) : mid4 V (Proc.devRef .tc b) = mid2 V (Proc.devRef .tc b) := by
  simp only [List.mem_append, not_or] at h
  rw [mid4, keep while0Ops0_3_writes _ b h.2, keep while0Ops0_2_writes _ b h.1]

theorem mid4_v131 : mid4 V (Proc.devRef .tc main_while0b_v131) = tPutNeg (V (Proc.devRef .tc main_v117_3))
    (tSlot (tripLabel V) (tPtr (V (Proc.devRef .tc main_v117_4)) (tripLabel V)) 4#32) (tRow (V (Proc.devRef .tc main_v117_0)) (V (Proc.devRef .tc main_v117_2))) := by
  rw [mid4, keep while0Ops0_3_writes _ _ (by decide), s2_v131, mid2_v118, mid2_v119, mid2_of V main_v117_3 (by decide), mid2_of V main_v117_4 (by decide)]

theorem mid4_v133 : mid4 V (Proc.devRef .tc main_while0b_v133) = tNext (tPtr (V (Proc.devRef .tc main_v117_4)) (tripLabel V)) 4#32 := by
  rw [mid4, s3_v133, s2_v132, s2_c29, mid2_v119, mid2_of V main_v117_4 (by decide)]
  rfl

/-- The contents after the positives' slot and pointer. -/
abbrev mid6 : Valuation τ sig (Elt Ideal) := after while0Ops0_5 (after while0Ops0_4 (mid4 V))

theorem mid6_of (b : Ref sig .tc) (h : b ∉ while0Ops0_4_W ++ while0Ops0_5_W) : mid6 V (Proc.devRef .tc b) = mid4 V (Proc.devRef .tc b) := by
  simp only [List.mem_append, not_or] at h
  rw [mid6, keep while0Ops0_5_writes _ b h.2, keep while0Ops0_4_writes _ b h.1]

theorem mid6_v138 : mid6 V (Proc.devRef .tc main_while0b_v138) =
    tPutPtr (V (Proc.devRef .tc main_v117_4)) (tripLabel V) (tNext (tPtr (V (Proc.devRef .tc main_v117_4)) (tripLabel V)) 4#32) := by
  rw [mid6, keep while0Ops0_5_writes _ _ (by decide), s4_v138, mid4_v133, mid4_of V main_v117_4 (by decide), mid4_of V main_while0b_v119 (by decide), mid2_v119,
    mid2_of V main_v117_4 (by decide)]

theorem mid6_v150 : mid6 V (Proc.devRef .tc main_while0b_v150) = tPutPos (V (Proc.devRef .tc main_v117_5))
    (tSlot (tripLabel V) (tPtr (V (Proc.devRef .tc main_v117_6)) (tripLabel V)) 8#32) (tRow (V (Proc.devRef .tc main_v117_0)) (V (Proc.devRef .tc main_v117_2))) := by
  rw [mid6, keep while0Ops0_5_writes _ _ (by decide), s4_v150, mid4_of V main_v117_5 (by decide), mid4_of V main_v117_6 (by decide), mid4_of V main_while0b_v119 (by decide),
    mid4_of V main_while0b_v118 (by decide), mid2_v118, mid2_v119, mid2_of V main_v117_5 (by decide), mid2_of V main_v117_6 (by decide)]

theorem mid6_v152 : mid6 V (Proc.devRef .tc main_while0b_v152) = tNext (tPtr (V (Proc.devRef .tc main_v117_6)) (tripLabel V)) 8#32 := by
  rw [mid6, s5_v152, s4_v151, s4_c38, mid4_of V main_v117_6 (by decide), mid4_of V main_while0b_v119 (by decide), mid2_v119, mid2_of V main_v117_6 (by decide)]
  rfl

/-- One trip. -/
abbrev trip : Valuation τ sig (Elt Ideal) := afterL bodyI (after condOps V)

theorem trip_eq : trip V = after while0Ops0_6 (mid6 V) := by
  simp only [trip, afterL_cons, afterL_nil]

/-- The queue of negatives after a trip. -/
theorem trip_negQueue : trip V (Proc.devRef .tc main_v117_3) = tPutNeg (V (Proc.devRef .tc main_v117_3))
    (tSlot (tripLabel V) (tPtr (V (Proc.devRef .tc main_v117_4)) (tripLabel V)) 4#32) (tRow (V (Proc.devRef .tc main_v117_0)) (V (Proc.devRef .tc main_v117_2))) := by
  rw [trip_eq, s6_v117_3, mid6_of V main_while0b_v131 (by decide), mid4_v131]

/-- The negatives' pointers after a trip. -/
theorem trip_negPtr : trip V (Proc.devRef .tc main_v117_4) =
    tPutPtr (V (Proc.devRef .tc main_v117_4)) (tripLabel V) (tNext (tPtr (V (Proc.devRef .tc main_v117_4)) (tripLabel V)) 4#32) := by
  rw [trip_eq, s6_v117_4, mid6_v138]

/-- The queue of positives after a trip. -/
theorem trip_posQueue : trip V (Proc.devRef .tc main_v117_5) = tPutPos (V (Proc.devRef .tc main_v117_5))
    (tSlot (tripLabel V) (tPtr (V (Proc.devRef .tc main_v117_6)) (tripLabel V)) 8#32) (tRow (V (Proc.devRef .tc main_v117_0)) (V (Proc.devRef .tc main_v117_2))) := by
  rw [trip_eq, s6_v117_5, mid6_v150]

/-- The positives' pointers after a trip. -/
theorem trip_posPtr : trip V (Proc.devRef .tc main_v117_6) =
    tPutPtr (V (Proc.devRef .tc main_v117_6)) (tripLabel V) (tNext (tPtr (V (Proc.devRef .tc main_v117_6)) (tripLabel V)) 8#32) := by
  rw [trip_eq, s6_v117_6, mid6_v152, mid6_of V main_v117_6 (by decide), mid6_of V main_while0b_v119 (by decide), mid4_of V main_v117_6 (by decide),
    mid4_of V main_while0b_v119 (by decide), mid2_v119, mid2_of V main_v117_6 (by decide)]

end Cert.ReferenceIdeal.Value
-- ==== Proof.Value.RefLoop.lean ====
/-
  The reference's loop over the batch: what the queues and the pointers hold after each trip.
-/
module

public import proofs.«01_k».proof.Proof.Value.RefTrip
public import proofs.«01_k».proof.Proof.Value.Scan
public import Idealize.ShloMosaic.Lib.Routing.OpsSet

@[expose] public section

set_option maxRecDepth 16384

noncomputable section

open Idealize.ShloMosaic Idealize.ShloMosaic.TcCoe Idealize.ShloMosaic.Pipeline

namespace Cert.ReferenceIdeal.Value

open Cert.ReferenceIdeal.Gen Idealize.ShloMosaic.StableHlo

/-- A number as a printed scalar. -/
def word (n : ℕ) : IVec S_ 32 := fun _ => BitVec.ofNat 32 n

/-- A small word read signed. -/
theorem ofNat_toInt (k : ℕ) (h : k < 2 ^ 31) : (BitVec.ofNat 32 k).toInt = (k : ℤ) := by
  rw [BitVec.toInt_ofNat']
  have : ((k : ℤ)).bmod (2 ^ 32) = k := by
    rw [Int.bmod_eq_of_le] <;> omega
  omega

theorem tLabel_at (l : IVec S1024 32) (k : ℕ) (hk : k < 1024) : tLabel l (word k) = fun _ => l (ix1 ⟨k, hk⟩) := by
  funext y
  unfold tLabel shapeCast Host.dynamicSlice extractStridedSlice
  refine congrArg l (funext fun a => Fin.ext ?_)
  match a with
  | ⟨0, _⟩ =>
    generalize shapeCasts_S1_S_ = hh
    have h1 : ∀ z : S1.Idx, (z 0).val = 0 := fun z => Nat.lt_one_iff.mp (z 0).isLt
    show (min (max (BitVec.ofNat 32 k).toInt 0) ((1024 - 1 : ℕ) : ℤ)).toNat + _ = k
    rw [ofNat_toInt k (by omega)]
    refine (congrArg ((min (max (k : ℤ) 0) ((1024 - 1 : ℕ) : ℤ)).toNat + ·) (h1 _)).trans ?_
    omega

theorem tRow_at (fk : FVec Ideal S1024x128 .f32) (k : ℕ) (hk : k < 1024) (d : Fin 128) : tRow fk (word k) (ix1 d) = fk (ix2 ⟨k, hk⟩ d) := by
  pointwise [tRow]
  refine congrArg₂ (fun a b => fk (ix2 a b)) (Fin.ext ?_) (Fin.ext ?_)
  · show (min (max (BitVec.ofNat 32 k).toInt 0) ((1024 - 1 : ℕ) : ℤ)).toNat = k
    rw [ofNat_toInt k (by omega)]
    omega
  · show (min (max (BitVec.toInt (0#32 : BitVec 32)) 0) ((128 - 128 : ℕ) : ℤ)).toNat + d.val = d.val
    exact Nat.zero_add _

theorem tWrap_at (n : BitVec 32) (L : ℕ) (hL : L < 2 ^ 31) : tWrap (word L) n = word L := by
  funext y
  exact Routing.wrap_of_lt _ _ (by show (BitVec.ofNat 32 L).toNat < 2 ^ 31; rw [BitVec.toNat_ofNat]; omega)

theorem tPtr_at (p : IVec S8192 32) (L : ℕ) (hL : L < 8192) : tPtr p (word L) = fun _ => p (ix1 ⟨L, hL⟩) := by
  funext y
  unfold tPtr
  rw [tWrap_at _ _ (by omega)]
  unfold shapeCast Host.dynamicSlice extractStridedSlice
  refine congrArg p (funext fun a => Fin.ext ?_)
  match a with
  | ⟨0, _⟩ =>
    have h1 : ∀ z : S1.Idx, (z 0).val = 0 := fun z => Nat.lt_one_iff.mp (z 0).isLt
    show (min (max (BitVec.ofNat 32 L).toInt 0) ((8192 - 1 : ℕ) : ℤ)).toNat + _ = L
    rw [ofNat_toInt L (by omega)]
    refine (congrArg ((min (max (L : ℤ) 0) ((8192 - 1 : ℕ) : ℤ)).toNat + ·) (h1 _)).trans ?_
    omega

theorem tNext_at4 (P : ℕ) (hP : P < 4) : tNext (word P) 4#32 = word ((P + 1) % 4) := by
  funext y
  obtain rfl : y = fun a => a.elim0 := funext fun a => a.elim0
  interval_cases P <;> decide +kernel

theorem tNext_at8 (P : ℕ) (hP : P < 8) : tNext (word P) 8#32 = word ((P + 1) % 8) := by
  funext y
  obtain rfl : y = fun a => a.elim0 := funext fun a => a.elim0
  interval_cases P <;> decide +kernel

theorem tSlot_at (L P n : ℕ) : tSlot (word L) (word P) (BitVec.ofNat 32 n) = word (L * n + P) := by
  funext y
  show BitVec.ofNat 32 L * BitVec.ofNat 32 n + BitVec.ofNat 32 P = BitVec.ofNat 32 (L * n + P)
  rw [BitVec.ofNat_add, BitVec.ofNat_mul]

theorem tPutPtr_at (p : IVec S8192 32) (L : ℕ) (hL : L < 8192) (v : ℕ) (k : Fin 8192) :
    tPutPtr p (word L) (word v) (ix1 k) = if L = k.val then BitVec.ofNat 32 v else p (ix1 k) := by
  unfold tPutPtr
  rw [tWrap_at _ _ (by omega)]
  have hs : ∀ j : S_.Idx, scatter_S8192_S1_S__n_0_0_0.resultIdx? j (broadcastInDim S1 ![] bcast_S_S1 (word L)) = some (ix1 k) ↔ L = k.val := by
    intro j
    refine (Routing.resultIdx?_ix1 _ _ _ k).trans ?_
    show (BitVec.ofNat 32 L).toInt + ((0 : ℕ) : ℤ) = _ ↔ _
    rw [ofNat_toInt L (by omega)]
    omega
  by_cases h : L = k.val
  · rw [if_pos h]
    exact Routing.scatter_set_hit _ _ _ _ _ _ (fun _ _ => rfl) (Shape.Idx.first h_S_) ((hs _).mpr h)
  · rw [if_neg h]
    exact Routing.scatter_set_miss _ _ _ _ _ fun j hj => h ((hs j).mp hj)

theorem tPutNeg_at (x : FVec Ideal S128x32768 .f32) (s : ℕ) (hs : s < 32768) (r : FVec Ideal S128 .f32) (d : Fin 128) (q : Fin 32768) :
    tPutNeg x (word s) r (ix2 d q) = if s = q.val then r (ix1 d) else x (ix2 d q) := by
  unfold tPutNeg
  rw [tWrap_at _ _ (by omega)]
  have hh : ∀ j : Fin 128, scatter_S128x32768_S1_S128_0_1_1_0.resultIdx? (ix1 j) (broadcastInDim S1 ![] bcast_S_S1 (word s)) = some (ix2 d q) ↔ j = d ∧ s = q.val := by
    intro j
    refine (Routing.resultIdx?_ix2 _ _ _ d q).trans ?_
    show (0 : ℤ) + ((j.val : ℕ) : ℤ) = _ ∧ (BitVec.ofNat 32 s).toInt + ((0 : ℕ) : ℤ) = _ ↔ _
    rw [ofNat_toInt s (by omega), Fin.ext_iff]
    omega
  by_cases h : s = q.val
  · rw [if_pos h]
    refine Routing.scatter_set_hit _ _ _ _ _ _ (fun j hj => ?_) (ix1 d) ((hh d).mpr ⟨rfl, h⟩)
    obtain ⟨j, rfl⟩ : ∃ j' : Fin 128, j = ix1 j' := ⟨j 0, eq_ix1 j⟩
    rw [((hh j).mp hj).1]
  · rw [if_neg h]
    refine Routing.scatter_set_miss _ _ _ _ _ fun j hj => ?_
    obtain ⟨j, rfl⟩ : ∃ j' : Fin 128, j = ix1 j' := ⟨j 0, eq_ix1 j⟩
    exact h ((hh j).mp hj).2

theorem tPutPos_at (x : FVec Ideal S128x65536 .f32) (s : ℕ) (hs : s < 65536) (r : FVec Ideal S128 .f32) (d : Fin 128) (q : Fin 65536) :
    tPutPos x (word s) r (ix2 d q) = if s = q.val then r (ix1 d) else x (ix2 d q) := by
  unfold tPutPos
  rw [tWrap_at _ _ (by omega)]
  have hh : ∀ j : Fin 128, scatter_S128x65536_S1_S128_0_1_1_0.resultIdx? (ix1 j) (broadcastInDim S1 ![] bcast_S_S1 (word s)) = some (ix2 d q) ↔ j = d ∧ s = q.val := by
    intro j
    refine (Routing.resultIdx?_ix2 _ _ _ d q).trans ?_
    show (0 : ℤ) + ((j.val : ℕ) : ℤ) = _ ∧ (BitVec.ofNat 32 s).toInt + ((0 : ℕ) : ℤ) = _ ↔ _
    rw [ofNat_toInt s (by omega), Fin.ext_iff]
    omega
  by_cases h : s = q.val
  · rw [if_pos h]
    refine Routing.scatter_set_hit _ _ _ _ _ _ (fun j hj => ?_) (ix1 d) ((hh d).mpr ⟨rfl, h⟩)
    obtain ⟨j, rfl⟩ : ∃ j' : Fin 128, j = ix1 j' := ⟨j 0, eq_ix1 j⟩
    rw [((hh j).mp hj).1]
  · rw [if_neg h]
    refine Routing.scatter_set_miss _ _ _ _ _ fun j hj => ?_
    obtain ⟨j, rfl⟩ : ∃ j' : Fin 128, j = ix1 j' := ⟨j 0, eq_ix1 j⟩
    exact h ((hh j).mp hj).2

section Steps

variable (l p : ℕ → ℕ) (k : ℕ) (hl : l k < 8192) (x : IVec S8192 32)

include hl in
/-- The pointers of rings of four after one more row. -/
theorem step_ptr4 (hx : ∀ j : Fin 8192, x (ix1 j) = BitVec.ofNat 32 ((p j + seen l k j) % 4)) (j : Fin 8192) :
    tPutPtr x (word (l k)) (tNext (tPtr x (word (l k))) 4#32) (ix1 j) = BitVec.ofNat 32 ((p j + seen l (k + 1) j) % 4) := by
  rw [tPtr_at x (l k) hl, hx ⟨l k, hl⟩]
  show tPutPtr x (word (l k)) (tNext (word ((p (l k) + seen l k (l k)) % 4)) 4#32) (ix1 j) = _
  rw [tNext_at4 _ (Nat.mod_lt _ (by norm_num)), tPutPtr_at x (l k) hl, seen_succ]
  by_cases h : l k = j.val
  · rw [if_pos h, if_pos h, h]
    exact congrArg _ (by omega)
  · rw [if_neg h, if_neg h, Nat.add_zero, hx j]

include hl in
/-- The pointers of rings of eight after one more row. -/
theorem step_ptr8 (hx : ∀ j : Fin 8192, x (ix1 j) = BitVec.ofNat 32 ((p j + seen l k j) % 8)) (j : Fin 8192) :
    tPutPtr x (word (l k)) (tNext (tPtr x (word (l k))) 8#32) (ix1 j) = BitVec.ofNat 32 ((p j + seen l (k + 1) j) % 8) := by
  rw [tPtr_at x (l k) hl, hx ⟨l k, hl⟩]
  show tPutPtr x (word (l k)) (tNext (word ((p (l k) + seen l k (l k)) % 8)) 8#32) (ix1 j) = _
  rw [tNext_at8 _ (Nat.mod_lt _ (by norm_num)), tPutPtr_at x (l k) hl, seen_succ]
  by_cases h : l k = j.val
  · rw [if_pos h, if_pos h, h]
    exact congrArg _ (by omega)
  · rw [if_neg h, if_neg h, Nat.add_zero, hx j]

include hl in
/-- The slot in rings of four that the next row goes to. -/
theorem step_slot4 (hx : ∀ j : Fin 8192, x (ix1 j) = BitVec.ofNat 32 ((p j + seen l k j) % 4)) :
    tSlot (word (l k)) (tPtr x (word (l k))) 4#32 = word (slot l p 4 k) := by
  rw [tPtr_at x (l k) hl, hx ⟨l k, hl⟩]
  exact tSlot_at _ _ _

include hl in
/-- The slot in rings of eight that the next row goes to. -/
theorem step_slot8 (hx : ∀ j : Fin 8192, x (ix1 j) = BitVec.ofNat 32 ((p j + seen l k j) % 8)) :
    tSlot (word (l k)) (tPtr x (word (l k))) 8#32 = word (slot l p 8 k) := by
  rw [tPtr_at x (l k) hl, hx ⟨l k, hl⟩]
  exact tSlot_at _ _ _

end Steps

section Loop

variable (m : (ℓ : Loc nD τ sig) → Buf (Elt Ideal) ℓ) (c : Dev nD) (l p q : ℕ → ℕ) (R : ℕ → Fin 128 → EReal)
  (hl : ∀ i, l i < 8192) (hp : ∀ i, p i < 4) (hq : ∀ i, q i < 8)
  (hL : ∀ b : Fin 1024, entryContents preI m c (Proc.devRef .tc main_v117_1) (ix1 b) = BitVec.ofNat 32 (l b))
  (hP : ∀ k : Fin 8192, entryContents preI m c (Proc.devRef .tc main_v117_4) (ix1 k) = BitVec.ofNat 32 (p k))
  (hQ : ∀ k : Fin 8192, entryContents preI m c (Proc.devRef .tc main_v117_6) (ix1 k) = BitVec.ofNat 32 (q k))
  (hR : ∀ (b : Fin 1024) (d : Fin 128), entryContents preI m c (Proc.devRef .tc main_v117_0) (ix2 b d) = R b d)

theorem ctr_word (k : ℕ) : atK m k c (Proc.devRef .tc main_v117_2) = word k := by
  rw [atK_ctr]
  funext y
  show 0#32 + BitVec.ofNat 32 k * 1#32 = BitVec.ofNat 32 k
  simp

include hL in
/-- The label that a trip reads. -/
theorem trip_label (k : ℕ) (hk : k < 1024) : tripLabel (atK m k c) = word (l k) := by
  rw [tripLabel, ctr_word, tLabel_at _ k hk, atK_of m c main_v117_1 (by decide), hL]
  rfl

include hl hp hL hP in
/-- The negatives' pointers after `k` trips. -/
theorem negPtr_at : ∀ k, k ≤ 1024 → ∀ j : Fin 8192, atK m k c (Proc.devRef .tc main_v117_4) (ix1 j) = BitVec.ofNat 32 ((p j + seen l k j) % 4)
  | 0, _, j => by
    rw [show atK m 0 c = entryContents preI m c from rfl, hP, seen_zero, Nat.add_zero, Nat.mod_eq_of_lt (hp j)]
  | k + 1, hk, j => by
    rw [show atK m (k + 1) c = trip (atK m k c) from rfl, trip_negPtr, trip_label m c l hL k (by omega)]
    exact step_ptr4 l p k (hl k) _ (negPtr_at k (by omega)) j

include hl hq hL hQ in
/-- The positives' pointers after `k` trips. -/
theorem posPtr_at : ∀ k, k ≤ 1024 → ∀ j : Fin 8192, atK m k c (Proc.devRef .tc main_v117_6) (ix1 j) = BitVec.ofNat 32 ((q j + seen l k j) % 8)
  | 0, _, j => by
    rw [show atK m 0 c = entryContents preI m c from rfl, hQ, seen_zero, Nat.add_zero, Nat.mod_eq_of_lt (hq j)]
  | k + 1, hk, j => by
    rw [show atK m (k + 1) c = trip (atK m k c) from rfl, trip_posPtr, trip_label m c l hL k (by omega)]
    exact step_ptr8 l q k (hl k) _ (posPtr_at k (by omega)) j

/-- The queue of negatives where the loop starts. -/
def negQueue0 (d : Fin 128) (s : Fin 32768) : EReal := entryContents preI m c (Proc.devRef .tc main_v117_3) (ix2 d s)

/-- The queue of positives where the loop starts. -/
def posQueue0 (d : Fin 128) (s : Fin 65536) : EReal := entryContents preI m c (Proc.devRef .tc main_v117_5) (ix2 d s)

open scoped Classical in
include hl hp hL hP hR in
/-- The queue of negatives after `k` trips. -/
theorem negQueue_at (d : Fin 128) (s : Fin 32768) : ∀ k, k ≤ 1024 → atK m k c (Proc.devRef .tc main_v117_3) (ix2 d s) =
    LaneScatter.lastHit (fun i => slot l p 4 i = s.val) (fun i => R i d) (negQueue0 m c d s) k
  | 0, _ => rfl
  | k + 1, hk => by
    have hs : slot l p 4 k < 32768 := by
      unfold slot
      have h1 := hl k
      have h2 := Nat.mod_lt (p (l k) + seen l k (l k)) (show 0 < 4 by norm_num)
      omega
    rw [show atK m (k + 1) c = trip (atK m k c) from rfl, trip_negQueue, trip_label m c l hL k (by omega),
      step_slot4 l p k (hl k) _ (negPtr_at m c l p hl hp hL hP k (by omega)), tPutNeg_at _ _ hs, ctr_word, tRow_at _ k (by omega),
      atK_of m c main_v117_0 (by decide), hR, negQueue_at d s k (by omega)]
    rfl

open scoped Classical in
include hl hq hL hQ hR in
/-- The queue of positives after `k` trips. -/
theorem posQueue_at (d : Fin 128) (s : Fin 65536) : ∀ k, k ≤ 1024 → atK m k c (Proc.devRef .tc main_v117_5) (ix2 d s) =
    LaneScatter.lastHit (fun i => slot l q 8 i = s.val) (fun i => R i d) (posQueue0 m c d s) k
  | 0, _ => rfl
  | k + 1, hk => by
    have hs : slot l q 8 k < 65536 := by
      unfold slot
      have h1 := hl k
      have h2 := Nat.mod_lt (q (l k) + seen l k (l k)) (show 0 < 8 by norm_num)
      omega
    rw [show atK m (k + 1) c = trip (atK m k c) from rfl, trip_posQueue, trip_label m c l hL k (by omega),
      step_slot8 l q k (hl k) _ (posPtr_at m c l q hl hq hL hQ k (by omega)), tPutPos_at _ _ hs, ctr_word, tRow_at _ k (by omega),
      atK_of m c main_v117_0 (by decide), hR, posQueue_at d s k (by omega)]
    rfl

end Loop

end Cert.ReferenceIdeal.Value
-- ==== Proof.Value.AgreeQueues.lean ====
/-
  The queues and the pointers after the loop over the batch: kernel and reference end equal.
-/
module

public import proofs.«01_k».proof.Proof.Value.Agree
public import proofs.«01_k».proof.Proof.Value.ExitQueues
public import proofs.«01_k».proof.Proof.Value.RefLoop

@[expose] public section

set_option maxRecDepth 16384

noncomputable section

namespace Cert.ReferenceIdeal.Value

open Idealize.ShloMosaic Idealize.ShloMosaic.TcCoe Idealize.ShloMosaic.StableHlo Cert.ReferenceIdeal.Gen

variable (m : (ℓ : Loc nD τ sig) → Buf (Elt Ideal) ℓ) (c : Dev nD)

/-! ## What the loop starts from -/

theorem entry_v117_0 : entryContents preI m c (Proc.devRef .tc main_v117_0) = entryContents preI m c (Proc.devRef .tc main_v71) := by
  simp only [entryContents, afterL_cons, afterL_nil]
  after_reads_simp
  rfl

theorem entry_v117_1 : entryContents preI m c (Proc.devRef .tc main_v117_1) = m ((c.tc : Thread nD τ).loc main_arg3) := by
  simp only [entryContents, afterL_cons, afterL_nil]
  after_reads_simp
  rfl

theorem entry_v117_3 : entryContents preI m c (Proc.devRef .tc main_v117_3) = m ((c.tc : Thread nD τ).loc main_arg12) := by
  simp only [entryContents, afterL_cons, afterL_nil]
  after_reads_simp
  rfl

theorem entry_v117_4 : entryContents preI m c (Proc.devRef .tc main_v117_4) = m ((c.tc : Thread nD τ).loc main_arg14) := by
  simp only [entryContents, afterL_cons, afterL_nil]
  after_reads_simp
  rfl

theorem entry_v117_5 : entryContents preI m c (Proc.devRef .tc main_v117_5) = m ((c.tc : Thread nD τ).loc main_arg13) := by
  simp only [entryContents, afterL_cons, afterL_nil]
  after_reads_simp
  rfl

theorem entry_v117_6 : entryContents preI m c (Proc.devRef .tc main_v117_6) = m ((c.tc : Thread nD τ).loc main_arg15) := by
  simp only [entryContents, afterL_cons, afterL_nil]
  after_reads_simp
  rfl

end Cert.ReferenceIdeal.Value

namespace Cert.Agree

open Idealize.ShloMosaic Idealize.SL.Sem Idealize.ShloMosaic.TcCoe

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

section Range

variable [Cert.Pre_integers_in_range.Facts] (hp : Pre_KernelIdeal_integers_in_range m)

include hp in
theorem ring_lt (i : ℕ) : Cert.KernelIdeal.Gen.ringLabel m c i < 8192 := labels_k_in_range hp c _

include hp in
theorem neg_lt (i : ℕ) : Cert.KernelIdeal.Gen.negStart m c i < 4 := neg_ptr_in_range hp c _

include hp in
theorem pos_lt (i : ℕ) : Cert.KernelIdeal.Gen.posStart m c i < 8 := pos_ptr_in_range hp c _

end Range

theorem start_label (h : Agree m m' c) (b : Fin 1024) : StableHlo.entryContents Cert.ReferenceIdeal.Value.preI m' c (Proc.devRef .tc Cert.ReferenceIdeal.main_v117_1) (ix1 b) =
    BitVec.ofNat 32 (Cert.KernelIdeal.Gen.ringLabel m c b) := by
  obtain ⟨-, -, -, h3, -⟩ := h
  rw [Cert.ReferenceIdeal.Value.entry_v117_1, h3]
  exact Cert.KernelIdeal.Gen.arg3_word m c b

theorem start_neg (h : Agree m m' c) (k : Fin 8192) : StableHlo.entryContents Cert.ReferenceIdeal.Value.preI m' c (Proc.devRef .tc Cert.ReferenceIdeal.main_v117_4) (ix1 k) =
    BitVec.ofNat 32 (Cert.KernelIdeal.Gen.negStart m c k) := by
  obtain ⟨-, -, -, -, -, -, -, -, -, -, -, -, -, -, h14, -⟩ := h
  rw [Cert.ReferenceIdeal.Value.entry_v117_4, h14]
  exact Cert.KernelIdeal.Gen.arg14_word m c k

theorem start_pos (h : Agree m m' c) (k : Fin 8192) : StableHlo.entryContents Cert.ReferenceIdeal.Value.preI m' c (Proc.devRef .tc Cert.ReferenceIdeal.main_v117_6) (ix1 k) =
    BitVec.ofNat 32 (Cert.KernelIdeal.Gen.posStart m c k) := by
  obtain ⟨-, -, -, -, -, -, -, -, -, -, -, -, -, -, -, h15⟩ := h
  rw [Cert.ReferenceIdeal.Value.entry_v117_6, h15]
  exact Cert.KernelIdeal.Gen.arg15_word m c k

theorem start_row (h : Agree m m' c) (b : Fin 1024) (d : Fin 128) :
    StableHlo.entryContents Cert.ReferenceIdeal.Value.preI m' c (Proc.devRef .tc Cert.ReferenceIdeal.main_v117_0) (ix2 b d) = Cert.KernelIdeal.Gen.ringRow m c b d := by
  have e : (⟨b.val % 1024, Nat.mod_lt _ (by norm_num)⟩ : Fin 1024) = b := Fin.ext (Nat.mod_eq_of_lt b.isLt)
  unfold Cert.KernelIdeal.Gen.ringRow
  rw [Cert.ReferenceIdeal.Value.entry_v117_0, e]
  exact h.features_k b d

/-- The queue of negatives. -/
theorem result5 (h : Agree m m' c) (ρ : Dev Cert.KernelIdeal.nD → PrngReg) [Cert.Pre_integers_in_range.Facts] (hp : Pre_KernelIdeal_integers_in_range m) :
    Cert.KernelIdeal.Gen.W13 m ρ c (Proc.devRef .tc Cert.KernelIdeal.main_v30) = Cert.ReferenceIdeal.Value.final m' c Cert.ReferenceIdeal.main_v117_3 := by
  classical
  have hL := h.start_label
  have hN := h.start_neg
  have hR := h.start_row
  obtain ⟨-, -, -, -, -, -, -, -, -, -, -, -, h12, -⟩ := h
  suffices key : ∀ (d : Fin 128) (s : Fin 32768), Cert.KernelIdeal.Gen.W13 m ρ c (Proc.devRef .tc Cert.KernelIdeal.main_v30) (ix2 d s) =
      StableHlo.atTrip Cert.ReferenceIdeal.Value.condOps Cert.ReferenceIdeal.Value.bodyI (StableHlo.entryContents Cert.ReferenceIdeal.Value.preI m') 1024 c
        (Proc.devRef .tc Cert.ReferenceIdeal.main_v117_3) (ix2 d s) by
    rw [Cert.ReferenceIdeal.Value.final_atK m' c Cert.ReferenceIdeal.main_v117_3 (by decide)]
    funext i
    rw [eq_ix2 i]
    exact key (i 0) (i 1)
  intro d s
  have h0 : Cert.KernelIdeal.Gen.argNeg m c d s = Cert.ReferenceIdeal.Value.negQueue0 m' c d s := by
    unfold Cert.KernelIdeal.Gen.argNeg Cert.ReferenceIdeal.Value.negQueue0
    rw [Cert.ReferenceIdeal.Value.entry_v117_3, h12]
  rw [Cert.KernelIdeal.Gen.W13_v30 m ρ c (ring_lt hp) (neg_lt hp) d s, h0]
  exact (Cert.ReferenceIdeal.Value.negQueue_at m' c _ _ _ (ring_lt hp) (neg_lt hp) hL hN hR d s 1024 le_rfl).symm

/-- The queue of positives. -/
theorem result6 (h : Agree m m' c) (ρ : Dev Cert.KernelIdeal.nD → PrngReg) [Cert.Pre_integers_in_range.Facts] (hp : Pre_KernelIdeal_integers_in_range m) :
    Cert.KernelIdeal.Gen.W13 m ρ c (Proc.devRef .tc Cert.KernelIdeal.main_v31) = Cert.ReferenceIdeal.Value.final m' c Cert.ReferenceIdeal.main_v117_5 := by
  classical
  have hL := h.start_label
  have hQ := h.start_pos
  have hR := h.start_row
  obtain ⟨-, -, -, -, -, -, -, -, -, -, -, -, -, h13, -⟩ := h
  suffices key : ∀ (d : Fin 128) (s : Fin 65536), Cert.KernelIdeal.Gen.W13 m ρ c (Proc.devRef .tc Cert.KernelIdeal.main_v31) (ix2 d s) =
      StableHlo.atTrip Cert.ReferenceIdeal.Value.condOps Cert.ReferenceIdeal.Value.bodyI (StableHlo.entryContents Cert.ReferenceIdeal.Value.preI m') 1024 c
        (Proc.devRef .tc Cert.ReferenceIdeal.main_v117_5) (ix2 d s) by
    rw [Cert.ReferenceIdeal.Value.final_atK m' c Cert.ReferenceIdeal.main_v117_5 (by decide)]
    funext i
    rw [eq_ix2 i]
    exact key (i 0) (i 1)
  intro d s
  have h0 : Cert.KernelIdeal.Gen.argPos m c d s = Cert.ReferenceIdeal.Value.posQueue0 m' c d s := by
    unfold Cert.KernelIdeal.Gen.argPos Cert.ReferenceIdeal.Value.posQueue0
    rw [Cert.ReferenceIdeal.Value.entry_v117_5, h13]
  rw [Cert.KernelIdeal.Gen.W13_v31 m ρ c (ring_lt hp) (pos_lt hp) d s, h0]
  exact (Cert.ReferenceIdeal.Value.posQueue_at m' c _ _ _ (ring_lt hp) (pos_lt hp) hL hQ hR d s 1024 le_rfl).symm

/-- The negatives' pointers. -/
theorem result7 (h : Agree m m' c) (ρ : Dev Cert.KernelIdeal.nD → PrngReg) [Cert.Pre_integers_in_range.Facts] (hp : Pre_KernelIdeal_integers_in_range m) :
    Cert.KernelIdeal.Gen.W13 m ρ c (Proc.devRef .tc Cert.KernelIdeal.main_v32) = Cert.ReferenceIdeal.Value.final m' c Cert.ReferenceIdeal.main_v117_4 := by
  rw [Cert.ReferenceIdeal.Value.final_atK m' c Cert.ReferenceIdeal.main_v117_4 (by decide)]
  funext i
  rw [eq_ix1 i]
  exact (Cert.KernelIdeal.Gen.W13_v32 m ρ c (ring_lt hp) (i 0)).trans
    (Cert.ReferenceIdeal.Value.negPtr_at m' c _ _ (ring_lt hp) (neg_lt hp) h.start_label h.start_neg 1024 le_rfl (i 0)).symm

/-- The positives' pointers. -/
theorem result8 (h : Agree m m' c) (ρ : Dev Cert.KernelIdeal.nD → PrngReg) [Cert.Pre_integers_in_range.Facts] (hp : Pre_KernelIdeal_integers_in_range m) :
    Cert.KernelIdeal.Gen.W13 m ρ c (Proc.devRef .tc Cert.KernelIdeal.main_v33) = Cert.ReferenceIdeal.Value.final m' c Cert.ReferenceIdeal.main_v117_6 := by
  rw [Cert.ReferenceIdeal.Value.final_atK m' c Cert.ReferenceIdeal.main_v117_6 (by decide)]
  funext i
  rw [eq_ix1 i]
  exact (Cert.KernelIdeal.Gen.W13_v33 m ρ c (ring_lt hp) (i 0)).trans
    (Cert.ReferenceIdeal.Value.posPtr_at m' c _ _ (ring_lt hp) (pos_lt hp) h.start_label h.start_pos 1024 le_rfl (i 0)).symm

end Cert.Agree

end
-- ==== Proof.lean ====
module

public import proofs.«01_k».proof.Defs
public import proofs.«01_k».proof.Proof.Run.Bits
public import proofs.«01_k».proof.Proof.Value.RefRun
public import proofs.«01_k».proof.Proof.Value.Agree
public import proofs.«01_k».proof.Proof.Value.AgreeQueues
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

/-- The side conditions of the precondition's operations. -/
theorem pre_facts : Cert.Pre_integers_in_range.Facts := ⟨by decide, by decide, by decide⟩

/-- Kernel and reference end equal. -/
theorem algebraic [Cert.Pre_integers_in_range.Facts] : Cert.algebraic_KernelIdeal_ReferenceIdeal_pre_integers_in_range := by
  intro m g m' g' hpre hargs
  refine ⟨fun c => Cert.ReferenceIdeal.Value.final m' c Cert.ReferenceIdeal.main_v105, fun c => Cert.ReferenceIdeal.Value.final m' c Cert.ReferenceIdeal.main_v108, fun c => Cert.ReferenceIdeal.Value.final m' c Cert.ReferenceIdeal.main_v112, fun c => Cert.ReferenceIdeal.Value.final m' c Cert.ReferenceIdeal.main_v116, fun c => Cert.ReferenceIdeal.Value.final m' c Cert.ReferenceIdeal.main_v117_3, fun c => Cert.ReferenceIdeal.Value.final m' c Cert.ReferenceIdeal.main_v117_5, fun c => Cert.ReferenceIdeal.Value.final m' c Cert.ReferenceIdeal.main_v117_4, fun c => Cert.ReferenceIdeal.Value.final m' c Cert.ReferenceIdeal.main_v117_6, ?_, ?_⟩
  · refine (θ_run Cert.KernelIdeal.defs _ _).mono (fun r hs c => ?_) (Cert.KernelIdeal.Gen.run m g)
    have h := hs.1 c
    have ha : Cert.Agree m m' c := hargs c
    have h1 : r.2.mem ((c.tc : Thread _ Cert.KernelIdeal.τ).loc Cert.KernelIdeal.main_v29_0) = Cert.ReferenceIdeal.Value.final m' c Cert.ReferenceIdeal.main_v105 :=
      (h _ (Cert.KernelIdeal.Gen.mem_uc Cert.KernelIdeal.main_v29_0 (by decide))).trans (ha.result1 g hpre)
    have h2 : r.2.mem ((c.tc : Thread _ Cert.KernelIdeal.τ).loc Cert.KernelIdeal.main_v29_1) = Cert.ReferenceIdeal.Value.final m' c Cert.ReferenceIdeal.main_v108 :=
      (h _ (Cert.KernelIdeal.Gen.mem_uc Cert.KernelIdeal.main_v29_1 (by decide))).trans (ha.result2 g hpre)
    have h3 : r.2.mem ((c.tc : Thread _ Cert.KernelIdeal.τ).loc Cert.KernelIdeal.main_v18_0) = Cert.ReferenceIdeal.Value.final m' c Cert.ReferenceIdeal.main_v112 :=
      (h _ (Cert.KernelIdeal.Gen.mem_uc Cert.KernelIdeal.main_v18_0 (by decide))).trans (ha.result3 g hpre)
    have h4 : r.2.mem ((c.tc : Thread _ Cert.KernelIdeal.τ).loc Cert.KernelIdeal.main_v18_1) = Cert.ReferenceIdeal.Value.final m' c Cert.ReferenceIdeal.main_v116 :=
      (h _ (Cert.KernelIdeal.Gen.mem_uc Cert.KernelIdeal.main_v18_1 (by decide))).trans (ha.result4 g hpre)
    have h5 : r.2.mem ((c.tc : Thread _ Cert.KernelIdeal.τ).loc Cert.KernelIdeal.main_v30) = Cert.ReferenceIdeal.Value.final m' c Cert.ReferenceIdeal.main_v117_3 :=
      (h _ (Cert.KernelIdeal.Gen.mem_uc Cert.KernelIdeal.main_v30 (by decide))).trans (ha.result5 g hpre)
    have h6 : r.2.mem ((c.tc : Thread _ Cert.KernelIdeal.τ).loc Cert.KernelIdeal.main_v31) = Cert.ReferenceIdeal.Value.final m' c Cert.ReferenceIdeal.main_v117_5 :=
      (h _ (Cert.KernelIdeal.Gen.mem_uc Cert.KernelIdeal.main_v31 (by decide))).trans (ha.result6 g hpre)
    have h7 : r.2.mem ((c.tc : Thread _ Cert.KernelIdeal.τ).loc Cert.KernelIdeal.main_v32) = Cert.ReferenceIdeal.Value.final m' c Cert.ReferenceIdeal.main_v117_4 :=
      (h _ (Cert.KernelIdeal.Gen.mem_uc Cert.KernelIdeal.main_v32 (by decide))).trans (ha.result7 g hpre)
    have h8 : r.2.mem ((c.tc : Thread _ Cert.KernelIdeal.τ).loc Cert.KernelIdeal.main_v33) = Cert.ReferenceIdeal.Value.final m' c Cert.ReferenceIdeal.main_v117_6 :=
      (h _ (Cert.KernelIdeal.Gen.mem_uc Cert.KernelIdeal.main_v33 (by decide))).trans (ha.result8 g hpre)
    exact ⟨h1,
      h2,
      h3,
      h4,
      h5,
      h6,
      h7,
      h8,
      (h _ (Cert.KernelIdeal.Gen.mem_uc Cert.KernelIdeal.main_arg0 (by decide))).trans (Cert.KernelIdeal.Gen.W13_main_arg0 m g c),
      (h _ (Cert.KernelIdeal.Gen.mem_uc Cert.KernelIdeal.main_arg1 (by decide))).trans (Cert.KernelIdeal.Gen.W13_main_arg1 m g c),
      (h _ (Cert.KernelIdeal.Gen.mem_uc Cert.KernelIdeal.main_arg2 (by decide))).trans (Cert.KernelIdeal.Gen.W13_main_arg2 m g c),
      (h _ (Cert.KernelIdeal.Gen.mem_uc Cert.KernelIdeal.main_arg3 (by decide))).trans (Cert.KernelIdeal.Gen.W13_main_arg3 m g c),
      (h _ (Cert.KernelIdeal.Gen.mem_uc Cert.KernelIdeal.main_arg4 (by decide))).trans (Cert.KernelIdeal.Gen.W13_main_arg4 m g c),
      (h _ (Cert.KernelIdeal.Gen.mem_uc Cert.KernelIdeal.main_arg5 (by decide))).trans (Cert.KernelIdeal.Gen.W13_main_arg5 m g c),
      (h _ (Cert.KernelIdeal.Gen.mem_uc Cert.KernelIdeal.main_arg6 (by decide))).trans (Cert.KernelIdeal.Gen.W13_main_arg6 m g c),
      (h _ (Cert.KernelIdeal.Gen.mem_uc Cert.KernelIdeal.main_arg7 (by decide))).trans (Cert.KernelIdeal.Gen.W13_main_arg7 m g c),
      (h _ (Cert.KernelIdeal.Gen.mem_uc Cert.KernelIdeal.main_arg8 (by decide))).trans (Cert.KernelIdeal.Gen.W13_main_arg8 m g c),
      (h _ (Cert.KernelIdeal.Gen.mem_uc Cert.KernelIdeal.main_arg9 (by decide))).trans (Cert.KernelIdeal.Gen.W13_main_arg9 m g c),
      (h _ (Cert.KernelIdeal.Gen.mem_uc Cert.KernelIdeal.main_arg10 (by decide))).trans (Cert.KernelIdeal.Gen.W13_main_arg10 m g c),
      (h _ (Cert.KernelIdeal.Gen.mem_uc Cert.KernelIdeal.main_arg11 (by decide))).trans (Cert.KernelIdeal.Gen.W13_main_arg11 m g c),
      (h _ (Cert.KernelIdeal.Gen.mem_uc Cert.KernelIdeal.main_arg12 (by decide))).trans (Cert.KernelIdeal.Gen.W13_main_arg12 m g c),
      (h _ (Cert.KernelIdeal.Gen.mem_uc Cert.KernelIdeal.main_arg13 (by decide))).trans (Cert.KernelIdeal.Gen.W13_main_arg13 m g c),
      (h _ (Cert.KernelIdeal.Gen.mem_uc Cert.KernelIdeal.main_arg14 (by decide))).trans (Cert.KernelIdeal.Gen.W13_main_arg14 m g c),
      (h _ (Cert.KernelIdeal.Gen.mem_uc Cert.KernelIdeal.main_arg15 (by decide))).trans (Cert.KernelIdeal.Gen.W13_main_arg15 m g c)⟩
  · refine (θ_run Cert.ReferenceIdeal.defs _ _).mono (fun r hs c => ?_) (Cert.ReferenceIdeal.Value.run (F := Ideal) m' g')
    exact ⟨hs.1 c Cert.ReferenceIdeal.main_v105 (by decide),
      hs.1 c Cert.ReferenceIdeal.main_v108 (by decide),
      hs.1 c Cert.ReferenceIdeal.main_v112 (by decide),
      hs.1 c Cert.ReferenceIdeal.main_v116 (by decide),
      hs.1 c Cert.ReferenceIdeal.main_v117_3 (by decide),
      hs.1 c Cert.ReferenceIdeal.main_v117_5 (by decide),
      hs.1 c Cert.ReferenceIdeal.main_v117_4 (by decide),
      hs.1 c Cert.ReferenceIdeal.main_v117_6 (by decide),
      (hs.1 c Cert.ReferenceIdeal.main_arg0 (by decide)).trans (Cert.ReferenceIdeal.Value.final_arg m' c Cert.ReferenceIdeal.main_arg0 (by decide) (by decide)),
      (hs.1 c Cert.ReferenceIdeal.main_arg1 (by decide)).trans (Cert.ReferenceIdeal.Value.final_arg m' c Cert.ReferenceIdeal.main_arg1 (by decide) (by decide)),
      (hs.1 c Cert.ReferenceIdeal.main_arg2 (by decide)).trans (Cert.ReferenceIdeal.Value.final_arg m' c Cert.ReferenceIdeal.main_arg2 (by decide) (by decide)),
      (hs.1 c Cert.ReferenceIdeal.main_arg3 (by decide)).trans (Cert.ReferenceIdeal.Value.final_arg m' c Cert.ReferenceIdeal.main_arg3 (by decide) (by decide)),
      (hs.1 c Cert.ReferenceIdeal.main_arg4 (by decide)).trans (Cert.ReferenceIdeal.Value.final_arg m' c Cert.ReferenceIdeal.main_arg4 (by decide) (by decide)),
      (hs.1 c Cert.ReferenceIdeal.main_arg5 (by decide)).trans (Cert.ReferenceIdeal.Value.final_arg m' c Cert.ReferenceIdeal.main_arg5 (by decide) (by decide)),
      (hs.1 c Cert.ReferenceIdeal.main_arg6 (by decide)).trans (Cert.ReferenceIdeal.Value.final_arg m' c Cert.ReferenceIdeal.main_arg6 (by decide) (by decide)),
      (hs.1 c Cert.ReferenceIdeal.main_arg7 (by decide)).trans (Cert.ReferenceIdeal.Value.final_arg m' c Cert.ReferenceIdeal.main_arg7 (by decide) (by decide)),
      (hs.1 c Cert.ReferenceIdeal.main_arg8 (by decide)).trans (Cert.ReferenceIdeal.Value.final_arg m' c Cert.ReferenceIdeal.main_arg8 (by decide) (by decide)),
      (hs.1 c Cert.ReferenceIdeal.main_arg9 (by decide)).trans (Cert.ReferenceIdeal.Value.final_arg m' c Cert.ReferenceIdeal.main_arg9 (by decide) (by decide)),
      (hs.1 c Cert.ReferenceIdeal.main_arg10 (by decide)).trans (Cert.ReferenceIdeal.Value.final_arg m' c Cert.ReferenceIdeal.main_arg10 (by decide) (by decide)),
      (hs.1 c Cert.ReferenceIdeal.main_arg11 (by decide)).trans (Cert.ReferenceIdeal.Value.final_arg m' c Cert.ReferenceIdeal.main_arg11 (by decide) (by decide)),
      (hs.1 c Cert.ReferenceIdeal.main_arg12 (by decide)).trans (Cert.ReferenceIdeal.Value.final_arg m' c Cert.ReferenceIdeal.main_arg12 (by decide) (by decide)),
      (hs.1 c Cert.ReferenceIdeal.main_arg13 (by decide)).trans (Cert.ReferenceIdeal.Value.final_arg m' c Cert.ReferenceIdeal.main_arg13 (by decide) (by decide)),
      (hs.1 c Cert.ReferenceIdeal.main_arg14 (by decide)).trans (Cert.ReferenceIdeal.Value.final_arg m' c Cert.ReferenceIdeal.main_arg14 (by decide) (by decide)),
      (hs.1 c Cert.ReferenceIdeal.main_arg15 (by decide)).trans (Cert.ReferenceIdeal.Value.final_arg m' c Cert.ReferenceIdeal.main_arg15 (by decide) (by decide))⟩

/-- The certificate's claim. -/
theorem claim : Cert.Claim := by
  refine ⟨Cert.Kernel.Gen.facts, Cert.KernelIdeal.Gen.facts, Cert.ReferenceIdeal.Gen.facts, pre_facts, ?_⟩
  haveI := pre_facts
  exact ⟨fun m g _ => Cert.Kernel.Gen.framed Bits m g, fun m g _ => Cert.KernelIdeal.Gen.framed Ideal m g, fun m g _ => Cert.KernelIdeal.Gen.framed Ideal m g,
    frame_ReferenceIdeal, fun m g _ => frame_ReferenceIdeal m g trivial, trivial, algebraic⟩

end Cert.Proof

end
